-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_ff [hPre_finite_ff : Cert.Pre_finite_ff.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_ff.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8))).1 = (fun _ => 1#1)
    ∧ (Cert.Pre_finite_ff.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8))).2.1 = (fun _ => 1#1)
    ∧ (Cert.Pre_finite_ff.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8))).2.2.1 = (fun _ => 1#1)
    ∧ (Cert.Pre_finite_ff.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8))).2.2.2.1 = (fun _ => 1#1)
    ∧ (Cert.Pre_finite_ff.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8))).2.2.2.2.1 = (fun _ => 1#1)
    ∧ (Cert.Pre_finite_ff.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8))).2.2.2.2.2.1 = (fun _ => 1#1)
    ∧ (Cert.Pre_finite_ff.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8))).2.2.2.2.2.2.1 = (fun _ => 1#1)
    ∧ (Cert.Pre_finite_ff.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8))).2.2.2.2.2.2.2.1 = (fun _ => 1#1)
    ∧ (Cert.Pre_finite_ff.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8))).2.2.2.2.2.2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_ff [hPre_finite_ff : Cert.Pre_finite_ff.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_ff.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8))).1 = (fun _ => 1#1)
    ∧ (Cert.Pre_finite_ff.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8))).2.1 = (fun _ => 1#1)
    ∧ (Cert.Pre_finite_ff.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8))).2.2.1 = (fun _ => 1#1)
    ∧ (Cert.Pre_finite_ff.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8))).2.2.2.1 = (fun _ => 1#1)
    ∧ (Cert.Pre_finite_ff.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8))).2.2.2.2.1 = (fun _ => 1#1)
    ∧ (Cert.Pre_finite_ff.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8))).2.2.2.2.2.1 = (fun _ => 1#1)
    ∧ (Cert.Pre_finite_ff.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8))).2.2.2.2.2.2.1 = (fun _ => 1#1)
    ∧ (Cert.Pre_finite_ff.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8))).2.2.2.2.2.2.2.1 = (fun _ => 1#1)
    ∧ (Cert.Pre_finite_ff.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8))).2.2.2.2.2.2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Kernel9Ideal_pre_finite_ff [hKernel9Ideal : Cert.Kernel9Ideal.Facts] [hPre_finite_ff : Cert.Pre_finite_ff.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_ff m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def quiescent_Reference9Ideal_pre_finite_ff [hReference9Ideal : Cert.Reference9Ideal.Facts] [hPre_finite_ff : Cert.Pre_finite_ff.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_ff m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v48_0)) (v1 : (c : Dev Cert.KernelIdeal.nD) → Buf (Elt Ideal) ((c.tc : Thread Cert.KernelIdeal.nD Cert.KernelIdeal.τ).loc Cert.KernelIdeal.main_v48_1)) (v2 : (c : Dev Cert.KernelIdeal.nD) → Buf (Elt Ideal) ((c.tc : Thread Cert.KernelIdeal.nD Cert.KernelIdeal.τ).loc Cert.KernelIdeal.main_v48_2)) (v3 : (c : Dev Cert.KernelIdeal.nD) → Buf (Elt Ideal) ((c.tc : Thread Cert.KernelIdeal.nD Cert.KernelIdeal.τ).loc Cert.KernelIdeal.main_v48_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_v48_1) = v1 c
          ∧ r.2.mem ((c.tc : Thread Cert.KernelIdeal.nD Cert.KernelIdeal.τ).loc Cert.KernelIdeal.main_v48_2) = v2 c
          ∧ r.2.mem ((c.tc : Thread Cert.KernelIdeal.nD Cert.KernelIdeal.τ).loc Cert.KernelIdeal.main_v48_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_v104) = v2 c
          ∧ r.2.mem ((c.tc : Thread Cert.ReferenceIdeal.nD Cert.ReferenceIdeal.τ).loc Cert.ReferenceIdeal.main_v106) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal_pre_finite_ff [hKernel9Ideal : Cert.Kernel9Ideal.Facts] [hReference9Ideal : Cert.Reference9Ideal.Facts] [hPre_finite_ff : Cert.Pre_finite_ff.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_ff m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v7_0)) (v1 : (c : Dev Cert.Kernel9Ideal.nD) → Buf (Elt Ideal) ((c.tc : Thread Cert.Kernel9Ideal.nD Cert.Kernel9Ideal.τ).loc Cert.Kernel9Ideal.main_v7_1)) (v2 : (c : Dev Cert.Kernel9Ideal.nD) → Buf (Elt Ideal) ((c.tc : Thread Cert.Kernel9Ideal.nD Cert.Kernel9Ideal.τ).loc Cert.Kernel9Ideal.main_v7_2)) (v3 : (c : Dev Cert.Kernel9Ideal.nD) → Buf (Elt Ideal) ((c.tc : Thread Cert.Kernel9Ideal.nD Cert.Kernel9Ideal.τ).loc Cert.Kernel9Ideal.main_v7_3)) (v4 : (c : Dev Cert.Kernel9Ideal.nD) → Buf (Elt Ideal) ((c.tc : Thread Cert.Kernel9Ideal.nD Cert.Kernel9Ideal.τ).loc Cert.Kernel9Ideal.main_v7_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7_0) = v0 c
          ∧ r.2.mem ((c.tc : Thread Cert.Kernel9Ideal.nD Cert.Kernel9Ideal.τ).loc Cert.Kernel9Ideal.main_v7_1) = v1 c
          ∧ r.2.mem ((c.tc : Thread Cert.Kernel9Ideal.nD Cert.Kernel9Ideal.τ).loc Cert.Kernel9Ideal.main_v7_2) = v2 c
          ∧ r.2.mem ((c.tc : Thread Cert.Kernel9Ideal.nD Cert.Kernel9Ideal.τ).loc Cert.Kernel9Ideal.main_v7_3) = v3 c
          ∧ r.2.mem ((c.tc : Thread Cert.Kernel9Ideal.nD Cert.Kernel9Ideal.τ).loc Cert.Kernel9Ideal.main_v7_4) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v99) = v0 c
          ∧ r.2.mem ((c.tc : Thread Cert.Reference9Ideal.nD Cert.Reference9Ideal.τ).loc Cert.Reference9Ideal.main_v100) = v1 c
          ∧ r.2.mem ((c.tc : Thread Cert.Reference9Ideal.nD Cert.Reference9Ideal.τ).loc Cert.Reference9Ideal.main_v101) = v2 c
          ∧ r.2.mem ((c.tc : Thread Cert.Reference9Ideal.nD Cert.Reference9Ideal.τ).loc Cert.Reference9Ideal.main_v96) = v3 c
          ∧ r.2.mem ((c.tc : Thread Cert.Reference9Ideal.nD Cert.Reference9Ideal.τ).loc Cert.Reference9Ideal.main_v102) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v7_0)) (v1 : (c : Dev Cert.Kernel10Ideal.nD) → Buf (Elt Ideal) ((c.tc : Thread Cert.Kernel10Ideal.nD Cert.Kernel10Ideal.τ).loc Cert.Kernel10Ideal.main_v7_1)) (v2 : (c : Dev Cert.Kernel10Ideal.nD) → Buf (Elt Ideal) ((c.tc : Thread Cert.Kernel10Ideal.nD Cert.Kernel10Ideal.τ).loc Cert.Kernel10Ideal.main_v7_2)) (v3 : (c : Dev Cert.Kernel10Ideal.nD) → Buf (Elt Ideal) ((c.tc : Thread Cert.Kernel10Ideal.nD Cert.Kernel10Ideal.τ).loc Cert.Kernel10Ideal.main_v7_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7_0) = v0 c
          ∧ r.2.mem ((c.tc : Thread Cert.Kernel10Ideal.nD Cert.Kernel10Ideal.τ).loc Cert.Kernel10Ideal.main_v7_1) = v1 c
          ∧ r.2.mem ((c.tc : Thread Cert.Kernel10Ideal.nD Cert.Kernel10Ideal.τ).loc Cert.Kernel10Ideal.main_v7_2) = v2 c
          ∧ r.2.mem ((c.tc : Thread Cert.Kernel10Ideal.nD Cert.Kernel10Ideal.τ).loc Cert.Kernel10Ideal.main_v7_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_v9) = v1 c
          ∧ r.2.mem ((c.tc : Thread Cert.Reference10Ideal.nD Cert.Reference10Ideal.τ).loc Cert.Reference10Ideal.main_v11) = v2 c
          ∧ r.2.mem ((c.tc : Thread Cert.Reference10Ideal.nD Cert.Reference10Ideal.τ).loc Cert.Reference10Ideal.main_v12) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)) →
    ∃ (v0 : (c : Dev Cert.Kernel11Ideal.nD) → Buf (Elt Ideal) ((c.tc : Thread Cert.Kernel11Ideal.nD Cert.Kernel11Ideal.τ).loc Cert.Kernel11Ideal.main_v9_0)) (v1 : (c : Dev Cert.Kernel11Ideal.nD) → Buf (Elt Ideal) ((c.tc : Thread Cert.Kernel11Ideal.nD Cert.Kernel11Ideal.τ).loc Cert.Kernel11Ideal.main_v9_1)) (v2 : (c : Dev Cert.Kernel11Ideal.nD) → Buf (Elt Ideal) ((c.tc : Thread Cert.Kernel11Ideal.nD Cert.Kernel11Ideal.τ).loc Cert.Kernel11Ideal.main_v9_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v9_0) = v0 c
          ∧ r.2.mem ((c.tc : Thread Cert.Kernel11Ideal.nD Cert.Kernel11Ideal.τ).loc Cert.Kernel11Ideal.main_v9_1) = v1 c
          ∧ r.2.mem ((c.tc : Thread Cert.Kernel11Ideal.nD Cert.Kernel11Ideal.τ).loc Cert.Kernel11Ideal.main_v9_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v21) = v1 c
          ∧ r.2.mem ((c.tc : Thread Cert.Reference11Ideal.nD Cert.Reference11Ideal.τ).loc Cert.Reference11Ideal.main_v25) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)) →
    ∃ (v0 : (c : Dev Cert.Kernel12Ideal.nD) → Buf (Elt Ideal) ((c.tc : Thread Cert.Kernel12Ideal.nD Cert.Kernel12Ideal.τ).loc Cert.Kernel12Ideal.main_v6_0)) (v1 : (c : Dev Cert.Kernel12Ideal.nD) → Buf (Elt Ideal) ((c.tc : Thread Cert.Kernel12Ideal.nD Cert.Kernel12Ideal.τ).loc Cert.Kernel12Ideal.main_v6_1)) (v2 : (c : Dev Cert.Kernel12Ideal.nD) → Buf (Elt Ideal) ((c.tc : Thread Cert.Kernel12Ideal.nD Cert.Kernel12Ideal.τ).loc Cert.Kernel12Ideal.main_v6_2)) (v3 : (c : Dev Cert.Kernel12Ideal.nD) → Buf (Elt Ideal) ((c.tc : Thread Cert.Kernel12Ideal.nD Cert.Kernel12Ideal.τ).loc Cert.Kernel12Ideal.main_v6_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v6_0) = v0 c
          ∧ r.2.mem ((c.tc : Thread Cert.Kernel12Ideal.nD Cert.Kernel12Ideal.τ).loc Cert.Kernel12Ideal.main_v6_1) = v1 c
          ∧ r.2.mem ((c.tc : Thread Cert.Kernel12Ideal.nD Cert.Kernel12Ideal.τ).loc Cert.Kernel12Ideal.main_v6_2) = v2 c
          ∧ r.2.mem ((c.tc : Thread Cert.Kernel12Ideal.nD Cert.Kernel12Ideal.τ).loc Cert.Kernel12Ideal.main_v6_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v33) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v32) = v2 c
          ∧ r.2.mem ((c.tc : Thread Cert.Reference12Ideal.nD Cert.Reference12Ideal.τ).loc Cert.Reference12Ideal.main_v55) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_finite_ff : Cert.Pre_finite_ff.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite_ff (hKernel9Ideal := hKernel9Ideal) (hPre_finite_ff := hPre_finite_ff)
    ∧ quiescent_Reference9Ideal (hReference9Ideal := hReference9Ideal)
    ∧ quiescent_Reference9Ideal_pre_finite_ff (hReference9Ideal := hReference9Ideal) (hPre_finite_ff := hPre_finite_ff)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite_ff (hKernel9Ideal := hKernel9Ideal) (hReference9Ideal := hReference9Ideal) (hPre_finite_ff := hPre_finite_ff)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x4096 : S_.BroadcastsInDim S1024x4096 (![] : Fin 0 → Fin S1024x4096.rank)
  bcast_S_S4096x1024 : S_.BroadcastsInDim S4096x1024 (![] : Fin 0 → Fin S4096x1024.rank)

variable [Facts]

def fn_part1 {F : FTy → Type} [FloatOps F] (main_arg6 : FVec F S1x1024 .f32) (main_arg7 : FVec F S1024x4096 .f32) (main_arg8 : FVec F S4096x1024 .f32) (main_arg9 : FVec F S8192x1024 .f32) (main_arg10 : FVec F S8192x1024 .f32) (main_v2 : IVec S8192x1024 1) (main_v5 : IVec S8192x1024 1) (main_v8 : IVec S1x1024 1) (main_v11 : IVec S1x1024 1) (main_v14 : IVec S1x1024 1) (main_v17 : IVec S1x1024 1) : IVec S8192x1024 1 × IVec S8192x1024 1 × IVec S1x1024 1 × IVec S1x1024 1 × IVec S1x1024 1 × IVec S1x1024 1 × IVec S1x1024 1 × IVec S1024x4096 1 × IVec S4096x1024 1 × IVec S8192x1024 1 × IVec S8192x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S1024x4096 .f32 := Host.absf main_arg7
  let main_cst_6 : FVec F S_ .f32 := constant S_ .f32 0x7F800000#32
  let main_v22 : FVec F S1024x4096 .f32 := broadcastInDim S1024x4096 ![] bcast_S_S1024x4096 main_cst_6
  let main_v23 : IVec S1024x4096 1 := cmpf .olt main_v21 main_v22
  let main_v24 : FVec F S4096x1024 .f32 := Host.absf main_arg8
  let main_cst_7 : FVec F S_ .f32 := constant S_ .f32 0x7F800000#32
  let main_v25 : FVec F S4096x1024 .f32 := broadcastInDim S4096x1024 ![] bcast_S_S4096x1024 main_cst_7
  let main_v26 : IVec S4096x1024 1 := cmpf .olt main_v24 main_v25
  let main_v27 : FVec F S8192x1024 .f32 := Host.absf main_arg9
  let main_cst_8 : FVec F S_ .f32 := constant S_ .f32 0x7F800000#32
  let main_v28 : FVec F S8192x1024 .f32 := broadcastInDim S8192x1024 ![] bcast_S_S8192x1024 main_cst_8
  let main_v29 : IVec S8192x1024 1 := cmpf .olt main_v27 main_v28
  let main_v30 : FVec F S8192x1024 .f32 := Host.absf main_arg10
  let main_cst_9 : FVec F S_ .f32 := constant S_ .f32 0x7F800000#32
  let main_v31 : FVec F S8192x1024 .f32 := broadcastInDim S8192x1024 ![] bcast_S_S8192x1024 main_cst_9
  let main_v32 : IVec S8192x1024 1 := cmpf .olt main_v30 main_v31
  (main_v2, main_v5, main_v8, main_v11, main_v14, main_v17, main_v20, main_v23, main_v26, main_v29, main_v32)

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S1x1024 .f32) (main_arg5 : FVec F S1x1024 .f32) (main_arg6 : FVec F S1x1024 .f32) (main_arg7 : FVec F S1024x4096 .f32) (main_arg8 : FVec F S4096x1024 .f32) (main_arg9 : FVec F S8192x1024 .f32) (main_arg10 : FVec F S8192x1024 .f32) : IVec S8192x1024 1 × IVec S8192x1024 1 × IVec S1x1024 1 × IVec S1x1024 1 × IVec S1x1024 1 × IVec S1x1024 1 × IVec S1x1024 1 × IVec S1024x4096 1 × IVec S4096x1024 1 × IVec S8192x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_arg8 main_arg9 main_arg10 main_v2 main_v5 main_v8 main_v11 main_v14 main_v17
-- ==== Pre_finite_ff.lean ====
abbrev S8192x1024 : Shape := ⟨2, ![8192, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S1024x4096 : S_.BroadcastsInDim S1024x4096 (![] : Fin 0 → Fin S1024x4096.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn_part1 {F : FTy → Type} [FloatOps F] (main_arg6 : FVec F S1x1024 .f32) (main_arg7 : FVec F S1x1024 .f32) (main_arg8 : FVec F S1x1024 .f32) (main_v2 : IVec S8192x1024 1) (main_v5 : IVec S8192x1024 1) (main_v8 : IVec S1024x4096 1) (main_v11 : IVec S4096x1024 1) (main_v14 : IVec S1x1024 1) (main_v17 : IVec S1x1024 1) : IVec S8192x1024 1 × IVec S8192x1024 1 × IVec S1024x4096 1 × IVec S4096x1024 1 × IVec S1x1024 1 × IVec S1x1024 1 × IVec S1x1024 1 × IVec S1x1024 1 × IVec S1x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S1x1024 .f32 := Host.absf main_arg7
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_v24 : FVec F S1x1024 .f32 := Host.absf main_arg8
  let main_cst_7 : FVec F S_ .f32 := constant S_ .f32 0x7F800000#32
  let main_v25 : FVec F S1x1024 .f32 := broadcastInDim S1x1024 ![] bcast_S_S1x1024 main_cst_7
  let main_v26 : IVec S1x1024 1 := cmpf .olt main_v24 main_v25
  (main_v2, main_v5, main_v8, main_v11, main_v14, main_v17, main_v20, main_v23, main_v26)

def fn {F : FTy → Type} [FloatOps F] (main_arg0 : FVec F S8192x1024 .f32) (main_arg1 : FVec F S8192x1024 .f32) (main_arg2 : FVec F S1024x4096 .f32) (main_arg3 : FVec F S4096x1024 .f32) (main_arg4 : FVec F S1x1024 .f32) (main_arg5 : FVec F S1x1024 .f32) (main_arg6 : FVec F S1x1024 .f32) (main_arg7 : FVec F S1x1024 .f32) (main_arg8 : FVec F S1x1024 .f32) : IVec S8192x1024 1 × IVec S8192x1024 1 × IVec S1024x4096 1 × IVec S4096x1024 1 × IVec S1x1024 1 × IVec S1x1024 1 × IVec S1x1024 1 × IVec S1x1024 1 × IVec S1x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_arg8 main_v2 main_v5 main_v8 main_v11 main_v14 main_v17
-- ==== Kernel.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S8x1024 : Shape := ⟨2, ![8, 1024]⟩
abbrev S2x1024 : Shape := ⟨2, ![2, 1024]⟩
abbrev S1024x8x512 : Shape := ⟨3, ![1024, 8, 512]⟩
abbrev S8x1024x512 : Shape := ⟨3, ![8, 1024, 512]⟩
abbrev S256x1024 : Shape := ⟨2, ![256, 1024]⟩
abbrev S256x4096 : Shape := ⟨2, ![256, 4096]⟩
abbrev S512x1024 : Shape := ⟨2, ![512, 1024]⟩
abbrev S256x512 : Shape := ⟨2, ![256, 512]⟩
abbrev S1x1024x512 : Shape := ⟨3, ![1, 1024, 512]⟩
abbrev S1024x512 : Shape := ⟨2, ![1024, 512]⟩
abbrev S256 : Shape := ⟨1, ![256]⟩
abbrev S256x1 : Shape := ⟨2, ![256, 1]⟩
abbrev S1024 : Shape := ⟨1, ![1024]⟩

abbrev nBuf : Space → Nat
  | .hbm => 76
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x4096, .f32⟩
  | .hbm, ⟨8, _⟩ => ⟨S4096x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1x1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x4096, .f32⟩
  | .hbm, ⟨55, _⟩ => ⟨S_, .f32⟩
  | .hbm, ⟨56, _⟩ => ⟨S8192x4096, .f32⟩
  | .hbm, ⟨57, _⟩ => ⟨S8192x4096, .f32⟩
  | .hbm, ⟨58, _⟩ => ⟨S8192x4096, .f32⟩
  | .hbm, ⟨59, _⟩ => ⟨S8192x4096, .bf16⟩
  | .hbm, ⟨60, _⟩ => ⟨S_, .f32⟩
  | .hbm, ⟨61, _⟩ => ⟨S1x1024, .f32⟩
  | .hbm, ⟨62, _⟩ => ⟨S8x1024, .f32⟩
  | .hbm, ⟨63, _⟩ => ⟨S2x1024, .f32⟩
  | .hbm, ⟨64, _⟩ => ⟨S_, .i32⟩
  | .hbm, ⟨65, _⟩ => ⟨S_, .f32⟩
  | .hbm, ⟨66, _⟩ => ⟨S8x1024, .f32⟩
  | .hbm, ⟨67, _⟩ => ⟨S1024x8x512, .f32⟩
  | .hbm, ⟨68, _⟩ => ⟨S8x1024x512, .f32⟩
  | .hbm, ⟨69, _⟩ => ⟨S8x1024x512, .bf16⟩
  | .hbm, ⟨70, _⟩ => ⟨S8192x1024, .bf16⟩
  | .hbm, ⟨71, _⟩ => ⟨S4096x1024, .bf16⟩
  | .hbm, ⟨72, _⟩ => ⟨S8192x4096, .bf16⟩
  | .hbm, ⟨73, _⟩ => ⟨S8192x1024, .f32⟩
  | .hbm, ⟨74, _⟩ => ⟨S8192x1024, .bf16⟩
  | .hbm, ⟨75, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S256x4096, .bf16⟩
  | .local _ .vmem, ⟨3, _⟩ => ⟨S256x4096, .bf16⟩
  | .local _ .vmem, ⟨4, _⟩ => ⟨S8x1024x512, .bf16⟩
  | .local _ .vmem, ⟨5, _⟩ => ⟨S4096x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S8x1024, .f32⟩
  | .local _ .vmem, ⟨15, _⟩ => ⟨S8x1024, .f32⟩
  | .local _ .vmem, ⟨16, _⟩ => ⟨S256x4096, .bf16⟩
  | .local _ .vmem, ⟨17, _⟩ => ⟨S256x4096, .bf16⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call0_cst : Ref sig .tc := ⟨.hbm, 55, rfl⟩
abbrev main_call0_v0 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c : Ref sig .tc := ⟨.hbm, 64, rfl⟩
abbrev main_call1_v0 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48_0 : Ref sig .tc := ⟨.hbm, 72, rfl⟩
abbrev main_v48_1 : Ref sig .tc := ⟨.hbm, 73, rfl⟩
abbrev main_v48_2 : Ref sig .tc := ⟨.hbm, 74, rfl⟩
abbrev main_v48_3 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 150
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1024x4096, .f32⟩
  | 8 => ⟨S4096x1024, .f32⟩
  | 9 => ⟨S8192x1024, .f32⟩
  | 10 => ⟨S8192x1024, .f32⟩
  | 11 => ⟨S_, .f32⟩
  | 12 => ⟨S8192x4096, .f32⟩
  | 13 => ⟨S_, .f32⟩
  | 14 => ⟨S8192x1024, .f32⟩
  | 15 => ⟨S8192x1024, .f32⟩
  | 16 => ⟨S_, .f32⟩
  | 17 => ⟨S1x1024, .f32⟩
  | 18 => ⟨S1x1024, .f32⟩
  | 19 => ⟨S8192x1024, .f32⟩
  | 20 => ⟨S8192x1024, .f32⟩
  | 21 => ⟨S8192x1024, .f32⟩
  | 22 => ⟨S_, .f32⟩
  | 23 => ⟨S8192, .f32⟩
  | 24 => ⟨S8192x1, .f32⟩
  | 25 => ⟨S_, .f32⟩
  | 26 => ⟨S8192x1, .f32⟩
  | 27 => ⟨S8192x1, .f32⟩
  | 28 => ⟨S8192x1024, .f32⟩
  | 29 => ⟨S8192x1024, .f32⟩
  | 30 => ⟨S8192x1024, .f32⟩
  | 31 => ⟨S_, .f32⟩
  | 32 => ⟨S8192x1024, .f32⟩
  | 33 => ⟨S8192x1024, .f32⟩
  | 34 => ⟨S_, .f32⟩
  | 35 => ⟨S8192, .f32⟩
  | 36 => ⟨S8192x1, .f32⟩
  | 37 => ⟨S_, .f32⟩
  | 38 => ⟨S8192x1, .f32⟩
  | 39 => ⟨S8192x1, .f32⟩
  | 40 => ⟨S8192x1024, .f32⟩
  | 41 => ⟨S8192x1024, .f32⟩
  | 42 => ⟨S_, .f32⟩
  | 43 => ⟨S8192x1, .f32⟩
  | 44 => ⟨S8192x1, .f32⟩
  | 45 => ⟨S8192x1, .f32⟩
  | 46 => ⟨S8192x1, .f32⟩
  | 47 => ⟨S_, .f32⟩
  | 48 => ⟨S8192x1, .f32⟩
  | 49 => ⟨S8192x1, .f32⟩
  | 50 => ⟨S8192x1024, .f32⟩
  | 51 => ⟨S8192x1024, .f32⟩
  | 52 => ⟨S8192x1024, .f32⟩
  | 53 => ⟨S8192x1024, .f32⟩
  | 54 => ⟨S8192x1024, .f32⟩
  | 55 => ⟨S8192x1024, .f32⟩
  | 56 => ⟨S_, .f32⟩
  | 57 => ⟨S1x1024, .f32⟩
  | 58 => ⟨S1x1024, .f32⟩
  | 59 => ⟨S8192x1024, .f32⟩
  | 60 => ⟨S8192x1024, .f32⟩
  | 61 => ⟨S8192x1024, .f32⟩
  | 62 => ⟨S8192x1024, .f32⟩
  | 63 => ⟨S8192x4096, .f32⟩
  | 64 => ⟨S8192x4096, .f32⟩
  | 65 => ⟨S_, .f32⟩
  | 66 => ⟨S8192x4096, .f32⟩
  | 67 => ⟨S8192x4096, .f32⟩
  | 68 => ⟨S_, .f32⟩
  | 69 => ⟨S8192x4096, .f32⟩
  | 70 => ⟨S8192x4096, .i1⟩
  | 71 => ⟨S_, .f32⟩
  | 72 => ⟨S8192x4096, .f32⟩
  | 73 => ⟨S8192x4096, .f32⟩
  | 74 => ⟨S_, .f32⟩
  | 75 => ⟨S8192x4096, .f32⟩
  | 76 => ⟨S8192x4096, .f32⟩
  | 77 => ⟨S8192x1024, .f32⟩
  | 78 => ⟨S8192x4096, .f32⟩
  | 79 => ⟨S8192x4096, .f32⟩
  | 80 => ⟨S_, .f32⟩
  | 81 => ⟨S8192x4096, .f32⟩
  | 82 => ⟨S8192x4096, .f32⟩
  | 83 => ⟨S8192x1024, .f32⟩
  | 84 => ⟨S_, .f32⟩
  | 85 => ⟨S1024, .f32⟩
  | 86 => ⟨S1x1024, .f32⟩
  | 87 => ⟨S8192x1024, .f32⟩
  | 88 => ⟨S_, .f32⟩
  | 89 => ⟨S1024, .f32⟩
  | 90 => ⟨S1x1024, .f32⟩
  | 91 => ⟨S8192x1024, .f32⟩
  | 92 => ⟨S8192x1024, .f32⟩
  | 93 => ⟨S8192x1024, .f32⟩
  | 94 => ⟨S8192x1024, .f32⟩
  | 95 => ⟨S_, .f32⟩
  | 96 => ⟨S1024, .f32⟩
  | 97 => ⟨S1x1024, .f32⟩
  | 98 => ⟨S8192x1024, .f32⟩
  | 99 => ⟨S_, .f32⟩
  | 100 => ⟨S1024, .f32⟩
  | 101 => ⟨S1x1024, .f32⟩
  | 102 => ⟨S8192x1024, .f32⟩
  | 103 => ⟨S8192x1024, .f32⟩
  | 104 => ⟨S8192x1024, .f32⟩
  | 105 => ⟨S_, .f32⟩
  | 106 => ⟨S8192, .f32⟩
  | 107 => ⟨S8192x1, .f32⟩
  | 108 => ⟨S8192x1024, .f32⟩
  | 109 => ⟨S8192x1024, .f32⟩
  | 110 => ⟨S8192x1, .f32⟩
  | 111 => ⟨S8192x1024, .f32⟩
  | 112 => ⟨S_, .f32⟩
  | 113 => ⟨S8192, .f32⟩
  | 114 => ⟨S8192x1, .f32⟩
  | 115 => ⟨S_, .f32⟩
  | 116 => ⟨S8192x1, .f32⟩
  | 117 => ⟨S8192x1, .f32⟩
  | 118 => ⟨S_, .f32⟩
  | 119 => ⟨S8192, .f32⟩
  | 120 => ⟨S8192x1024, .f32⟩
  | 121 => ⟨S8192x1024, .f32⟩
  | 122 => ⟨S8192x1024, .f32⟩
  | 123 => ⟨S_, .f32⟩
  | 124 => ⟨S8192, .f32⟩
  | 125 => ⟨S8192x1, .f32⟩
  | 126 => ⟨S8192x1024, .f32⟩
  | 127 => ⟨S8192x1, .f32⟩
  | _ => ⟨S8192x1024, .f32⟩

abbrev hbmTy0_1 (i : Nat) : BufTy := match i % 128 with
  | 0 => ⟨S_, .f32⟩
  | 1 => ⟨S8192x1, .f32⟩
  | 2 => ⟨S8192x1, .f32⟩
  | 3 => ⟨S_, .f32⟩
  | 4 => ⟨S8192, .f32⟩
  | 5 => ⟨S8192x1024, .f32⟩
  | 6 => ⟨S8192x1024, .f32⟩
  | 7 => ⟨S8192x1024, .f32⟩
  | 8 => ⟨S8192x1024, .f32⟩
  | 9 => ⟨S8192x1024, .f32⟩
  | 10 => ⟨S_, .f32⟩
  | 11 => ⟨S1024, .f32⟩
  | 12 => ⟨S1x1024, .f32⟩
  | 13 => ⟨S_, .f32⟩
  | 14 => ⟨S8192x1024, .f32⟩
  | 15 => ⟨S8192x1024, .f32⟩
  | 16 => ⟨S8192x4096, .bf16⟩
  | 17 => ⟨S8192x1024, .bf16⟩
  | 18 => ⟨S5x1024, .f32⟩
  | 19 => ⟨S_, .i32⟩
  | 20 => ⟨S_, .f32⟩
  | 21 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_cst_1 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_4 : Ref sig .tc := ⟨.hbm, 31, rfl⟩
abbrev main_v15 : Ref sig .tc := ⟨.hbm, 32, rfl⟩
abbrev main_v16 : Ref sig .tc := ⟨.hbm, 33, rfl⟩
abbrev main_cst_5 : Ref sig .tc := ⟨.hbm, 34, rfl⟩
abbrev main_v17 : Ref sig .tc := ⟨.hbm, 35, rfl⟩
abbrev main_v18 : Ref sig .tc := ⟨.hbm, 36, rfl⟩
abbrev main_cst_6 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_7 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_8 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_call0_cst : Ref sig .tc := ⟨.hbm, 65, rfl⟩
abbrev main_call0_v0 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_cst_11 : Ref sig .tc := ⟨.hbm, 71, rfl⟩
abbrev main_v46 : Ref sig .tc := ⟨.hbm, 72, rfl⟩
abbrev main_v47 : Ref sig .tc := ⟨.hbm, 73, rfl⟩
abbrev main_cst_12 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_13 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_14 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_15 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_17 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_18 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_19 : Ref sig .tc := ⟨.hbm, 112, rfl⟩
abbrev main_v79 : Ref sig .tc := ⟨.hbm, 113, rfl⟩
abbrev main_v80 : Ref sig .tc := ⟨.hbm, 114, rfl⟩
abbrev main_cst_20 : Ref sig .tc := ⟨.hbm, 115, rfl⟩
abbrev main_v81 : Ref sig .tc := ⟨.hbm, 116, rfl⟩
abbrev main_v82 : Ref sig .tc := ⟨.hbm, 117, rfl⟩
abbrev main_cst_21 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_22 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_23 : Ref sig .tc := ⟨.hbm, 128, rfl⟩
abbrev main_v91 : Ref sig .tc := ⟨.hbm, 129, rfl⟩
abbrev main_v92 : Ref sig .tc := ⟨.hbm, 130, rfl⟩
abbrev main_cst_24 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_25 : Ref sig .tc := ⟨.hbm, 138, rfl⟩
abbrev main_v99 : Ref sig .tc := ⟨.hbm, 139, rfl⟩
abbrev main_v100 : Ref sig .tc := ⟨.hbm, 140, rfl⟩
abbrev main_cst_26 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_c : Ref sig .tc := ⟨.hbm, 147, rfl⟩
abbrev main_call1_v0 : Ref sig .tc := ⟨.hbm, 148, rfl⟩
abbrev main_v106 : Ref sig .tc := ⟨.hbm, 149, rfl⟩

abbrev nD : Nat := 1
abbrev τ : Topo := Topo.v7x

variable {F : FTy → Type} [FloatOps F]
-- ==== Kernel2.lean ====
abbrev S8192x4096 : Shape := ⟨2, ![8192, 4096]⟩
abbrev S8192x1024 : Shape := ⟨2, ![8192, 1024]⟩
abbrev S4096x1024 : Shape := ⟨2, ![4096, 1024]⟩
abbrev S4096x512 : Shape := ⟨2, ![4096, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S8192x1024, .f32⟩
  | .hbm, ⟨6, _⟩ => ⟨S8192x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8192x1024 : Shape := ⟨2, ![8192, 1024]⟩
abbrev S8192x4096 : Shape := ⟨2, ![8192, 4096]⟩
abbrev S8x1024x512 : Shape := ⟨3, ![8, 1024, 512]⟩
abbrev S4096x1024 : Shape := ⟨2, ![4096, 1024]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8x1024x512, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S1024x8x512, .bf16⟩
  | .hbm, ⟨11, _⟩ => ⟨S8x1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S8192x1024 : Shape := ⟨2, ![8192, 1024]⟩
abbrev S1024x1024 : Shape := ⟨2, ![1024, 1024]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x1024 : Shape := ⟨2, ![8192, 1024]⟩
abbrev S8192x512 : Shape := ⟨2, ![8192, 512]⟩
abbrev S1024x512 : Shape := ⟨2, ![1024, 512]⟩
abbrev S4096x1024 : Shape := ⟨2, ![4096, 1024]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S_, .f32⟩
  | .hbm, ⟨3, _⟩ => ⟨S1024x512, .f32⟩
  | .hbm, ⟨4, _⟩ => ⟨S8192x1024, .f32⟩
  | .hbm, ⟨5, _⟩ => ⟨S8192x512, .f32⟩
  | .hbm, ⟨6, _⟩ => ⟨S8192x512, .f32⟩
  | .hbm, ⟨7, _⟩ => ⟨S512x1024, .f32⟩
  | .hbm, ⟨8, _⟩ => ⟨S1024x512, .f32⟩
  | .hbm, ⟨9, _⟩ => ⟨S1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S1024x8192 : Shape := ⟨2, ![1024, 8192]⟩
abbrev S8192x1024 : Shape := ⟨2, ![8192, 1024]⟩
abbrev S1024x1024 : Shape := ⟨2, ![1024, 1024]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x8192, .bf16⟩
  | .hbm, ⟨1, _⟩ => ⟨S8192x1024, .bf16⟩
  | .hbm, ⟨2, _⟩ => ⟨S1024x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S1024x8192 : Shape := ⟨2, ![1024, 8192]⟩
abbrev S8192x1024 : Shape := ⟨2, ![8192, 1024]⟩
abbrev S_ : Shape := ⟨0, ![]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x1024, .bf16⟩
  | .hbm, ⟨2, _⟩ => ⟨S8192x1024, .bf16⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S1024x1024, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S8x8192 : Shape := ⟨2, ![8, 8192]⟩
abbrev S8192x1024 : Shape := ⟨2, ![8192, 1024]⟩
abbrev S8x1024 : Shape := ⟨2, ![8, 1024]⟩
abbrev S8x4096 : Shape := ⟨2, ![8, 4096]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8x8192, .f32⟩
  | .hbm, ⟨1, _⟩ => ⟨S8192x1024, .bf16⟩
  | .hbm, ⟨2, _⟩ => ⟨S8x1024, .bf16⟩
  | .local _ .vmem, ⟨0, _⟩ => ⟨S8x4096, .f32⟩
  | .local _ .vmem, ⟨1, _⟩ => ⟨S8x4096, .f32⟩
  | .local _ .vmem, ⟨2, _⟩ => ⟨S4096x1024, .bf16⟩
  | .local _ .vmem, ⟨3, _⟩ => ⟨S4096x1024, .bf16⟩
  | .local _ .vmem, ⟨4, _⟩ => ⟨S8x1024, .bf16⟩
  | .local _ .vmem, ⟨5, _⟩ => ⟨S8x1024, .f32⟩
  | _, _ => ⟨S8x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v12 : BitVec 1 := Scalar.cmpi .eq arg0 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference8Ideal.lean ====
abbrev S8x8192 : Shape := ⟨2, ![8, 8192]⟩
abbrev S8192x1024 : Shape := ⟨2, ![8192, 1024]⟩
abbrev S8192x8 : Shape := ⟨2, ![8192, 8]⟩
abbrev S_ : Shape := ⟨0, ![]⟩
abbrev S1024x8 : Shape := ⟨2, ![1024, 8]⟩
abbrev S8x1024 : Shape := ⟨2, ![8, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8x8192, .f32⟩
  | .hbm, ⟨1, _⟩ => ⟨S8192x1024, .bf16⟩
  | .hbm, ⟨2, _⟩ => ⟨S8192x8, .f32⟩
  | .hbm, ⟨3, _⟩ => ⟨S_, .f32⟩
  | .hbm, ⟨4, _⟩ => ⟨S1024x8, .f32⟩
  | .hbm, ⟨5, _⟩ => ⟨S8192x1024, .f32⟩
  | .hbm, ⟨6, _⟩ => ⟨S8192x8, .f32⟩
  | .hbm, ⟨7, _⟩ => ⟨S8x1024, .f32⟩
  | .hbm, ⟨8, _⟩ => ⟨S1024x8, .f32⟩
  | .hbm, ⟨9, _⟩ => ⟨S1024x8, .bf16⟩
  | .hbm, ⟨10, _⟩ => ⟨S8x1024, .bf16⟩
  | _, _ => ⟨S8x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S8192x1024 : Shape := ⟨2, ![8192, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S8x1024 : Shape := ⟨2, ![8, 1024]⟩
abbrev S1024x8x512 : Shape := ⟨3, ![1024, 8, 512]⟩
abbrev S8x1024x512 : Shape := ⟨3, ![8, 1024, 512]⟩
abbrev S8192x4096 : Shape := ⟨2, ![8192, 4096]⟩
abbrev S512x1024 : Shape := ⟨2, ![512, 1024]⟩
abbrev S512x4096 : Shape := ⟨2, ![512, 4096]⟩
abbrev S1x1024x512 : Shape := ⟨3, ![1, 1024, 512]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 22
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S8x1024, .f32⟩
  | .hbm, ⟨12, _⟩ => ⟨S8x1024, .f32⟩
  | .hbm, ⟨13, _⟩ => ⟨S1024x8x512, .f32⟩
  | .hbm, ⟨14, _⟩ => ⟨S8x1024x512, .f32⟩
  | .hbm, ⟨15, _⟩ => ⟨S8x1024x512, .bf16⟩
  | .hbm, ⟨16, _⟩ => ⟨S4096x1024, .bf16⟩
  | .hbm, ⟨17, _⟩ => ⟨S8192x1024, .bf16⟩
  | .hbm, ⟨18, _⟩ => ⟨S8192x4096, .bf16⟩
  | .hbm, ⟨19, _⟩ => ⟨S8192x1024, .bf16⟩
  | .hbm, ⟨20, _⟩ => ⟨S8192x1024, .f32⟩
  | .hbm, ⟨21, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x1024x512, .bf16⟩
  | .local _ .vmem, ⟨5, _⟩ => ⟨S4096x1024, .bf16⟩
  | .local _ .vmem, ⟨6, _⟩ => ⟨S8x1024, .f32⟩
  | .local _ .vmem, ⟨7, _⟩ => ⟨S8x1024, .f32⟩
  | .local _ .vmem, ⟨8, _⟩ => ⟨S512x1024, .bf16⟩
  | .local _ .vmem, ⟨9, _⟩ => ⟨S512x1024, .bf16⟩
  | .local _ .vmem, ⟨10, _⟩ => ⟨S512x4096, .bf16⟩
  | .local _ .vmem, ⟨11, _⟩ => ⟨S512x4096, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference9Ideal.lean ====
abbrev S8192x1024 : Shape := ⟨2, ![8192, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S1024 : Shape := ⟨1, ![1024]⟩
abbrev S4x1024 : Shape := ⟨2, ![4, 1024]⟩
abbrev S8x1024 : Shape := ⟨2, ![8, 1024]⟩

abbrev nBuf : Space → Nat
  | .hbm => 145
  | .vmem => 0
  | .smem => 0
  | _ => 0

abbrev hbmTy0_0 (i : Nat) : BufTy := match i % 128 with
  | 0 => ⟨S8192x1024, .f32⟩
  | 1 => ⟨S8192x1024, .f32⟩
  | 2 => ⟨S1024x4096, .f32⟩
  | 3 => ⟨S4096x1024, .f32⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S_, .f32⟩
  | 10 => ⟨S1x1024, .f32⟩
  | 11 => ⟨S1x1024, .f32⟩
  | 12 => ⟨S8192x1024, .f32⟩
  | 13 => ⟨S8192x1024, .f32⟩
  | 14 => ⟨S8192x1024, .f32⟩
  | 15 => ⟨S8192x1024, .f32⟩
  | 16 => ⟨S8192x4096, .f32⟩
  | 17 => ⟨S_, .f32⟩
  | 18 => ⟨S8192x4096, .f32⟩
  | 19 => ⟨S8192x4096, .f32⟩
  | 20 => ⟨S8192x4096, .f32⟩
  | 21 => ⟨S8192x1024, .f32⟩
  | 22 => ⟨S_, .f32⟩
  | 23 => ⟨S8192x1024, .f32⟩
  | 24 => ⟨S8192x1024, .f32⟩
  | 25 => ⟨S_, .f32⟩
  | 26 => ⟨S1x1024, .f32⟩
  | 27 => ⟨S1x1024, .f32⟩
  | 28 => ⟨S8192x1024, .f32⟩
  | 29 => ⟨S8192x1024, .f32⟩
  | 30 => ⟨S8192x1024, .f32⟩
  | 31 => ⟨S_, .f32⟩
  | 32 => ⟨S8192, .f32⟩
  | 33 => ⟨S8192x1, .f32⟩
  | 34 => ⟨S_, .f32⟩
  | 35 => ⟨S8192x1, .f32⟩
  | 36 => ⟨S8192x1, .f32⟩
  | 37 => ⟨S8192x1024, .f32⟩
  | 38 => ⟨S8192x1024, .f32⟩
  | 39 => ⟨S8192x1024, .f32⟩
  | 40 => ⟨S_, .f32⟩
  | 41 => ⟨S8192x1024, .f32⟩
  | 42 => ⟨S8192x1024, .f32⟩
  | 43 => ⟨S_, .f32⟩
  | 44 => ⟨S8192, .f32⟩
  | 45 => ⟨S8192x1, .f32⟩
  | 46 => ⟨S_, .f32⟩
  | 47 => ⟨S8192x1, .f32⟩
  | 48 => ⟨S8192x1, .f32⟩
  | 49 => ⟨S8192x1024, .f32⟩
  | 50 => ⟨S8192x1024, .f32⟩
  | 51 => ⟨S_, .f32⟩
  | 52 => ⟨S8192x1, .f32⟩
  | 53 => ⟨S8192x1, .f32⟩
  | 54 => ⟨S8192x1, .f32⟩
  | 55 => ⟨S8192x1, .f32⟩
  | 56 => ⟨S_, .f32⟩
  | 57 => ⟨S8192x1, .f32⟩
  | 58 => ⟨S8192x1, .f32⟩
  | 59 => ⟨S8192x1024, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S8192x1024, .f32⟩
  | 67 => ⟨S_, .f32⟩
  | 68 => ⟨S8192x1024, .f32⟩
  | 69 => ⟨S8192x1024, .f32⟩
  | 70 => ⟨S_, .f32⟩
  | 71 => ⟨S8192, .f32⟩
  | 72 => ⟨S_, .f32⟩
  | 73 => ⟨S8192, .f32⟩
  | 74 => ⟨S8192, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S8192, .f32⟩
  | 83 => ⟨S_, .f32⟩
  | 84 => ⟨S8192, .f32⟩
  | 85 => ⟨S8192, .f32⟩
  | 86 => ⟨S8192x1024, .f32⟩
  | 87 => ⟨S8192x1024, .f32⟩
  | 88 => ⟨S_, .f32⟩
  | 89 => ⟨S1024, .f32⟩
  | 90 => ⟨S1x1024, .f32⟩
  | 91 => ⟨S8192x1024, .f32⟩
  | 92 => ⟨S_, .f32⟩
  | 93 => ⟨S1024, .f32⟩
  | 94 => ⟨S1x1024, .f32⟩
  | 95 => ⟨S8192x1024, .f32⟩
  | 96 => ⟨S8192x1024, .f32⟩
  | 97 => ⟨S8192x1024, .f32⟩
  | 98 => ⟨S_, .f32⟩
  | 99 => ⟨S8192, .f32⟩
  | 100 => ⟨S8192x1, .f32⟩
  | 101 => ⟨S8192x1024, .f32⟩
  | 102 => ⟨S8192x1024, .f32⟩
  | 103 => ⟨S8192x1, .f32⟩
  | 104 => ⟨S8192x1024, .f32⟩
  | 105 => ⟨S_, .f32⟩
  | 106 => ⟨S8192, .f32⟩
  | 107 => ⟨S8192x1, .f32⟩
  | 108 => ⟨S_, .f32⟩
  | 109 => ⟨S8192x1, .f32⟩
  | 110 => ⟨S8192x1, .f32⟩
  | 111 => ⟨S_, .f32⟩
  | 112 => ⟨S8192, .f32⟩
  | 113 => ⟨S8192x1024, .f32⟩
  | 114 => ⟨S8192x1024, .f32⟩
  | 115 => ⟨S8192x1024, .f32⟩
  | 116 => ⟨S_, .f32⟩
  | 117 => ⟨S8192, .f32⟩
  | 118 => ⟨S8192x1, .f32⟩
  | 119 => ⟨S8192x1024, .f32⟩
  | 120 => ⟨S8192x1, .f32⟩
  | 121 => ⟨S_, .f32⟩
  | 122 => ⟨S8192x1, .f32⟩
  | 123 => ⟨S8192x1, .f32⟩
  | 124 => ⟨S_, .f32⟩
  | 125 => ⟨S8192, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S_, .f32⟩
  | 4 => ⟨S1024, .f32⟩
  | 5 => ⟨S1x1024, .f32⟩
  | 6 => ⟨S_, .f32⟩
  | 7 => ⟨S8192x1024, .f32⟩
  | 8 => ⟨S8192x1024, .f32⟩
  | 9 => ⟨S1x1024, .f32⟩
  | 10 => ⟨S4x1024, .f32⟩
  | 11 => ⟨S8192x1024, .bf16⟩
  | 12 => ⟨S8192x4096, .bf16⟩
  | 13 => ⟨S8192x1024, .bf16⟩
  | 14 => ⟨S_, .i32⟩
  | 15 => ⟨S_, .f32⟩
  | 16 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_cst : Ref sig .tc := ⟨.hbm, 17, rfl⟩
abbrev main_call0_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_cst_11 : Ref sig .tc := ⟨.hbm, 72, rfl⟩
abbrev main_v49 : Ref sig .tc := ⟨.hbm, 73, rfl⟩
abbrev main_v50 : Ref sig .tc := ⟨.hbm, 74, rfl⟩
abbrev main_cst_12 : Ref sig .tc := ⟨.hbm, 75, rfl⟩
abbrev main_v51 : Ref sig .tc := ⟨.hbm, 76, rfl⟩
abbrev main_cst_13 : Ref sig .tc := ⟨.hbm, 77, rfl⟩
abbrev main_v52 : Ref sig .tc := ⟨.hbm, 78, rfl⟩
abbrev main_cst_14 : Ref sig .tc := ⟨.hbm, 79, rfl⟩
abbrev main_cst_15 : Ref sig .tc := ⟨.hbm, 80, rfl⟩
abbrev main_v53 : Ref sig .tc := ⟨.hbm, 81, rfl⟩
abbrev main_v54 : Ref sig .tc := ⟨.hbm, 82, rfl⟩
abbrev main_cst_16 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_17 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_18 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_19 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_20 : Ref sig .tc := ⟨.hbm, 105, rfl⟩
abbrev main_v73 : Ref sig .tc := ⟨.hbm, 106, rfl⟩
abbrev main_v74 : Ref sig .tc := ⟨.hbm, 107, rfl⟩
abbrev main_cst_21 : Ref sig .tc := ⟨.hbm, 108, rfl⟩
abbrev main_v75 : Ref sig .tc := ⟨.hbm, 109, rfl⟩
abbrev main_v76 : Ref sig .tc := ⟨.hbm, 110, rfl⟩
abbrev main_cst_22 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_23 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_24 : Ref sig .tc := ⟨.hbm, 121, rfl⟩
abbrev main_v85 : Ref sig .tc := ⟨.hbm, 122, rfl⟩
abbrev main_v86 : Ref sig .tc := ⟨.hbm, 123, rfl⟩
abbrev main_cst_25 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_26 : Ref sig .tc := ⟨.hbm, 131, rfl⟩
abbrev main_v93 : Ref sig .tc := ⟨.hbm, 132, rfl⟩
abbrev main_v94 : Ref sig .tc := ⟨.hbm, 133, rfl⟩
abbrev main_cst_27 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_c : Ref sig .tc := ⟨.hbm, 142, rfl⟩
abbrev main_call1_v0 : Ref sig .tc := ⟨.hbm, 143, rfl⟩
abbrev main_v102 : Ref sig .tc := ⟨.hbm, 144, rfl⟩

abbrev nD : Nat := 1
abbrev τ : Topo := Topo.v7x

variable {F : FTy → Type} [FloatOps F]
-- ==== Kernel10.lean ====
abbrev S8192x1024 : Shape := ⟨2, ![8192, 1024]⟩
abbrev S1x1024 : Shape := ⟨2, ![1, 1024]⟩
abbrev S1024x2568 : Shape := ⟨2, ![1024, 2568]⟩
abbrev S_ : Shape := ⟨0, ![]⟩
abbrev S6x1024 : Shape := ⟨2, ![6, 1024]⟩
abbrev S8x1024 : Shape := ⟨2, ![8, 1024]⟩
abbrev S1024x1536 : Shape := ⟨2, ![1024, 1536]⟩
abbrev S1024x1024 : Shape := ⟨2, ![1024, 1024]⟩
abbrev S1024x8 : Shape := ⟨2, ![1024, 8]⟩
abbrev S8192x1536 : Shape := ⟨2, ![8192, 1536]⟩
abbrev S8x8192 : Shape := ⟨2, ![8, 8192]⟩
abbrev S512x1024 : Shape := ⟨2, ![512, 1024]⟩
abbrev S512x1536 : Shape := ⟨2, ![512, 1536]⟩
abbrev S8x512 : Shape := ⟨2, ![8, 512]⟩

abbrev nBuf : Space → Nat
  | .hbm => 16
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x2568, .f32⟩
  | .hbm, ⟨4, _⟩ => ⟨S_, .f32⟩
  | .hbm, ⟨5, _⟩ => ⟨S6x1024, .f32⟩
  | .hbm, ⟨6, _⟩ => ⟨S8x1024, .f32⟩
  | .hbm, ⟨7, _⟩ => ⟨S1024x2568, .bf16⟩
  | .hbm, ⟨8, _⟩ => ⟨S1024x1536, .bf16⟩
  | .hbm, ⟨9, _⟩ => ⟨S1024x1024, .bf16⟩
  | .hbm, ⟨10, _⟩ => ⟨S1024x8, .bf16⟩
  | .hbm, ⟨11, _⟩ => ⟨S8x1024, .bf16⟩
  | .hbm, ⟨12, _⟩ => ⟨S8192x1536, .bf16⟩
  | .hbm, ⟨13, _⟩ => ⟨S8192x1024, .f32⟩
  | .hbm, ⟨14, _⟩ => ⟨S8x8192, .f32⟩
  | .hbm, ⟨15, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1024x1536, .bf16⟩
  | .local _ .vmem, ⟨4, _⟩ => ⟨S1024x1024, .bf16⟩
  | .local _ .vmem, ⟨5, _⟩ => ⟨S8x1024, .bf16⟩
  | .local _ .vmem, ⟨6, _⟩ => ⟨S512x1536, .bf16⟩
  | .local _ .vmem, ⟨7, _⟩ => ⟨S512x1536, .bf16⟩
  | .local _ .vmem, ⟨8, _⟩ => ⟨S512x1024, .f32⟩
  | .local _ .vmem, ⟨9, _⟩ => ⟨S512x1024, .f32⟩
  | .local _ .vmem, ⟨10, _⟩ => ⟨S8x512, .f32⟩
  | .local _ .vmem, ⟨11, _⟩ => ⟨S8x512, .f32⟩
  | .local _ .vmem, ⟨12, _⟩ => ⟨S512x1024, .bf16⟩
  | .local _ .vmem, ⟨13, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S8192x1024 : Shape := ⟨2, ![8192, 1024]⟩
abbrev S1x1024 : Shape := ⟨2, ![1, 1024]⟩
abbrev S1024x2568 : Shape := ⟨2, ![1024, 2568]⟩
abbrev S_ : Shape := ⟨0, ![]⟩
abbrev S8192x2568 : Shape := ⟨2, ![8192, 2568]⟩
abbrev S8192x1536 : Shape := ⟨2, ![8192, 1536]⟩
abbrev S8192x8 : Shape := ⟨2, ![8192, 8]⟩
abbrev S8x8192 : Shape := ⟨2, ![8, 8192]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x2568, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x2568, .f32⟩
  | .hbm, ⟨12, _⟩ => ⟨S8192x1536, .f32⟩
  | .hbm, ⟨13, _⟩ => ⟨S8192x1536, .bf16⟩
  | .hbm, ⟨14, _⟩ => ⟨S8192x1024, .f32⟩
  | .hbm, ⟨15, _⟩ => ⟨S8192x8, .f32⟩
  | .hbm, ⟨16, _⟩ => ⟨S8x8192, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel11.lean ====
abbrev S8192x1024 : Shape := ⟨2, ![8192, 1024]⟩
abbrev S1x1024 : Shape := ⟨2, ![1, 1024]⟩
abbrev S1024x2568 : Shape := ⟨2, ![1024, 2568]⟩
abbrev S8192x512 : Shape := ⟨2, ![8192, 512]⟩
abbrev S512x8192 : Shape := ⟨2, ![512, 8192]⟩
abbrev S8x8192 : Shape := ⟨2, ![8, 8192]⟩
abbrev S_ : Shape := ⟨0, ![]⟩
abbrev S6x1024 : Shape := ⟨2, ![6, 1024]⟩
abbrev S8x1024 : Shape := ⟨2, ![8, 1024]⟩
abbrev S1024x1536 : Shape := ⟨2, ![1024, 1536]⟩
abbrev S1024x1024 : Shape := ⟨2, ![1024, 1024]⟩
abbrev S1024x8 : Shape := ⟨2, ![1024, 8]⟩
abbrev S1024x8192 : Shape := ⟨2, ![1024, 8192]⟩
abbrev S512x512 : Shape := ⟨2, ![512, 512]⟩
abbrev S512x1024 : Shape := ⟨2, ![512, 1024]⟩
abbrev S8x512 : Shape := ⟨2, ![8, 512]⟩
abbrev S1024x512 : Shape := ⟨2, ![1024, 512]⟩
abbrev S1024 : Shape := ⟨1, ![1024]⟩

abbrev nBuf : Space → Nat
  | .hbm => 23
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x2568, .f32⟩
  | .hbm, ⟨4, _⟩ => ⟨S8192x512, .bf16⟩
  | .hbm, ⟨5, _⟩ => ⟨S512x8192, .f32⟩
  | .hbm, ⟨6, _⟩ => ⟨S512x8192, .f32⟩
  | .hbm, ⟨7, _⟩ => ⟨S8192x1024, .bf16⟩
  | .hbm, ⟨8, _⟩ => ⟨S8x8192, .f32⟩
  | .hbm, ⟨9, _⟩ => ⟨S8192x1024, .f32⟩
  | .hbm, ⟨10, _⟩ => ⟨S_, .f32⟩
  | .hbm, ⟨11, _⟩ => ⟨S6x1024, .f32⟩
  | .hbm, ⟨12, _⟩ => ⟨S8x1024, .f32⟩
  | .hbm, ⟨13, _⟩ => ⟨S1024x2568, .bf16⟩
  | .hbm, ⟨14, _⟩ => ⟨S1024x1536, .bf16⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S1024x8, .bf16⟩
  | .hbm, ⟨19, _⟩ => ⟨S8x1024, .bf16⟩
  | .hbm, ⟨20, _⟩ => ⟨S1024x8192, .bf16⟩
  | .hbm, ⟨21, _⟩ => ⟨S8192x1024, .f32⟩
  | .hbm, ⟨22, _⟩ => ⟨S8x1024, .f32⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S8x512, .f32⟩
  | .local _ .vmem, ⟨9, _⟩ => ⟨S8x512, .f32⟩
  | .local _ .vmem, ⟨10, _⟩ => ⟨S1024x1536, .bf16⟩
  | .local _ .vmem, ⟨11, _⟩ => ⟨S1024x1024, .bf16⟩
  | .local _ .vmem, ⟨12, _⟩ => ⟨S1024x1024, .bf16⟩
  | .local _ .vmem, ⟨13, _⟩ => ⟨S8x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S8x1024, .f32⟩
  | .local _ .vmem, ⟨19, _⟩ => ⟨S1024x512, .bf16⟩
  | .local _ .vmem, ⟨20, _⟩ => ⟨S1024x512, .bf16⟩
  | .local _ .vmem, ⟨21, _⟩ => ⟨S512x1024, .f32⟩
  | .local _ .vmem, ⟨22, _⟩ => ⟨S512x1024, .f32⟩
  | .local _ .vmem, ⟨23, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference11Ideal.lean ====
abbrev S8192x1024 : Shape := ⟨2, ![8192, 1024]⟩
abbrev S1x1024 : Shape := ⟨2, ![1, 1024]⟩
abbrev S1024x2568 : Shape := ⟨2, ![1024, 2568]⟩
abbrev S8192x512 : Shape := ⟨2, ![8192, 512]⟩
abbrev S512x8192 : Shape := ⟨2, ![512, 8192]⟩
abbrev S8x8192 : Shape := ⟨2, ![8, 8192]⟩
abbrev S8192x8 : Shape := ⟨2, ![8192, 8]⟩
abbrev S8192x2568 : Shape := ⟨2, ![8192, 2568]⟩
abbrev S_ : Shape := ⟨0, ![]⟩
abbrev S1024 : Shape := ⟨1, ![1024]⟩
abbrev S1024x8192 : Shape := ⟨2, ![1024, 8192]⟩
abbrev S2x1024 : Shape := ⟨2, ![2, 1024]⟩
abbrev S8x1024 : Shape := ⟨2, ![8, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x2568, .f32⟩
  | .hbm, ⟨4, _⟩ => ⟨S8192x512, .bf16⟩
  | .hbm, ⟨5, _⟩ => ⟨S512x8192, .f32⟩
  | .hbm, ⟨6, _⟩ => ⟨S512x8192, .f32⟩
  | .hbm, ⟨7, _⟩ => ⟨S8192x1024, .bf16⟩
  | .hbm, ⟨8, _⟩ => ⟨S8x8192, .f32⟩
  | .hbm, ⟨9, _⟩ => ⟨S8192x1024, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x8, .f32⟩
  | .hbm, ⟨14, _⟩ => ⟨S8192x1024, .f32⟩
  | .hbm, ⟨15, _⟩ => ⟨S8192x2568, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x2568, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S1024x8192, .f32⟩
  | .hbm, ⟨36, _⟩ => ⟨S1024x8192, .bf16⟩
  | .hbm, ⟨37, _⟩ => ⟨S2x1024, .f32⟩
  | .hbm, ⟨38, _⟩ => ⟨S_, .i32⟩
  | .hbm, ⟨39, _⟩ => ⟨S_, .f32⟩
  | .hbm, ⟨40, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c : Ref sig .tc := ⟨.hbm, 38, rfl⟩
abbrev main_call0_v0 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Kernel12.lean ====
abbrev S8192x512 : Shape := ⟨2, ![8192, 512]⟩
abbrev S8192x1024 : Shape := ⟨2, ![8192, 1024]⟩
abbrev S1024x1024 : Shape := ⟨2, ![1024, 1024]⟩
abbrev S1x512 : Shape := ⟨2, ![1, 512]⟩
abbrev S1x1024 : Shape := ⟨2, ![1, 1024]⟩
abbrev S_ : Shape := ⟨0, ![]⟩
abbrev S6x512 : Shape := ⟨2, ![6, 512]⟩
abbrev S8x512 : Shape := ⟨2, ![8, 512]⟩
abbrev S8x1024 : Shape := ⟨2, ![8, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 21
  | .vmem => 18
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S1024x1024, .f32⟩
  | .hbm, ⟨4, _⟩ => ⟨S1x512, .f32⟩
  | .hbm, ⟨5, _⟩ => ⟨S1x512, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S_, .f32⟩
  | .hbm, ⟨12, _⟩ => ⟨S6x512, .f32⟩
  | .hbm, ⟨13, _⟩ => ⟨S8x512, .f32⟩
  | .hbm, ⟨14, _⟩ => ⟨S8x1024, .f32⟩
  | .hbm, ⟨15, _⟩ => ⟨S8x1024, .f32⟩
  | .hbm, ⟨16, _⟩ => ⟨S1024x1024, .bf16⟩
  | .hbm, ⟨17, _⟩ => ⟨S8192x1024, .bf16⟩
  | .hbm, ⟨18, _⟩ => ⟨S8192x1024, .f32⟩
  | .hbm, ⟨19, _⟩ => ⟨S8192x1024, .f32⟩
  | .hbm, ⟨20, _⟩ => ⟨S8192x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S8x512, .f32⟩
  | .local _ .vmem, ⟨8, _⟩ => ⟨S8x1024, .f32⟩
  | .local _ .vmem, ⟨9, _⟩ => ⟨S8x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference12Ideal.lean ====
abbrev S8192x512 : Shape := ⟨2, ![8192, 512]⟩
abbrev S8192x1024 : Shape := ⟨2, ![8192, 1024]⟩
abbrev S1024x1024 : Shape := ⟨2, ![1024, 1024]⟩
abbrev S1x512 : Shape := ⟨2, ![1, 512]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 78
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S1024x1024, .f32⟩
  | .hbm, ⟨4, _⟩ => ⟨S1x512, .f32⟩
  | .hbm, ⟨5, _⟩ => ⟨S1x512, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S8192x512, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1x1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .bf16⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Proof.Grad.lean ====
/- Real arithmetic under the extended reals: how sums, quotients, reciprocal roots and the literals of the two programs
   act on finite elements, and the two forms of the gradient of a row normalisation that the programs compute. -/
module

public import Idealize.ShloMosaic.Lib.Pointwise
public import Idealize.ShloMosaic.Lib.IdealHost
public import Idealize.ShloMosaic.Lib.ValueIdx

@[expose] public section

noncomputable section

namespace Cert.Grad

open Idealize.ShloMosaic
open scoped BigOperators

/-! ## Finite elements -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem sqrt_sq_coe {x : ℝ} (h : 0 ≤ x) : Ideal.sqrt (((x * x : ℝ)) : EReal) = (x : EReal) := by
  rw [Ideal.sqrt_coe, if_neg (not_lt.mpr (mul_self_nonneg x)), Real.sqrt_mul_self h]

theorem rsqrt_pos {x : ℝ} (h : 0 < x) : Ideal.rsqrt (x : EReal) = (((Real.sqrt x)⁻¹ : ℝ) : EReal) := by
  rw [Ideal.rsqrt_coe, if_neg (not_lt.mpr h.le), if_neg h.ne']

theorem div_coe_coe (x : ℝ) {y : ℝ} (h : y ≠ 0) : Ideal.div (x : EReal) (y : EReal) = ((x / y : ℝ) : EReal) := by
  rw [Ideal.div_coe h, ← EReal.coe_mul, mul_one_div]

theorem max_zero_coe (x : ℝ) : max (x : EReal) 0 = ((max x 0 : ℝ) : EReal) := by
  rw [← EReal.coe_zero]
  exact (EReal.coe_strictMono.monotone.map_max).symm

/-! ## The literals -/

/-- The residual factor of the step, as the float literal holds it. -/
def alpha : ℝ := 9975792 / 8388608

/-- The stabiliser of the normalisation, as the float literal holds it. -/
def eps : ℝ := 2748779 * (2 : ℝ) ^ (-38 : ℤ)

theorem lit_alpha : Ideal.ofBits .f32 0x3F9837F0#32 = (alpha : EReal) := by
  simp [Ideal.ofBits, Ideal.ieee, alpha, -EReal.coe_mul]; norm_num

theorem lit_n : Ideal.ofBits .f32 0x44800000#32 = ((1024 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul]; norm_num

theorem lit_one : Ideal.ofBits .f32 0x3F800000#32 = ((1 : ℝ) : EReal) := by
  simp [Ideal.ofBits, Ideal.ieee, -EReal.coe_mul]; norm_num

theorem lit_eps : Ideal.ofBits .f32 0x3727C5AC#32 = (eps : EReal) := by
  simp [Ideal.ofBits, Ideal.ieee, eps, -EReal.coe_mul]; norm_num

theorem eps_pos : 0 < eps := by unfold eps; positivity

/-! ## A row's normalisation and its gradient -/

section Row
variable {ι : Type} [Fintype ι]

/-- The mean of a row of 1024 elements. -/
def mean (z : ι → ℝ) : ℝ := (∑ k, z k) / 1024

/-- A row less its mean. -/
def cen (z : ι → ℝ) (l : ι) : ℝ := z l - mean z

/-- The variance of a row, with the stabiliser added. -/
def vare (z : ι → ℝ) : ℝ := mean (fun k => cen z k * cen z k) + eps

/-- The reciprocal of the deviation. -/
def rstd (z : ι → ℝ) : ℝ := (Real.sqrt (vare z))⁻¹

/-- The normalised row. -/
def xhat (z : ι → ℝ) (l : ι) : ℝ := cen z l * rstd z

theorem vare_pos (z : ι → ℝ) : 0 < vare z := by
  unfold vare mean
  have : 0 ≤ ∑ k, cen z k * cen z k := Finset.sum_nonneg fun k _ => mul_self_nonneg _
  have := eps_pos
  positivity

theorem rstd_sq (z : ι → ℝ) : rstd z * rstd z = 1 / vare z := by
  unfold rstd
  rw [← mul_inv, Real.mul_self_sqrt (vare_pos z).le, one_div]

/-- The gradient of the normalised row at the cotangent `d`, in the three-term form. -/
def lnGrad (z d : ι → ℝ) (l : ι) : ℝ :=
  rstd z * (d l - mean d - xhat z l * mean (fun k => d k * xhat z k))

/-- The same gradient as the chain of derivatives through the deviation and the mean writes it. -/
def lnChain (z d : ι → ℝ) (l : ι) : ℝ :=
  (d l * rstd z + ((∑ k, cen z k * d k) * (-(1 / 2) * (rstd z / vare z))) / 1024 * (2 * cen z l))
    + ((∑ k, -(d k * rstd z)) + ∑ k, -(((∑ k, cen z k * d k) * (-(1 / 2) * (rstd z / vare z))) / 1024 * (2 * cen z k))) / 1024

end Row

theorem sum_cen (z : Fin 1024 → ℝ) : ∑ k, cen z k = 0 := by
  unfold cen mean
  rw [Finset.sum_sub_distrib, Finset.sum_const, Finset.card_univ, Fintype.card_fin]
  simp only [nsmul_eq_mul, Nat.cast_ofNat]
  ring

theorem lnChain_eq (z d : Fin 1024 → ℝ) (l : Fin 1024) : lnChain z d l = lnGrad z d l := by
  have h0 := sum_cen z
  have hr := rstd_sq z
  have hv := (vare_pos z).ne'
  set S := ∑ k, cen z k * d k with hS
  have h1 : ∑ k, -(S * (-(1 / 2) * (rstd z / vare z)) / 1024 * (2 * cen z k)) = 0 := by
    have : ∀ k, -(S * (-(1 / 2) * (rstd z / vare z)) / 1024 * (2 * cen z k))
        = -(S * (-(1 / 2) * (rstd z / vare z)) / 1024 * 2) * cen z k := fun k => by ring
    simp only [this]
    rw [← Finset.mul_sum, h0, mul_zero]
  have h2 : ∑ k, -(d k * rstd z) = -((∑ k, d k) * rstd z) := by
    rw [Finset.sum_neg_distrib, Finset.sum_mul]
  have h3 : ∑ k, d k * xhat z k = S * rstd z := by
    rw [hS, Finset.sum_mul]
    exact Finset.sum_congr rfl fun k _ => by unfold xhat; ring
  unfold lnChain lnGrad
  rw [← hS, h1, h2]
  simp only [mean]
  rw [h3]
  unfold xhat
  have h4 : rstd z / vare z = rstd z * (rstd z * rstd z) := by rw [hr]; ring
  rw [h4]
  ring

end Cert.Grad

end
-- ==== Proof.Model.lean ====
/- The mathematics of the feed-forward block's backward pass over the real numbers, element by element: what both
   programs compute at finite arguments. -/
module

public import proofs.«01_k».proof.Proof.Grad

@[expose] public section

noncomputable section

namespace Cert.Model

open Idealize.ShloMosaic Cert.Grad
open scoped BigOperators

/-- The arguments, as real numbers. -/
structure Data where
  x : Fin 8192 → Fin 1024 → ℝ
  mixed : Fin 8192 → Fin 1024 → ℝ
  gt : Fin 1024 → ℝ
  g : Fin 1024 → ℝ
  b : Fin 1024 → ℝ
  sc : Fin 1024 → ℝ
  sh : Fin 1024 → ℝ
  w1 : Fin 1024 → Fin 4096 → ℝ
  w2 : Fin 4096 → Fin 1024 → ℝ
  dx1 : Fin 8192 → Fin 1024 → ℝ
  dff : Fin 8192 → Fin 1024 → ℝ

/-- A matrix of real numbers as an array of extended reals. -/
def lift {a b : ℕ} (f : Fin a → Fin b → ℝ) : (⟨2, ![a, b]⟩ : Shape).Idx → EReal := fun i => ((f (i 0) (i 1) : ℝ) : EReal)

/-- A vector of real numbers as a one-row array of extended reals. -/
def row {b : ℕ} (f : Fin b → ℝ) : (⟨2, ![1, b]⟩ : Shape).Idx → EReal := fun i => ((f (i 1) : ℝ) : EReal)

theorem lift_apply {a b : ℕ} (f : Fin a → Fin b → ℝ) (i : Shape.Idx ⟨2, ![a, b]⟩) :
    lift f i = ((f (i 0) (i 1) : ℝ) : EReal) := rfl

theorem row_apply {b : ℕ} (f : Fin b → ℝ) (i : Shape.Idx ⟨2, ![1, b]⟩) :
    row f i = ((f (i 1) : ℝ) : EReal) := rfl

namespace Data
variable (D : Data)

/-- The residual sum before the normalisation. -/
def z (r : Fin 8192) (l : Fin 1024) : ℝ := alpha * D.x r l + (1 + D.gt l) * D.mixed r l
/-- The normalised residual stream. -/
def x1 (r : Fin 8192) (l : Fin 1024) : ℝ := xhat (D.z r) l * D.g l + D.b l
/-- The modulated input of the feed-forward block. -/
def u2 (r : Fin 8192) (l : Fin 1024) : ℝ := D.x1 r l * (1 + D.sc l) + D.sh l
/-- The hidden layer before its activation. -/
def h (r : Fin 8192) (f : Fin 4096) : ℝ := ∑ k, D.u2 r k * D.w1 k f
/-- The hidden layer: the square of the positive part. -/
def hid (r : Fin 8192) (f : Fin 4096) : ℝ := max (D.h r f) 0 * max (D.h r f) 0
/-- The gradient of the hidden layer before its activation. -/
def dh (r : Fin 8192) (f : Fin 4096) : ℝ := (∑ k, D.dff r k * D.w2 f k) * (2 * max (D.h r f) 0)
/-- The gradient of the modulated input. -/
def du2 (r : Fin 8192) (l : Fin 1024) : ℝ := ∑ f, D.dh r f * D.w1 l f
/-- The whole gradient of the normalised stream. -/
def dx (r : Fin 8192) (l : Fin 1024) : ℝ := D.dx1 r l + D.du2 r l * (1 + D.sc l)
/-- The gradient of the residual sum. -/
def dz (r : Fin 8192) (l : Fin 1024) : ℝ := lnGrad (D.z r) (fun k => D.dx r k * D.g k) l
/-- The five column sums: the gradients of the scale and the shift of the modulation, of the gain and the bias of the
    normalisation, and of the gate. -/
def st (j : ℕ) (l : Fin 1024) : ℝ :=
  match j with
  | 0 => ∑ r, D.du2 r l * D.x1 r l
  | 1 => ∑ r, D.du2 r l
  | 2 => ∑ r, D.dx r l * xhat (D.z r) l
  | 3 => ∑ r, D.dx r l
  | 4 => ∑ r, D.dz r l * D.mixed r l
  | _ => 0

/-- A real number times twice a positive part, as a selection on the sign. -/
theorem gate_eq (x h : ℝ) : (if 0 < h then x * (2 * max h 0) else 0) = x * (2 * max h 0) := by
  split_ifs with hh
  · rfl
  · rw [max_eq_right (not_lt.mp hh)]; ring

end Data

end Cert.Model

end
-- ==== Proof.RefValue.lean ====
/- The reference's stages at finite arguments: each is the model's real expression. -/
module

public import proofs.«01_k».proof.Proof.Model
public import proofs.«01_k».proof.Proof.Gen.ReferenceIdeal.Read

@[expose] public section

set_option maxRecDepth 16384

noncomputable section

namespace Cert.RefValue

open Cert.ReferenceIdeal Cert.ReferenceIdeal.Read Cert.Model Cert.Grad
open Idealize.ShloMosaic Idealize.ShloMosaic.TcCoe Idealize.SL.Sem Idealize.ShloMosaic.StableHlo
open scoped BigOperators

variable (D : Data)

/-! ## Re-indexings through a unit axis -/

/-- A row and a column as an index of the tall matrices. -/
def pt (r : Fin 8192) (l : Fin 1024) : S8192x1024.Idx := ValueIdx.ix2 r l

theorem e64 (i : S8192x1024.Idx) : idx_main_v64 i = i := funext fun a => Fin.ext (by
  have h1 : (i 1).val < 1024 := (i 1).isLt
  match a with
  | ⟨0, _⟩ => show ((i 0).val * 1024 + (i 1).val) / 1024 = (i 0).val; omega
  | ⟨1, _⟩ => show ((i 0).val * 1024 + (i 1).val) % 1024 = (i 1).val; omega)

theorem e74 (i : S8192x1.Idx) (k : Fin 1024) : idx_main_v73 (idx_main_v74 i) k = pt (i 0) k := funext fun a => Fin.ext (by
  have h1 : (i 1).val < 1 := (i 1).isLt
  match a with
  | ⟨0, _⟩ => show (i 0).val * 1 + (i 1).val = (i 0).val; omega
  | ⟨1, _⟩ => rfl)

theorem e57 (i : S1x1024.Idx) (k : Fin 8192) : idx_main_v56 (idx_main_v57 i) k = pt k (i 1) := funext fun a => Fin.ext (by
  have h1 : (i 0).val < 1 := (i 0).isLt
  match a with
  | ⟨0, _⟩ => rfl
  | ⟨1, _⟩ => show (i 0).val * 1024 + (i 1).val = (i 1).val; omega)

theorem n_ne : (1024 : ℝ) ≠ 0 := by norm_num

/-- The residual sum. -/
theorem v7 (i) : val_main_v7 (F := Ideal) (lift D.x) (lift D.mixed) (row D.gt) i = ((D.z (i 0) (i 1) : ℝ) : EReal) := by
  rw [val_main_v7_apply, val_main_v2_apply, val_main_v6_apply, val_main_v1_apply, val_main_v5_apply, val_main_v4_apply,
    val_main_v3_apply, val_main_cst_0_apply, val_main_cst_1_apply]
  simp only [Ideal.addf_def, Ideal.mulf_def, Ideal.ofBits_def, lit_alpha, lit_one, lift_apply, row_apply, ← EReal.coe_add,
    ← EReal.coe_mul]
  rfl

/-- The row means. -/
theorem v11 (i) : val_main_v11 (F := Ideal) (lift D.x) (lift D.mixed) (row D.gt) i = ((mean (D.z (i 0)) : ℝ) : EReal) := by
  rw [val_main_v11_apply, val_main_v9_apply, val_main_v8_apply, val_main_v10_apply, val_main_cst_2_apply, val_main_cst_3_apply]
  simp only [Ideal.hostDivf_def, Ideal.ofBits_def, lit_n, Ideal.ofBits_zero_f32, zero_add, v7, coe_sum, div_coe_coe _ n_ne]
  rfl

theorem v13 (i) : val_main_v13 (F := Ideal) (lift D.x) (lift D.mixed) (row D.gt) i = ((cen (D.z (i 0)) (i 1) : ℝ) : EReal) := by
  rw [val_main_v13_apply, val_main_v12_apply, v7, v11, Ideal.subf_def, ← EReal.coe_sub]
  rfl

theorem v22 (i) : val_main_v22 (F := Ideal) (lift D.x) (lift D.mixed) (row D.gt) i = ((cen (D.z (i 0)) (i 1) : ℝ) : EReal) := by
  rw [val_main_v22_apply, val_main_v21_apply, v7, v11, Ideal.subf_def, ← EReal.coe_sub]
  rfl

theorem v16 (i) : val_main_v16 (F := Ideal) (lift D.x) (lift D.mixed) (row D.gt) i = ((2 * cen (D.z (i 0)) (i 1) : ℝ) : EReal) := by
  rw [val_main_v16_apply, val_main_v15_apply, v13, val_main_cst_4_apply, Ideal.mulf_def, Ideal.ofBits_def, lit_two, ← EReal.coe_mul]

theorem v24 (i) : val_main_v24 (F := Ideal) (lift D.x) (lift D.mixed) (row D.gt) i = ((vare (D.z (i 0)) : ℝ) : EReal) := by
  rw [val_main_v24_apply, val_main_v20_apply, val_main_v18_apply, val_main_v17_apply, val_main_v19_apply, val_main_v23_apply,
    val_main_cst_5_apply, val_main_cst_6_apply, val_main_cst_7_apply]
  simp only [Ideal.addf_def, Ideal.mulf_def, Ideal.hostDivf_def, Ideal.ofBits_def, lit_n, lit_eps, Ideal.ofBits_zero_f32, zero_add, val_main_v14_apply,
    v13, ← EReal.coe_mul, coe_sum, div_coe_coe _ n_ne, ← EReal.coe_add]
  rfl

theorem v25 (i) : val_main_v25 (F := Ideal) (lift D.x) (lift D.mixed) (row D.gt) i = ((rstd (D.z (i 0)) : ℝ) : EReal) := by
  rw [val_main_v25_apply, v24]
  exact rsqrt_pos (vare_pos _)

theorem v28 (i) : val_main_v28 (F := Ideal) (lift D.x) (lift D.mixed) (row D.gt) i
    = ((-(1 / 2) * (rstd (D.z (i 0)) / vare (D.z (i 0))) : ℝ) : EReal) := by
  rw [val_main_v28_apply, val_main_v26_apply, val_main_v27_apply, val_main_cst_8_apply, v24, v25, Ideal.mulf_def, Ideal.hostDivf_def,
    Ideal.ofBits_def, lit_neg_half, div_coe_coe _ (vare_pos _).ne', ← EReal.coe_mul]

theorem v30 (i) : val_main_v30 (F := Ideal) (lift D.x) (lift D.mixed) (row D.gt) i = ((xhat (D.z (i 0)) (i 1) : ℝ) : EReal) := by
  rw [val_main_v30_apply, val_main_v29_apply, v22, v25, Ideal.mulf_def, ← EReal.coe_mul]
  rfl

/-- The normalised stream. -/
theorem v34 (i) : val_main_v34 (F := Ideal) (lift D.x) (lift D.mixed) (row D.gt) (row D.g) (row D.b) i
    = ((D.x1 (i 0) (i 1) : ℝ) : EReal) := by
  rw [val_main_v34_apply, val_main_v32_apply, val_main_v31_apply, val_main_v33_apply, v30, row_apply, row_apply, Ideal.addf_def,
    Ideal.mulf_def, ← EReal.coe_mul, ← EReal.coe_add]
  rfl

theorem v36 (i) : val_main_v36 (F := Ideal) (row D.sc) i = ((1 + D.sc (i 1) : ℝ) : EReal) := by
  rw [val_main_v36_apply, val_main_v35_apply, val_main_cst_9_apply, row_apply, Ideal.addf_def, Ideal.ofBits_def, lit_one, ← EReal.coe_add]

theorem v40 (i) : val_main_v40 (F := Ideal) (lift D.x) (lift D.mixed) (row D.gt) (row D.g) (row D.b) (row D.sc) (row D.sh) i
    = ((D.u2 (i 0) (i 1) : ℝ) : EReal) := by
  rw [val_main_v40_apply, val_main_v38_apply, val_main_v37_apply, val_main_v39_apply, v34, v36, row_apply, Ideal.addf_def,
    Ideal.mulf_def, ← EReal.coe_mul, ← EReal.coe_add]
  rfl

/-- The hidden layer before its activation. -/
theorem v42 (i) : val_main_v42 (F := Ideal) (lift D.x) (lift D.mixed) (row D.gt) (row D.g) (row D.b) (row D.sc) (row D.sh) (lift D.w1) i
    = ((D.h (i 0) (i 1) : ℝ) : EReal) := by
  rw [val_main_v42_apply, val_main_v41_apply, val_main_v0_apply, val_main_cst_apply]
  simp only [Ideal.addf_def, Ideal.ofBits_def, Ideal.ofBits_zero_f32, add_zero, v40, lift_apply, ← EReal.coe_mul, coe_sum]
  rfl

theorem v43 (i) : val_main_v43 (F := Ideal) (lift D.x) (lift D.mixed) (row D.gt) (row D.g) (row D.b) (row D.sc) (row D.sh) (lift D.w1) i
    = ((max (D.h (i 0) (i 1)) 0 : ℝ) : EReal) := by
  rw [val_main_v43_apply, v42, val_main_call0_v0_apply, val_main_call0_cst_apply, Ideal.maximumf_def, Ideal.ofBits_def,
    Ideal.ofBits_zero_f32, max_zero_coe]

/-- The gradient of the hidden layer. -/
theorem v54 (i) : val_main_v54 (F := Ideal) (lift D.x) (lift D.mixed) (row D.gt) (row D.g) (row D.b) (row D.sc) (row D.sh) (lift D.w1)
    (lift D.w2) (lift D.dff) i = ((D.dh (i 0) (i 1) : ℝ) : EReal) := by
  have h0 : ∀ x : ℝ, Ideal.cmp .ogt (x : EReal) 0 = BitVec.ofBool (decide (0 < x)) := by
    intro x
    simp [Ideal.cmp]
  rw [val_main_v54_apply, val_main_v45_apply, val_main_v52_apply, val_main_v53_apply, val_main_v44_apply, val_main_v49_apply,
    val_main_v48_apply, v42, v43, val_main_v51_apply, val_main_cst_10_apply, val_main_cst_12_apply, val_main_cst_13_apply]
  simp only [Ideal.mulf_def, Ideal.ofBits_def, Ideal.ofBits_zero_f32, lit_two, lift_apply, ← EReal.coe_mul, coe_sum]
  refine (congrArg (fun w => Scalar.select w _ _) (h0 (D.h (i 0) (i 1)))).trans ?_
  by_cases hh : 0 < D.h (i 0) (i 1)
  · rw [decide_eq_true hh]
    rfl
  · rw [decide_eq_false hh]
    refine Eq.trans (b := ((0 : ℝ) : EReal)) rfl (congrArg (fun t : ℝ => (t : EReal)) (Eq.symm ?_))
    exact (congrArg (fun t : ℝ => _ * (2 * t)) (max_eq_right (not_lt.mp hh))).trans (by rw [mul_zero, mul_zero])

theorem v55 (i) : val_main_v55 (F := Ideal) (lift D.x) (lift D.mixed) (row D.gt) (row D.g) (row D.b) (row D.sc) (row D.sh) (lift D.w1)
    (lift D.w2) (lift D.dff) i = ((D.du2 (i 0) (i 1) : ℝ) : EReal) := by
  rw [val_main_v55_apply]
  simp only [v54, lift_apply, ← EReal.coe_mul, coe_sum]
  rfl

theorem v63 (i) : val_main_v63 (F := Ideal) (lift D.x) (lift D.mixed) (row D.gt) (row D.g) (row D.b) (row D.sc) (row D.sh) (lift D.w1)
    (lift D.w2) (lift D.dx1) (lift D.dff) i = ((D.dx (i 0) (i 1) : ℝ) : EReal) := by
  rw [val_main_v63_apply, val_main_v62_apply, val_main_v61_apply, v55, v36, lift_apply, Ideal.addf_def, Ideal.mulf_def, ← EReal.coe_mul,
    ← EReal.coe_add]
  rfl

theorem v71 (i) : val_main_v71 (F := Ideal) (lift D.x) (lift D.mixed) (row D.gt) (row D.g) (row D.b) (row D.sc) (row D.sh) (lift D.w1)
    (lift D.w2) (lift D.dx1) (lift D.dff) i = ((D.dx (i 0) (i 1) * D.g (i 1) : ℝ) : EReal) := by
  rw [val_main_v71_apply, val_main_v70_apply, val_main_v64_apply, e64, v63, row_apply, Ideal.mulf_def, ← EReal.coe_mul]
  rfl

theorem v76 (i) : val_main_v76 (F := Ideal) (lift D.x) (lift D.mixed) (row D.gt) (row D.g) (row D.b) (row D.sc) (row D.sh) (lift D.w1)
    (lift D.w2) (lift D.dx1) (lift D.dff) i = ((D.dx (i 0) (i 1) * D.g (i 1) * rstd (D.z (i 0)) : ℝ) : EReal) := by
  rw [val_main_v76_apply, val_main_v75_apply, v71, v25, Ideal.mulf_def, ← EReal.coe_mul]
  rfl

theorem v82 (i) : val_main_v82 (F := Ideal) (lift D.x) (lift D.mixed) (row D.gt) (row D.g) (row D.b) (row D.sc) (row D.sh) (lift D.w1)
    (lift D.w2) (lift D.dx1) (lift D.dff) i
    = (((∑ k, cen (D.z (i 0)) k * (D.dx (i 0) k * D.g k)) * (-(1 / 2) * (rstd (D.z (i 0)) / vare (D.z (i 0)))) / 1024 : ℝ) : EReal) := by
  rw [val_main_v82_apply, val_main_v77_apply, val_main_v74_apply, val_main_v73_apply, val_main_v81_apply, v28, val_main_cst_18_apply,
    val_main_cst_20_apply]
  simp only [e74, val_main_v72_apply, v22, v71, Ideal.hostDivf_def, Ideal.mulf_def, Ideal.ofBits_def, lit_n, Ideal.ofBits_zero_f32, zero_add,
    ← EReal.coe_mul, coe_sum, div_coe_coe _ n_ne]
  rfl

theorem v85 (i) : val_main_v85 (F := Ideal) (lift D.x) (lift D.mixed) (row D.gt) (row D.g) (row D.b) (row D.sc) (row D.sh) (lift D.w1)
    (lift D.w2) (lift D.dx1) (lift D.dff) i
    = (((∑ k, cen (D.z (i 0)) k * (D.dx (i 0) k * D.g k)) * (-(1 / 2) * (rstd (D.z (i 0)) / vare (D.z (i 0)))) / 1024 * (2 * cen (D.z (i 0)) (i 1)) : ℝ) : EReal) := by
  rw [val_main_v85_apply, val_main_v84_apply, val_main_v83_apply, v16, val_main_cst_21_apply]
  simp only [v82, Ideal.mulf_def, Ideal.ofBits_def, Ideal.ofBits_zero_f32, zero_add, coe_sum, ← EReal.coe_mul]
  rw [Fin.sum_univ_one]
  rfl

/-- The gradient of the residual sum. -/
theorem v95 (i) : val_main_v95 (F := Ideal) (lift D.x) (lift D.mixed) (row D.gt) (row D.g) (row D.b) (row D.sc) (row D.sh) (lift D.w1)
    (lift D.w2) (lift D.dx1) (lift D.dff) i = ((D.dz (i 0) (i 1) : ℝ) : EReal) := by
  refine Eq.trans ?_ (congrArg (fun t : ℝ => (t : EReal)) (lnChain_eq (D.z (i 0)) (fun k => D.dx (i 0) k * D.g k) (i 1)))
  rw [val_main_v95_apply, val_main_v89_apply, val_main_v94_apply, val_main_v93_apply, v76, v85, val_main_cst_24_apply]
  have h80 (i : S8192x1.Idx) (k : Fin 1024) : idx_main_v79 (idx_main_v80 i) k = pt (i 0) k := e74 i k
  have h88 (i : S8192x1.Idx) (k : Fin 1024) : idx_main_v87 (idx_main_v88 i) k = pt (i 0) k := e74 i k
  simp only [h80, h88, val_main_v92_apply, val_main_v90_apply, val_main_v91_apply, val_main_v80_apply, val_main_v88_apply, val_main_v79_apply,
    val_main_v87_apply, val_main_v78_apply, val_main_v86_apply, v76, v85, val_main_cst_19_apply, val_main_cst_22_apply, val_main_cst_23_apply]
  simp only [Ideal.addf_def, Ideal.mulf_def, Ideal.hostDivf_def, Ideal.ofBits_def, Ideal.hostNegf_def, Ideal.negf_def, lit_n, Ideal.ofBits_zero_f32, zero_add,
    ← EReal.coe_neg, coe_sum, ← EReal.coe_add, div_coe_coe _ n_ne, ← EReal.coe_mul]
  rw [Fin.sum_univ_one]
  rfl

/-! ## The column sums -/

theorem v57 (i) : val_main_v57 (F := Ideal) (lift D.x) (lift D.mixed) (row D.gt) (row D.g) (row D.b) (row D.sc) (row D.sh) (lift D.w1)
    (lift D.w2) (lift D.dff) i = ((D.st 1 (i 1) : ℝ) : EReal) := by
  rw [val_main_v57_apply, val_main_v56_apply, val_main_cst_14_apply]
  simp only [e57, v55, Ideal.ofBits_def, Ideal.ofBits_zero_f32, zero_add, coe_sum]
  rfl

theorem v60 (i) : val_main_v60 (F := Ideal) (lift D.x) (lift D.mixed) (row D.gt) (row D.g) (row D.b) (row D.sc) (row D.sh) (lift D.w1)
    (lift D.w2) (lift D.dff) i = ((D.st 0 (i 1) : ℝ) : EReal) := by
  have e (i : S1x1024.Idx) (k : Fin 8192) : idx_main_v59 (idx_main_v60 i) k = pt k (i 1) := e57 i k
  rw [val_main_v60_apply, val_main_v59_apply, val_main_cst_15_apply]
  simp only [e, val_main_v58_apply, v34, v55, Ideal.mulf_def, Ideal.ofBits_def, Ideal.ofBits_zero_f32, zero_add, ← EReal.coe_mul, coe_sum]
  exact congrArg (fun t : ℝ => (t : EReal)) (Finset.sum_congr rfl fun k _ => mul_comm _ _)

theorem v66 (i) : val_main_v66 (F := Ideal) (lift D.x) (lift D.mixed) (row D.gt) (row D.g) (row D.b) (row D.sc) (row D.sh) (lift D.w1)
    (lift D.w2) (lift D.dx1) (lift D.dff) i = ((D.st 3 (i 1) : ℝ) : EReal) := by
  have e (i : S1x1024.Idx) (k : Fin 8192) : idx_main_v65 (idx_main_v66 i) k = pt k (i 1) := e57 i k
  rw [val_main_v66_apply, val_main_v65_apply, val_main_cst_16_apply]
  simp only [e, v63, Ideal.ofBits_def, Ideal.ofBits_zero_f32, zero_add, coe_sum]
  rfl

theorem v69 (i) : val_main_v69 (F := Ideal) (lift D.x) (lift D.mixed) (row D.gt) (row D.g) (row D.b) (row D.sc) (row D.sh) (lift D.w1)
    (lift D.w2) (lift D.dx1) (lift D.dff) i = ((D.st 2 (i 1) : ℝ) : EReal) := by
  have e (i : S1x1024.Idx) (k : Fin 8192) : idx_main_v68 (idx_main_v69 i) k = pt k (i 1) := e57 i k
  rw [val_main_v69_apply, val_main_v68_apply, val_main_cst_17_apply]
  simp only [e, val_main_v67_apply, val_main_v64_apply, e64, v30, v63, Ideal.mulf_def, Ideal.ofBits_def, Ideal.ofBits_zero_f32, zero_add,
    ← EReal.coe_mul, coe_sum]
  exact congrArg (fun t : ℝ => (t : EReal)) (Finset.sum_congr rfl fun k _ => mul_comm _ _)

theorem v100 (i) : val_main_v100 (F := Ideal) (lift D.x) (lift D.mixed) (row D.gt) (row D.g) (row D.b) (row D.sc) (row D.sh) (lift D.w1)
    (lift D.w2) (lift D.dx1) (lift D.dff) i = ((D.st 4 (i 1) : ℝ) : EReal) := by
  have e (i : S1x1024.Idx) (k : Fin 8192) : idx_main_v99 (idx_main_v100 i) k = pt k (i 1) := e57 i k
  rw [val_main_v100_apply, val_main_v99_apply, val_main_cst_25_apply]
  simp only [e, val_main_v98_apply, v95, lift_apply, Ideal.mulf_def, Ideal.ofBits_def, Ideal.ofBits_zero_f32, zero_add, ← EReal.coe_mul, coe_sum]
  rfl

/-! ## The results -/

/-- The gradient of the hidden layer, as the reference returns it. -/
theorem out0 : val_main_v103 (F := Ideal) (lift D.x) (lift D.mixed) (row D.gt) (row D.g) (row D.b) (row D.sc) (row D.sh) (lift D.w1)
    (lift D.w2) (lift D.dff) = lift D.dh := by
  funext i
  rw [val_main_v103_apply, v54]
  rfl

/-- The gradient of the residual input. -/
theorem out1 : val_main_v102 (F := Ideal) (lift D.x) (lift D.mixed) (row D.gt) (row D.g) (row D.b) (row D.sc) (row D.sh) (lift D.w1)
    (lift D.w2) (lift D.dx1) (lift D.dff) = lift fun r l => alpha * D.dz r l := by
  funext i
  rw [val_main_v102_apply, val_main_v101_apply, val_main_cst_26_apply, v95, Ideal.ofBits_def, lit_alpha, Ideal.mulf_def, ← EReal.coe_mul]
  rfl

/-- The gradient of the mixed branch. -/
theorem out2 : val_main_v104 (F := Ideal) (lift D.x) (lift D.mixed) (row D.gt) (row D.g) (row D.b) (row D.sc) (row D.sh) (lift D.w1)
    (lift D.w2) (lift D.dx1) (lift D.dff) = lift fun r l => (1 + D.gt l) * D.dz r l := by
  funext i
  rw [val_main_v104_apply, val_main_v97_apply, val_main_v96_apply, val_main_v4_apply, val_main_v3_apply, val_main_cst_1_apply, v95, row_apply,
    Ideal.ofBits_def, lit_one, Ideal.addf_def, Ideal.mulf_def, ← EReal.coe_add, ← EReal.coe_mul]
  rfl

/-- The five column sums over three rows of zeros. -/
theorem out3 : val_main_v106 (F := Ideal) (lift D.x) (lift D.mixed) (row D.gt) (row D.g) (row D.b) (row D.sc) (row D.sh) (lift D.w1)
    (lift D.w2) (lift D.dx1) (lift D.dff) = lift (a := 8) fun j l => D.st j.val l := by
  funext i
  unfold val_main_v106 val_main_v105
  idx_vars i
  pointwise
  simp only [v57, v60, v66, v69, v100]
  have hz : ∀ i, val_main_call1_v0 (F := Ideal) i = 0 := by
    intro i
    show (((0#32).toInt : ℝ) : EReal) = 0
    simp
  fin_vals i0 with h0
  · obtain rfl : i0 = 0 := Fin.ext h0
    rfl
  · obtain rfl : i0 = 1 := Fin.ext h0
    rfl
  · obtain rfl : i0 = 2 := Fin.ext h0
    rfl
  · obtain rfl : i0 = 3 := Fin.ext h0
    rfl
  · obtain rfl : i0 = 4 := Fin.ext h0
    rfl
  all_goals
    rw [dif_neg (by omega), hz, lift_apply]
    show (0 : EReal) = ((D.st i0.val i1 : ℝ) : EReal)
    rw [h0]
    rfl

end Cert.RefValue

end
-- ==== Proof.HostValue.lean ====
/- What the kernel's input buffers hold when its region begins, at finite arguments. -/
module

public import proofs.«01_k».proof.Proof.RefValue
public import proofs.«01_k».proof.Proof.Gen.KernelIdeal.Frame
public import Idealize.ShloMosaic.Lib.Claim

@[expose] public section

set_option maxRecDepth 16384

noncomputable section

namespace Cert.HostValue

open Cert.KernelIdeal Cert.KernelIdeal.Gen Cert.Model Cert.Grad
open Idealize.ShloMosaic Idealize.ShloMosaic.TcCoe Idealize.SL.Sem
open scoped BigOperators

variable (m : (ℓ : Loc nD τ sig) → Buf (Elt Ideal) ℓ) (c : Dev nD)

theorem V6 : (V m c main_v6 : S8192x1024.Idx → EReal) = Cert.ReferenceIdeal.Read.val_main_v7 (F := Ideal) (m ((c : Thread nD τ).loc main_arg0)) (m ((c : Thread nD τ).loc main_arg1)) (m ((c : Thread nD τ).loc main_arg2)) := by
  rfl

theorem V28 : (V m c main_v28 : S8192x1024.Idx → EReal) = Cert.ReferenceIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rfl

theorem V38 (i : S8192x4096.Idx) : (V m c main_v38 : S8192x4096.Idx → EReal) i
    = max (Cert.ReferenceIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i) (Ideal.ofBits .f32 0x00000000#32)
      * max (Cert.ReferenceIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i) (Ideal.ofBits .f32 0x00000000#32) := by
  rfl

theorem V40 (i : S8x1024.Idx) : (V m c main_v40 : S8x1024.Idx → EReal) i
    = concatenate S8x1024 0 [⟨S1x1024, broadcastInDim S1x1024 ![] bcast_S_S1x1024 (constant (F := Ideal) S_ .f32 0x00000000#32)⟩,
        ⟨S1x1024, broadcastInDim S1x1024 ![] bcast_S_S1x1024 (constant (F := Ideal) S_ .f32 0x00000000#32)⟩,
        ⟨S1x1024, m ((c : Thread nD τ).loc main_arg2)⟩,
        ⟨S1x1024, broadcastInDim S1x1024 ![] bcast_S_S1x1024 (constant (F := Ideal) S_ .f32 0x00000000#32)⟩,
        ⟨S1x1024, m ((c : Thread nD τ).loc main_arg5)⟩,
        ⟨S1x1024, broadcastInDim S1x1024 ![] bcast_S_S1x1024 (constant (F := Ideal) S_ .f32 0x00000000#32)⟩,
        ⟨S1x1024, broadcastInDim S1x1024 ![] bcast_S_S1x1024 (constant (F := Ideal) S_ .f32 0x00000000#32)⟩,
        ⟨S1x1024, broadcastInDim S1x1024 ![] bcast_S_S1x1024 (constant (F := Ideal) S_ .f32 0x00000000#32)⟩]
        concatenates_S1x1024_S1x1024_S1x1024_S1x1024_S1x1024_S1x1024_S1x1024_S1x1024_S8x1024_d0 i := by
  rfl

theorem V40_2 (l : Fin 1024) : (V m c main_v40 : S8x1024.Idx → EReal) (ix2 2 l) = (m ((c : Thread nD τ).loc main_arg2) : S1x1024.Idx → EReal) (ix2 0 l) := by
  rw [V40]
  pointwise

theorem V40_4 (l : Fin 1024) : (V m c main_v40 : S8x1024.Idx → EReal) (ix2 4 l) = (m ((c : Thread nD τ).loc main_arg5) : S1x1024.Idx → EReal) (ix2 0 l) := by
  rw [V40]
  pointwise

theorem V42_0 (l : Fin 1024) : (V m c main_v42 : S8x1024.Idx → EReal) (ix2 0 l) = (m ((c : Thread nD τ).loc main_arg3) : S1x1024.Idx → EReal) (ix2 0 l) := by
  trans pad S8x1024 ![0, 0] ![6, 0] ![0, 0] (concatenate S2x1024 0 [⟨S1x1024, (m ((c : Thread nD τ).loc main_arg3) : S1x1024.Idx → EReal)⟩,
    ⟨S1x1024, m ((c : Thread nD τ).loc main_arg4)⟩] concatenates_S1x1024_S1x1024_S2x1024_d0)
    (sitofp .f32 (constantI S_ 32 0#32) : FVec Ideal S_ .f32) pads_S2x1024_S8x1024_060_000 h_S_ (ix2 0 l)
  · rfl
  pointwise

theorem V45 (d : Fin 8) (k : Fin 1024) (j : Fin 512) : (V m c main_v45 : S8x1024x512.Idx → EReal) (ix3 d k j)
   = (m ((c : Thread nD τ).loc main_arg7) : S1024x4096.Idx → EReal) (ix2 k ⟨d.val * 512 + j.val, by omega⟩) := by
  trans (transpose S8x1024x512 [1, 0, 2] (shapeCast S1024x8x512 (m ((c : Thread nD τ).loc main_arg7) : S1024x4096.Idx → EReal) shapeCasts_S1024x4096_S1024x8x512) transposes_S1024x8x512_S8x1024x512_1_0_2) (ix3 d k j)
  · rfl
  pointwise

theorem V46 (i : S8192x1024.Idx) : (V m c main_v46) i = m ((c : Thread nD τ).loc main_arg10) i := by
  rfl

theorem V47 (i : S4096x1024.Idx) : (V m c main_v47) i = m ((c : Thread nD τ).loc main_arg8) i := by
  rfl

/-- The eleven arguments hold the real data. -/
structure Feeds (D : Data) : Prop where
  h0 : (m ((c : Thread nD τ).loc main_arg0) : S8192x1024.Idx → EReal) = lift D.x
  h1 : (m ((c : Thread nD τ).loc main_arg1) : S8192x1024.Idx → EReal) = lift D.mixed
  h2 : (m ((c : Thread nD τ).loc main_arg2) : S1x1024.Idx → EReal) = row D.gt
  h3 : (m ((c : Thread nD τ).loc main_arg3) : S1x1024.Idx → EReal) = row D.g
  h4 : (m ((c : Thread nD τ).loc main_arg4) : S1x1024.Idx → EReal) = row D.b
  h5 : (m ((c : Thread nD τ).loc main_arg5) : S1x1024.Idx → EReal) = row D.sc
  h6 : (m ((c : Thread nD τ).loc main_arg6) : S1x1024.Idx → EReal) = row D.sh
  h7 : (m ((c : Thread nD τ).loc main_arg7) : S1024x4096.Idx → EReal) = lift D.w1
  h8 : (m ((c : Thread nD τ).loc main_arg8) : S4096x1024.Idx → EReal) = lift D.w2
  h9 : (m ((c : Thread nD τ).loc main_arg9) : S8192x1024.Idx → EReal) = lift D.dx1
  h10 : (m ((c : Thread nD τ).loc main_arg10) : S8192x1024.Idx → EReal) = lift D.dff

variable {m c} {D : Data} (H : Feeds m c D)
include H

/-- The residual sum. -/
theorem at6 (r : Fin 8192) (l : Fin 1024) : (V m c main_v6 : S8192x1024.Idx → EReal) (ix2 r l) = ((D.z r l : ℝ) : EReal) := by
  rw [V6, H.h0, H.h1, H.h2, Cert.RefValue.v7]
  rfl

/-- The normalised rows. -/
theorem at28 (r : Fin 8192) (l : Fin 1024) : (V m c main_v28 : S8192x1024.Idx → EReal) (ix2 r l) = ((D.x1 r l : ℝ) : EReal) := by
  rw [V28, H.h0, H.h1, H.h2, H.h3, H.h4, Cert.RefValue.v34]
  rfl

/-- The squared hidden layer. -/
theorem at38 (r : Fin 8192) (f : Fin 4096) : (V m c main_v38 : S8192x4096.Idx → EReal) (ix2 r f) = ((D.hid r f : ℝ) : EReal) := by
  have h := Cert.RefValue.v42 (D := D) (ix2 r f)
  rw [Cert.ReferenceIdeal.Read.val_main_v42_apply, Cert.ReferenceIdeal.Read.val_main_v0_apply, Cert.ReferenceIdeal.Read.val_main_cst_apply,
    Ideal.addf_def, Ideal.ofBits_def, Ideal.ofBits_zero_f32, add_zero] at h
  rw [V38, H.h0, H.h1, H.h2, H.h3, H.h4, H.h5, H.h6, H.h7, h, Ideal.ofBits_zero_f32, max_zero_coe, ← EReal.coe_mul]
  rfl

theorem at40_2 (l : Fin 1024) : (V m c main_v40 : S8x1024.Idx → EReal) (ix2 2 l) = ((D.gt l : ℝ) : EReal) := by
  rw [V40_2, H.h2]
  rfl

theorem at40_4 (l : Fin 1024) : (V m c main_v40 : S8x1024.Idx → EReal) (ix2 4 l) = ((D.sc l : ℝ) : EReal) := by
  rw [V40_4, H.h5]
  rfl

theorem at42_0 (l : Fin 1024) : (V m c main_v42 : S8x1024.Idx → EReal) (ix2 0 l) = ((D.g l : ℝ) : EReal) := by
  rw [V42_0, H.h3]
  rfl

theorem at45 (d : Fin 8) (k : Fin 1024) (j : Fin 512) : (V m c main_v45 : S8x1024x512.Idx → EReal) (ix3 d k j)
    = ((D.w1 k ⟨d.val * 512 + j.val, by omega⟩ : ℝ) : EReal) := by
  rw [V45, H.h7]
  rfl

theorem at46 (r : Fin 8192) (k : Fin 1024) : (V m c main_v46 : S8192x1024.Idx → EReal) (ix2 r k) = ((D.dff r k : ℝ) : EReal) := by
  exact (V46 m c _).trans (congrFun H.h10 _)

theorem at47 (f : Fin 4096) (k : Fin 1024) : (V m c main_v47 : S4096x1024.Idx → EReal) (ix2 f k) = ((D.w2 f k : ℝ) : EReal) := by
  exact (V47 m c _).trans (congrFun H.h8 _)

theorem atdx1 (r : Fin 8192) (k : Fin 1024) : (V m c main_arg9 : S8192x1024.Idx → EReal) (ix2 r k) = ((D.dx1 r k : ℝ) : EReal) := by
  exact congrFun H.h9 _

theorem atmixed (r : Fin 8192) (k : Fin 1024) : (V m c main_arg1 : S8192x1024.Idx → EReal) (ix2 r k) = ((D.mixed r k : ℝ) : EReal) := by
  exact congrFun H.h1 _

end Cert.HostValue

end
-- ==== Proof.BlockDown.lean ====
/- One block of 256 rows of the kernel: the gradient of the hidden layer, one shard of 512 columns at a time, and its product
   back through the first weight. -/
module

public import proofs.«01_k».proof.Proof.Model
public import proofs.«01_k».proof.Proof.Gen.KernelIdeal.Skeleton
public import proofs.«01_k».proof.Proof.Gen.KernelIdeal.Frame
public import Idealize.ShloMosaic.Lib.Pipeline.Value

@[expose] public section

set_option maxRecDepth 16384

noncomputable section

namespace Cert.BlockValue

open Cert.KernelIdeal Cert.KernelIdeal.Gen Cert.Model Cert.Grad
open Idealize.ShloMosaic Idealize.ShloMosaic.TcCoe Idealize.SL.Sem
open scoped BigOperators

/-- Column `j` of shard `d`. -/
def col (d : Fin 8) (j : Fin 512) : Fin 4096 := ⟨d.val * 512 + j.val, by omega⟩

/-- The block's real data: the incoming gradient, the positive part of the hidden layer, and the two weights. -/
structure Down where
  a : Fin 256 → Fin 1024 → ℝ
  q : Fin 256 → Fin 4096 → ℝ
  w1 : Fin 1024 → Fin 4096 → ℝ
  w2 : Fin 4096 → Fin 1024 → ℝ
  pos : ∀ r f, 0 ≤ q r f

namespace Down

variable (B : Down)

/-- The hidden gradient of the block. -/
def dh (r : Fin 256) (f : Fin 4096) : ℝ := (∑ k, B.a r k * B.w2 f k) * (2 * B.q r f)

/-- One shard's part of the product back. -/
def part (d : Fin 8) (r : Fin 256) (l : Fin 1024) : ℝ := ∑ j : Fin 512, B.dh r (col d j) * B.w1 l (col d j)

/-- The product back. -/
def du (r : Fin 256) (l : Fin 1024) : ℝ := ∑ f, B.dh r f * B.w1 l f

theorem sum_part (r : Fin 256) (l : Fin 1024) : ∑ d, B.part d r l = B.du r l :=
  (Fin.sum_univ_tiles 8 512 rfl fun f => B.dh r f * B.w1 l f).symm

end Down

variable {B : Down}

/-- A shard's tile of the hidden gradient. -/
theorem tile (d : Fin 8) (v : FVec Ideal S256x1024 .bf16) (w : Vec Ideal S512x1024 .bf16) (h : Vec Ideal S256x512 .bf16)
    (hv : ∀ r k, v (ix2 r k) = ((B.a r k : ℝ) : EReal)) (hw : ∀ j k, w (ix2 j k) = ((B.w2 (col d j) k : ℝ) : EReal))
    (hh : ∀ r j, h (ix2 r j) = ((B.q r (col d j) * B.q r (col d j) : ℝ) : EReal)) (r : Fin 256) (j : Fin 512) :
    k0_pay8 v w h (ix2 r j) = ((B.dh r (col d j) : ℝ) : EReal) := by
  pointwise [k0_pay8]
  simp only [hv, hw, hh, sqrt_sq_coe (B.pos r (col d j)), lit_two, ← EReal.coe_mul, coe_sum]
  rfl

/-- A shard's product back. -/
theorem back (d : Fin 8) (v : FVec Ideal S256x512 .bf16) (w : Vec Ideal S1x1024x512 .bf16)
    (hv : ∀ r j, v (ix2 r j) = ((B.dh r (col d j) : ℝ) : EReal)) (hw : ∀ l j, w (ix3 0 l j) = ((B.w1 l (col d j) : ℝ) : EReal))
    (r : Fin 256) (l : Fin 1024) :
    matmul dot_S256x512_S1024x512_S256x1024_1_1_0_0_n_n none v (k0_pay11 w) (constant S256x1024 .f32 0x00000000#32) (ix2 r l)
      = ((B.part d r l : ℝ) : EReal) := by
  pointwise [k0_pay11]
  simp only [hv, hw, ← EReal.coe_mul, coe_sum]
  rfl

/-- The product back of the whole block, as the kernel adds it up shard by shard. -/
def blockDu (x0 : Vec Ideal S256x1024 .bf16) (x1 : Vec Ideal S256x4096 .bf16) (x2 : Vec Ideal S8x1024x512 .bf16)
    (x3 : Vec Ideal S4096x1024 .bf16) : FVec Ideal S256x1024 .f32 :=
  k0_pay18 (k0_pay4 x0)
    (k0_pay13 (k0_pay4 x0)
      (k0_pay9 (k0_pay4 x0)
        (k0_pay6 x0 (View.ld x3 (Rect.unit ![0, 0] ![512, 1024] inb_S4096x1024_S512x1024_0_0))
          (View.ld x1 (Rect.unit ![0, 0] ![256, 512] inb_S256x4096_S256x512_0_0))
          (View.ld x2 (Rect.unit ![0, 0, 0] ![1, 1024, 512] inb_S8x1024x512_S1x1024x512_0_0_0)))
        (k0_pay7 x0 (View.ld x3 (Rect.unit ![512, 0] ![512, 1024] inb_S4096x1024_S512x1024_512_0))
          (View.ld x1 (Rect.unit ![0, 512] ![256, 512] inb_S256x4096_S256x512_0_512)))
        (View.ld x2 (Rect.unit ![1, 0, 0] ![1, 1024, 512] inb_S8x1024x512_S1x1024x512_1_0_0))
        (View.ld x3 (Rect.unit ![1024, 0] ![512, 1024] inb_S4096x1024_S512x1024_1024_0))
        (View.ld x1 (Rect.unit ![0, 1024] ![256, 512] inb_S256x4096_S256x512_0_1024))
        (View.ld x2 (Rect.unit ![2, 0, 0] ![1, 1024, 512] inb_S8x1024x512_S1x1024x512_2_0_0)))
      (k0_pay10 (k0_pay4 x0) (View.ld x3 (Rect.unit ![1536, 0] ![512, 1024] inb_S4096x1024_S512x1024_1536_0))
        (View.ld x1 (Rect.unit ![0, 1536] ![256, 512] inb_S256x4096_S256x512_0_1536)))
      (k0_pay11 (View.ld x2 (Rect.unit ![3, 0, 0] ![1, 1024, 512] inb_S8x1024x512_S1x1024x512_3_0_0)))
      (View.ld x3 (Rect.unit ![2048, 0] ![512, 1024] inb_S4096x1024_S512x1024_2048_0))
      (View.ld x1 (Rect.unit ![0, 2048] ![256, 512] inb_S256x4096_S256x512_0_2048))
      (View.ld x2 (Rect.unit ![4, 0, 0] ![1, 1024, 512] inb_S8x1024x512_S1x1024x512_4_0_0)))
    (k0_pay15 (k0_pay4 x0) (View.ld x3 (Rect.unit ![2560, 0] ![512, 1024] inb_S4096x1024_S512x1024_2560_0))
      (View.ld x1 (Rect.unit ![0, 2560] ![256, 512] inb_S256x4096_S256x512_0_2560))
      (View.ld x2 (Rect.unit ![5, 0, 0] ![1, 1024, 512] inb_S8x1024x512_S1x1024x512_5_0_0)))
    (View.ld x3 (Rect.unit ![3072, 0] ![512, 1024] inb_S4096x1024_S512x1024_3072_0))
    (View.ld x1 (Rect.unit ![0, 3072] ![256, 512] inb_S256x4096_S256x512_0_3072))
    (View.ld x2 (Rect.unit ![6, 0, 0] ![1, 1024, 512] inb_S8x1024x512_S1x1024x512_6_0_0))
    (View.ld x3 (Rect.unit ![3584, 0] ![512, 1024] inb_S4096x1024_S512x1024_3584_0))
    (View.ld x1 (Rect.unit ![0, 3584] ![256, 512] inb_S256x4096_S256x512_0_3584))
    (View.ld x2 (Rect.unit ![7, 0, 0] ![1, 1024, 512] inb_S8x1024x512_S1x1024x512_7_0_0))

theorem blockDu_def (x0 : Vec Ideal S256x1024 .bf16) (x1 : Vec Ideal S256x4096 .bf16) (x2 : Vec Ideal S8x1024x512 .bf16)
    (x3 : Vec Ideal S4096x1024 .bf16) :
  k0_pay18 (k0_pay4 x0)
    (k0_pay13 (k0_pay4 x0)
      (k0_pay9 (k0_pay4 x0)
        (k0_pay6 x0 (View.ld x3 (Rect.unit ![0, 0] ![512, 1024] inb_S4096x1024_S512x1024_0_0))
          (View.ld x1 (Rect.unit ![0, 0] ![256, 512] inb_S256x4096_S256x512_0_0))
          (View.ld x2 (Rect.unit ![0, 0, 0] ![1, 1024, 512] inb_S8x1024x512_S1x1024x512_0_0_0)))
        (k0_pay7 x0 (View.ld x3 (Rect.unit ![512, 0] ![512, 1024] inb_S4096x1024_S512x1024_512_0))
          (View.ld x1 (Rect.unit ![0, 512] ![256, 512] inb_S256x4096_S256x512_0_512)))
        (View.ld x2 (Rect.unit ![1, 0, 0] ![1, 1024, 512] inb_S8x1024x512_S1x1024x512_1_0_0))
        (View.ld x3 (Rect.unit ![1024, 0] ![512, 1024] inb_S4096x1024_S512x1024_1024_0))
        (View.ld x1 (Rect.unit ![0, 1024] ![256, 512] inb_S256x4096_S256x512_0_1024))
        (View.ld x2 (Rect.unit ![2, 0, 0] ![1, 1024, 512] inb_S8x1024x512_S1x1024x512_2_0_0)))
      (k0_pay10 (k0_pay4 x0) (View.ld x3 (Rect.unit ![1536, 0] ![512, 1024] inb_S4096x1024_S512x1024_1536_0))
        (View.ld x1 (Rect.unit ![0, 1536] ![256, 512] inb_S256x4096_S256x512_0_1536)))
      (k0_pay11 (View.ld x2 (Rect.unit ![3, 0, 0] ![1, 1024, 512] inb_S8x1024x512_S1x1024x512_3_0_0)))
      (View.ld x3 (Rect.unit ![2048, 0] ![512, 1024] inb_S4096x1024_S512x1024_2048_0))
      (View.ld x1 (Rect.unit ![0, 2048] ![256, 512] inb_S256x4096_S256x512_0_2048))
      (View.ld x2 (Rect.unit ![4, 0, 0] ![1, 1024, 512] inb_S8x1024x512_S1x1024x512_4_0_0)))
    (k0_pay15 (k0_pay4 x0) (View.ld x3 (Rect.unit ![2560, 0] ![512, 1024] inb_S4096x1024_S512x1024_2560_0))
      (View.ld x1 (Rect.unit ![0, 2560] ![256, 512] inb_S256x4096_S256x512_0_2560))
      (View.ld x2 (Rect.unit ![5, 0, 0] ![1, 1024, 512] inb_S8x1024x512_S1x1024x512_5_0_0)))
    (View.ld x3 (Rect.unit ![3072, 0] ![512, 1024] inb_S4096x1024_S512x1024_3072_0))
    (View.ld x1 (Rect.unit ![0, 3072] ![256, 512] inb_S256x4096_S256x512_0_3072))
    (View.ld x2 (Rect.unit ![6, 0, 0] ![1, 1024, 512] inb_S8x1024x512_S1x1024x512_6_0_0))
    (View.ld x3 (Rect.unit ![3584, 0] ![512, 1024] inb_S4096x1024_S512x1024_3584_0))
    (View.ld x1 (Rect.unit ![0, 3584] ![256, 512] inb_S256x4096_S256x512_0_3584))
    (View.ld x2 (Rect.unit ![7, 0, 0] ![1, 1024, 512] inb_S8x1024x512_S1x1024x512_7_0_0))
    = blockDu x0 x1 x2 x3 := rfl

/-- The product of a shard's tile with a slice of the first weight. -/
def mm (v : FVec Ideal S256x512 .bf16) (w : Vec Ideal S1x1024x512 .bf16) : FVec Ideal S256x1024 .f32 :=
  matmul dot_S256x512_S1024x512_S256x1024_1_1_0_0_n_n none v (k0_pay11 w) (constant S256x1024 .f32 0x00000000#32)

section

variable {x0 : Vec Ideal S256x1024 .bf16} {x1 : Vec Ideal S256x4096 .bf16} {x2 : Vec Ideal S8x1024x512 .bf16}
  {x3 : Vec Ideal S4096x1024 .bf16}
  (h0 : ∀ r k, x0 (ix2 r k) = ((B.a r k : ℝ) : EReal)) (h1 : ∀ r f, x1 (ix2 r f) = ((B.q r f * B.q r f : ℝ) : EReal))
  (h2 : ∀ d l j, x2 (ix3 d l j) = ((B.w1 l (col d j) : ℝ) : EReal)) (h3 : ∀ f k, x3 (ix2 f k) = ((B.w2 f k : ℝ) : EReal))

include h0 in
theorem cast0 (r : Fin 256) (k : Fin 1024) : k0_pay4 x0 (ix2 r k) = ((B.a r k : ℝ) : EReal) := by
  pointwise [k0_pay4]
  exact h0 r k

include h0 h1 h3

theorem tile0 (r : Fin 256) (j : Fin 512) : k0_pay8 (k0_pay4 x0) (View.ld x3 (Rect.unit ![0, 0] ![512, 1024] inb_S4096x1024_S512x1024_0_0))
    (View.ld x1 (Rect.unit ![0, 0] ![256, 512] inb_S256x4096_S256x512_0_0)) (ix2 r j) = ((B.dh r (col 0 j) : ℝ) : EReal) := by
  refine tile 0 _ _ _ (cast0 h0) (fun j k => ?_) (fun r j => ?_) r j
  · refine Eq.trans ?_ (h3 (col 0 j) k)
    pointwise
    exact congrArg (fun f => x3 (ix2 f k)) (Fin.ext (by simp [col]))
  · refine Eq.trans ?_ (h1 r (col 0 j))
    pointwise
    exact congrArg (fun f => x1 (ix2 r f)) (Fin.ext (by simp [col]))

theorem tile1 (r : Fin 256) (j : Fin 512) : k0_pay8 (k0_pay4 x0) (View.ld x3 (Rect.unit ![512, 0] ![512, 1024] inb_S4096x1024_S512x1024_512_0))
    (View.ld x1 (Rect.unit ![0, 512] ![256, 512] inb_S256x4096_S256x512_0_512)) (ix2 r j) = ((B.dh r (col 1 j) : ℝ) : EReal) := by
  refine tile 1 _ _ _ (cast0 h0) (fun j k => ?_) (fun r j => ?_) r j
  · refine Eq.trans ?_ (h3 (col 1 j) k)
    pointwise
    rfl
  · refine Eq.trans ?_ (h1 r (col 1 j))
    pointwise
    rfl

theorem tile2 (r : Fin 256) (j : Fin 512) : k0_pay8 (k0_pay4 x0) (View.ld x3 (Rect.unit ![1024, 0] ![512, 1024] inb_S4096x1024_S512x1024_1024_0))
    (View.ld x1 (Rect.unit ![0, 1024] ![256, 512] inb_S256x4096_S256x512_0_1024)) (ix2 r j) = ((B.dh r (col 2 j) : ℝ) : EReal) := by
  refine tile 2 _ _ _ (cast0 h0) (fun j k => ?_) (fun r j => ?_) r j
  · refine Eq.trans ?_ (h3 (col 2 j) k)
    pointwise
    rfl
  · refine Eq.trans ?_ (h1 r (col 2 j))
    pointwise
    rfl

theorem tile3 (r : Fin 256) (j : Fin 512) : k0_pay8 (k0_pay4 x0) (View.ld x3 (Rect.unit ![1536, 0] ![512, 1024] inb_S4096x1024_S512x1024_1536_0))
    (View.ld x1 (Rect.unit ![0, 1536] ![256, 512] inb_S256x4096_S256x512_0_1536)) (ix2 r j) = ((B.dh r (col 3 j) : ℝ) : EReal) := by
  refine tile 3 _ _ _ (cast0 h0) (fun j k => ?_) (fun r j => ?_) r j
  · refine Eq.trans ?_ (h3 (col 3 j) k)
    pointwise
    rfl
  · refine Eq.trans ?_ (h1 r (col 3 j))
    pointwise
    rfl

theorem tile4 (r : Fin 256) (j : Fin 512) : k0_pay8 (k0_pay4 x0) (View.ld x3 (Rect.unit ![2048, 0] ![512, 1024] inb_S4096x1024_S512x1024_2048_0))
    (View.ld x1 (Rect.unit ![0, 2048] ![256, 512] inb_S256x4096_S256x512_0_2048)) (ix2 r j) = ((B.dh r (col 4 j) : ℝ) : EReal) := by
  refine tile 4 _ _ _ (cast0 h0) (fun j k => ?_) (fun r j => ?_) r j
  · refine Eq.trans ?_ (h3 (col 4 j) k)
    pointwise
    rfl
  · refine Eq.trans ?_ (h1 r (col 4 j))
    pointwise
    rfl

theorem tile5 (r : Fin 256) (j : Fin 512) : k0_pay8 (k0_pay4 x0) (View.ld x3 (Rect.unit ![2560, 0] ![512, 1024] inb_S4096x1024_S512x1024_2560_0))
    (View.ld x1 (Rect.unit ![0, 2560] ![256, 512] inb_S256x4096_S256x512_0_2560)) (ix2 r j) = ((B.dh r (col 5 j) : ℝ) : EReal) := by
  refine tile 5 _ _ _ (cast0 h0) (fun j k => ?_) (fun r j => ?_) r j
  · refine Eq.trans ?_ (h3 (col 5 j) k)
    pointwise
    rfl
  · refine Eq.trans ?_ (h1 r (col 5 j))
    pointwise
    rfl

theorem tile6 (r : Fin 256) (j : Fin 512) : k0_pay8 (k0_pay4 x0) (View.ld x3 (Rect.unit ![3072, 0] ![512, 1024] inb_S4096x1024_S512x1024_3072_0))
    (View.ld x1 (Rect.unit ![0, 3072] ![256, 512] inb_S256x4096_S256x512_0_3072)) (ix2 r j) = ((B.dh r (col 6 j) : ℝ) : EReal) := by
  refine tile 6 _ _ _ (cast0 h0) (fun j k => ?_) (fun r j => ?_) r j
  · refine Eq.trans ?_ (h3 (col 6 j) k)
    pointwise
    rfl
  · refine Eq.trans ?_ (h1 r (col 6 j))
    pointwise
    rfl

theorem tile7 (r : Fin 256) (j : Fin 512) : k0_pay8 (k0_pay4 x0) (View.ld x3 (Rect.unit ![3584, 0] ![512, 1024] inb_S4096x1024_S512x1024_3584_0))
    (View.ld x1 (Rect.unit ![0, 3584] ![256, 512] inb_S256x4096_S256x512_0_3584)) (ix2 r j) = ((B.dh r (col 7 j) : ℝ) : EReal) := by
  refine tile 7 _ _ _ (cast0 h0) (fun j k => ?_) (fun r j => ?_) r j
  · refine Eq.trans ?_ (h3 (col 7 j) k)
    pointwise
    rfl
  · refine Eq.trans ?_ (h1 r (col 7 j))
    pointwise
    rfl

include h2

theorem back0 (r : Fin 256) (l : Fin 1024) : mm (k0_pay8 (k0_pay4 x0) (View.ld x3 (Rect.unit ![0, 0] ![512, 1024] inb_S4096x1024_S512x1024_0_0))
    (View.ld x1 (Rect.unit ![0, 0] ![256, 512] inb_S256x4096_S256x512_0_0)))
    (View.ld x2 (Rect.unit ![0, 0, 0] ![1, 1024, 512] inb_S8x1024x512_S1x1024x512_0_0_0)) (ix2 r l) = ((B.part 0 r l : ℝ) : EReal) := by
  refine back 0 _ _ (tile0 h0 h1 h3) (fun l j => Eq.trans ?_ (h2 0 l j)) r l
  pointwise

theorem back1 (r : Fin 256) (l : Fin 1024) : mm (k0_pay8 (k0_pay4 x0) (View.ld x3 (Rect.unit ![512, 0] ![512, 1024] inb_S4096x1024_S512x1024_512_0))
    (View.ld x1 (Rect.unit ![0, 512] ![256, 512] inb_S256x4096_S256x512_0_512)))
    (View.ld x2 (Rect.unit ![1, 0, 0] ![1, 1024, 512] inb_S8x1024x512_S1x1024x512_1_0_0)) (ix2 r l) = ((B.part 1 r l : ℝ) : EReal) := by
  refine back 1 _ _ (tile1 h0 h1 h3) (fun l j => Eq.trans ?_ (h2 1 l j)) r l
  pointwise

theorem back2 (r : Fin 256) (l : Fin 1024) : mm (k0_pay8 (k0_pay4 x0) (View.ld x3 (Rect.unit ![1024, 0] ![512, 1024] inb_S4096x1024_S512x1024_1024_0))
    (View.ld x1 (Rect.unit ![0, 1024] ![256, 512] inb_S256x4096_S256x512_0_1024)))
    (View.ld x2 (Rect.unit ![2, 0, 0] ![1, 1024, 512] inb_S8x1024x512_S1x1024x512_2_0_0)) (ix2 r l) = ((B.part 2 r l : ℝ) : EReal) := by
  refine back 2 _ _ (tile2 h0 h1 h3) (fun l j => Eq.trans ?_ (h2 2 l j)) r l
  pointwise

theorem back3 (r : Fin 256) (l : Fin 1024) : mm (k0_pay8 (k0_pay4 x0) (View.ld x3 (Rect.unit ![1536, 0] ![512, 1024] inb_S4096x1024_S512x1024_1536_0))
    (View.ld x1 (Rect.unit ![0, 1536] ![256, 512] inb_S256x4096_S256x512_0_1536)))
    (View.ld x2 (Rect.unit ![3, 0, 0] ![1, 1024, 512] inb_S8x1024x512_S1x1024x512_3_0_0)) (ix2 r l) = ((B.part 3 r l : ℝ) : EReal) := by
  refine back 3 _ _ (tile3 h0 h1 h3) (fun l j => Eq.trans ?_ (h2 3 l j)) r l
  pointwise

theorem back4 (r : Fin 256) (l : Fin 1024) : mm (k0_pay8 (k0_pay4 x0) (View.ld x3 (Rect.unit ![2048, 0] ![512, 1024] inb_S4096x1024_S512x1024_2048_0))
    (View.ld x1 (Rect.unit ![0, 2048] ![256, 512] inb_S256x4096_S256x512_0_2048)))
    (View.ld x2 (Rect.unit ![4, 0, 0] ![1, 1024, 512] inb_S8x1024x512_S1x1024x512_4_0_0)) (ix2 r l) = ((B.part 4 r l : ℝ) : EReal) := by
  refine back 4 _ _ (tile4 h0 h1 h3) (fun l j => Eq.trans ?_ (h2 4 l j)) r l
  pointwise

theorem back5 (r : Fin 256) (l : Fin 1024) : mm (k0_pay8 (k0_pay4 x0) (View.ld x3 (Rect.unit ![2560, 0] ![512, 1024] inb_S4096x1024_S512x1024_2560_0))
    (View.ld x1 (Rect.unit ![0, 2560] ![256, 512] inb_S256x4096_S256x512_0_2560)))
    (View.ld x2 (Rect.unit ![5, 0, 0] ![1, 1024, 512] inb_S8x1024x512_S1x1024x512_5_0_0)) (ix2 r l) = ((B.part 5 r l : ℝ) : EReal) := by
  refine back 5 _ _ (tile5 h0 h1 h3) (fun l j => Eq.trans ?_ (h2 5 l j)) r l
  pointwise

theorem back6 (r : Fin 256) (l : Fin 1024) : mm (k0_pay8 (k0_pay4 x0) (View.ld x3 (Rect.unit ![3072, 0] ![512, 1024] inb_S4096x1024_S512x1024_3072_0))
    (View.ld x1 (Rect.unit ![0, 3072] ![256, 512] inb_S256x4096_S256x512_0_3072)))
    (View.ld x2 (Rect.unit ![6, 0, 0] ![1, 1024, 512] inb_S8x1024x512_S1x1024x512_6_0_0)) (ix2 r l) = ((B.part 6 r l : ℝ) : EReal) := by
  refine back 6 _ _ (tile6 h0 h1 h3) (fun l j => Eq.trans ?_ (h2 6 l j)) r l
  pointwise

theorem back7 (r : Fin 256) (l : Fin 1024) : mm (k0_pay8 (k0_pay4 x0) (View.ld x3 (Rect.unit ![3584, 0] ![512, 1024] inb_S4096x1024_S512x1024_3584_0))
    (View.ld x1 (Rect.unit ![0, 3584] ![256, 512] inb_S256x4096_S256x512_0_3584)))
    (View.ld x2 (Rect.unit ![7, 0, 0] ![1, 1024, 512] inb_S8x1024x512_S1x1024x512_7_0_0)) (ix2 r l) = ((B.part 7 r l : ℝ) : EReal) := by
  refine back 7 _ _ (tile7 h0 h1 h3) (fun l j => Eq.trans ?_ (h2 7 l j)) r l
  pointwise

/-- The block's product back is the sum over the whole hidden layer. -/
theorem blockDu_apply (r : Fin 256) (l : Fin 1024) : blockDu x0 x1 x2 x3 (ix2 r l) = ((B.du r l : ℝ) : EReal) := by
  have e : blockDu x0 x1 x2 x3 (ix2 r l) = ((((((((Ideal.ofBits .f32 0x00000000#32 + mm (k0_pay8 (k0_pay4 x0) (View.ld x3 (Rect.unit ![0, 0] ![512, 1024] inb_S4096x1024_S512x1024_0_0))
      (View.ld x1 (Rect.unit ![0, 0] ![256, 512] inb_S256x4096_S256x512_0_0)))
      (View.ld x2 (Rect.unit ![0, 0, 0] ![1, 1024, 512] inb_S8x1024x512_S1x1024x512_0_0_0)) (ix2 r l)) + mm (k0_pay8 (k0_pay4 x0) (View.ld x3 (Rect.unit ![512, 0] ![512, 1024] inb_S4096x1024_S512x1024_512_0))
      (View.ld x1 (Rect.unit ![0, 512] ![256, 512] inb_S256x4096_S256x512_0_512)))
      (View.ld x2 (Rect.unit ![1, 0, 0] ![1, 1024, 512] inb_S8x1024x512_S1x1024x512_1_0_0)) (ix2 r l)) + mm (k0_pay8 (k0_pay4 x0) (View.ld x3 (Rect.unit ![1024, 0] ![512, 1024] inb_S4096x1024_S512x1024_1024_0))
      (View.ld x1 (Rect.unit ![0, 1024] ![256, 512] inb_S256x4096_S256x512_0_1024)))
      (View.ld x2 (Rect.unit ![2, 0, 0] ![1, 1024, 512] inb_S8x1024x512_S1x1024x512_2_0_0)) (ix2 r l)) + mm (k0_pay8 (k0_pay4 x0) (View.ld x3 (Rect.unit ![1536, 0] ![512, 1024] inb_S4096x1024_S512x1024_1536_0))
      (View.ld x1 (Rect.unit ![0, 1536] ![256, 512] inb_S256x4096_S256x512_0_1536)))
      (View.ld x2 (Rect.unit ![3, 0, 0] ![1, 1024, 512] inb_S8x1024x512_S1x1024x512_3_0_0)) (ix2 r l)) + mm (k0_pay8 (k0_pay4 x0) (View.ld x3 (Rect.unit ![2048, 0] ![512, 1024] inb_S4096x1024_S512x1024_2048_0))
      (View.ld x1 (Rect.unit ![0, 2048] ![256, 512] inb_S256x4096_S256x512_0_2048)))
      (View.ld x2 (Rect.unit ![4, 0, 0] ![1, 1024, 512] inb_S8x1024x512_S1x1024x512_4_0_0)) (ix2 r l)) + mm (k0_pay8 (k0_pay4 x0) (View.ld x3 (Rect.unit ![2560, 0] ![512, 1024] inb_S4096x1024_S512x1024_2560_0))
      (View.ld x1 (Rect.unit ![0, 2560] ![256, 512] inb_S256x4096_S256x512_0_2560)))
      (View.ld x2 (Rect.unit ![5, 0, 0] ![1, 1024, 512] inb_S8x1024x512_S1x1024x512_5_0_0)) (ix2 r l)) + mm (k0_pay8 (k0_pay4 x0) (View.ld x3 (Rect.unit ![3072, 0] ![512, 1024] inb_S4096x1024_S512x1024_3072_0))
      (View.ld x1 (Rect.unit ![0, 3072] ![256, 512] inb_S256x4096_S256x512_0_3072)))
      (View.ld x2 (Rect.unit ![6, 0, 0] ![1, 1024, 512] inb_S8x1024x512_S1x1024x512_6_0_0)) (ix2 r l)) + mm (k0_pay8 (k0_pay4 x0) (View.ld x3 (Rect.unit ![3584, 0] ![512, 1024] inb_S4096x1024_S512x1024_3584_0))
      (View.ld x1 (Rect.unit ![0, 3584] ![256, 512] inb_S256x4096_S256x512_0_3584)))
      (View.ld x2 (Rect.unit ![7, 0, 0] ![1, 1024, 512] inb_S8x1024x512_S1x1024x512_7_0_0)) (ix2 r l)) := rfl
  rw [e, back0 h0 h1 h2 h3, back1 h0 h1 h2 h3, back2 h0 h1 h2 h3, back3 h0 h1 h2 h3, back4 h0 h1 h2 h3, back5 h0 h1 h2 h3, back6 h0 h1 h2 h3, back7 h0 h1 h2 h3, Ideal.ofBits_zero_f32, zero_add, ← B.sum_part r l]
  simp only [← EReal.coe_add]
  rw [Fin.sum_univ_eight]

end

end Cert.BlockValue

end
-- ==== Proof.BlockNorm.lean ====
/- One block of 256 rows of the kernel: back through the scale, the normalisation and the gate, and the five column sums. -/
module

public import proofs.«01_k».proof.Proof.BlockDown

@[expose] public section

set_option maxRecDepth 16384

noncomputable section

namespace Cert.BlockValue

open Cert.KernelIdeal Cert.KernelIdeal.Gen Cert.Model Cert.Grad
open Idealize.ShloMosaic Idealize.ShloMosaic.TcCoe Idealize.SL.Sem
open scoped BigOperators

/-- The rest of the block's real data. -/
structure Tail extends Down where
  dxa : Fin 256 → Fin 1024 → ℝ
  x1 : Fin 256 → Fin 1024 → ℝ
  z : Fin 256 → Fin 1024 → ℝ
  mixed : Fin 256 → Fin 1024 → ℝ
  gt : Fin 1024 → ℝ
  sc : Fin 1024 → ℝ
  g : Fin 1024 → ℝ

namespace Tail

variable (T : Tail)

def dx (r : Fin 256) (l : Fin 1024) : ℝ := T.dxa r l + T.du r l * (1 + T.sc l)

def dz (r : Fin 256) (l : Fin 1024) : ℝ := lnGrad (T.z r) (fun k => T.dx r k * T.g k) l

/-- The block's share of column sum `j`. -/
def st (j : ℕ) (l : Fin 1024) : ℝ :=
  match j with
  | 0 => ∑ r, T.du r l * T.x1 r l
  | 1 => ∑ r, T.du r l
  | 2 => ∑ r, T.dx r l * xhat (T.z r) l
  | 3 => ∑ r, T.dx r l
  | 4 => ∑ r, T.dz r l * T.mixed r l
  | _ => 0

end Tail

variable {T : Tail} {du da z mx x1 : FVec Ideal S256x1024 .f32} {sc g gt : FVec Ideal S1x1024 .f32}

theorem n_ne : (1024 : ℝ) ≠ 0 := by norm_num

section

variable (hz : ∀ r l, z (ix2 r l) = ((T.z r l : ℝ) : EReal))
include hz

theorem cen_at (r : Fin 256) (l : Fin 1024) : k0_pay21 (F := Ideal) z (ix2 r l) = ((cen (T.z r) l : ℝ) : EReal) := by
  pointwise [k0_pay21]
  simp only [hz, lit_n, coe_sum, div_coe_coe _ n_ne, ← EReal.coe_sub]
  rfl

theorem rstd_at (r : Fin 256) : k0_pay22 (F := Ideal) z (ix2 r 0) = ((rstd (T.z r) : ℝ) : EReal) := by
  pointwise [k0_pay22]
  simp only [cen_at hz, lit_n, lit_eps, ← EReal.coe_mul, coe_sum, div_coe_coe _ n_ne, ← EReal.coe_add]
  exact rsqrt_pos (vare_pos _)

theorem xhat_at (r : Fin 256) (l : Fin 1024) : k0_pay23 (F := Ideal) z (ix2 r l) = ((xhat (T.z r) l : ℝ) : EReal) := by
  pointwise [k0_pay23]
  rw [cen_at hz, rstd_at hz, ← EReal.coe_mul]
  rfl

end

section

variable (hdu : ∀ r l, du (ix2 r l) = ((T.du r l : ℝ) : EReal)) (hda : ∀ r l, da (ix2 r l) = ((T.dxa r l : ℝ) : EReal))
  (hsc : ∀ l, sc (ix2 0 l) = ((T.sc l : ℝ) : EReal))
include hdu hda hsc

theorem dx_at (r : Fin 256) (l : Fin 1024) : k0_pay20 du da sc (ix2 r l) = ((T.dx r l : ℝ) : EReal) := by
  pointwise [k0_pay20]
  rw [hdu, hda, hsc, ← EReal.coe_one]
  simp only [← EReal.coe_add, ← EReal.coe_mul]
  rfl

variable (hg : ∀ l, g (ix2 0 l) = ((T.g l : ℝ) : EReal))
include hg

theorem dxh_at (r : Fin 256) (l : Fin 1024) : k0_pay24 du da sc g (ix2 r l) = ((T.dx r l * T.g l : ℝ) : EReal) := by
  pointwise [k0_pay24]
  rw [dx_at hdu hda hsc, hg, ← EReal.coe_mul]

theorem mean_at (r : Fin 256) : k0_pay25 du da sc g (ix2 r 0) = ((mean (fun k => T.dx r k * T.g k) : ℝ) : EReal) := by
  pointwise [k0_pay25]
  simp only [dxh_at hdu hda hsc hg, lit_n, coe_sum, div_coe_coe _ n_ne]
  rfl

variable (hz : ∀ r l, z (ix2 r l) = ((T.z r l : ℝ) : EReal))
include hz

theorem mean2_at (r : Fin 256) : k0_pay26 du da sc z g (ix2 r 0)
    = ((mean (fun k => T.dx r k * T.g k * xhat (T.z r) k) : ℝ) : EReal) := by
  pointwise [k0_pay26]
  simp only [dxh_at hdu hda hsc hg, xhat_at hz, lit_n, ← EReal.coe_mul, coe_sum, div_coe_coe _ n_ne]
  rfl

theorem dz_at (r : Fin 256) (l : Fin 1024) : k0_pay27 (k0_pay22 z) (k0_pay23 z) (k0_pay24 du da sc g) (k0_pay25 du da sc g)
    (k0_pay26 du da sc z g) (ix2 r l) = ((T.dz r l : ℝ) : EReal) := by
  pointwise [k0_pay27]
  rw [dxh_at hdu hda hsc hg, xhat_at hz, rstd_at hz, mean_at hdu hda hsc hg, mean2_at hdu hda hsc hg hz]
  simp only [← EReal.coe_mul, ← EReal.coe_sub]
  rfl

/-- The gradient of the residual input. -/
theorem out11_at (r : Fin 256) (l : Fin 1024) : k0_pay28 (k0_pay22 z) (k0_pay23 z) (k0_pay24 du da sc g) (k0_pay25 du da sc g)
    (k0_pay26 du da sc z g) (ix2 r l) = ((alpha * T.dz r l : ℝ) : EReal) := by
  pointwise [k0_pay28]
  rw [dz_at hdu hda hsc hg hz, lit_alpha, ← EReal.coe_mul]

variable (hgt : ∀ l, gt (ix2 0 l) = ((T.gt l : ℝ) : EReal))

include hgt in
/-- The gradient of the mixed branch. -/
theorem out12_at (r : Fin 256) (l : Fin 1024) : k0_pay29 (k0_pay22 z) (k0_pay23 z) (k0_pay24 du da sc g) (k0_pay25 du da sc g)
    (k0_pay26 du da sc z g) gt (ix2 r l) = (((1 + T.gt l) * T.dz r l : ℝ) : EReal) := by
  pointwise [k0_pay29]
  rw [dz_at hdu hda hsc hg hz, ← EReal.coe_one, hgt, ← EReal.coe_add, ← EReal.coe_mul]

variable (acc : FVec Ideal S1x1024 .f32)

theorem row0_at (hx : ∀ r l, x1 (ix2 r l) = ((T.x1 r l : ℝ) : EReal)) (l : Fin 1024) :
    k0_pay31 du (k0_pay19 x1) acc (ix2 0 l) = acc (ix2 0 l) + ((T.st 0 l : ℝ) : EReal) := by
  pointwise [k0_pay31, k0_pay19]
  simp only [hdu, hx, ← EReal.coe_mul, coe_sum]
  rfl

theorem row1_at (l : Fin 1024) : k0_pay32 du acc (ix2 0 l) = acc (ix2 0 l) + ((T.st 1 l : ℝ) : EReal) := by
  pointwise [k0_pay32]
  simp only [hdu, coe_sum]
  rfl

theorem row2_at (l : Fin 1024) : k0_pay1 (k0_pay33 (k0_pay20 du da sc) (k0_pay23 z)) acc (ix2 0 l)
    = acc (ix2 0 l) + ((T.st 2 l : ℝ) : EReal) := by
  pointwise [k0_pay1, k0_pay33]
  simp only [dx_at hdu hda hsc, xhat_at hz, ← EReal.coe_mul, coe_sum]
  rfl

theorem row3_at (l : Fin 1024) : k0_pay2 (k0_pay20 du da sc) acc (ix2 0 l) = acc (ix2 0 l) + ((T.st 3 l : ℝ) : EReal) := by
  pointwise [k0_pay2]
  simp only [dx_at hdu hda hsc, coe_sum]
  rfl

theorem row4_at (hm : ∀ r l, mx (ix2 r l) = ((T.mixed r l : ℝ) : EReal)) (l : Fin 1024) :
    k0_pay3 (k0_pay27 (k0_pay22 z) (k0_pay23 z) (k0_pay24 du da sc g) (k0_pay25 du da sc g) (k0_pay26 du da sc z g)) mx acc (ix2 0 l)
      = acc (ix2 0 l) + ((T.st 4 l : ℝ) : EReal) := by
  pointwise [k0_pay3]
  simp only [dz_at hdu hda hsc hg hz, hm, ← EReal.coe_mul, coe_sum]
  rfl

end

end Cert.BlockValue

end
-- ==== Proof.KernelBlocks.lean ====
/- The blocks the kernel reads at a grid point, as slices of the real data. -/
module

public import proofs.«01_k».proof.Proof.HostValue
public import proofs.«01_k».proof.Proof.BlockNorm
public import Idealize.ShloMosaic.Lib.Pipeline.Value
public import Idealize.ShloMosaic.Lib.Pipeline.ValueKit.Acc
public import Idealize.ShloMosaic.Lib.Pipeline.ValueKit.Tiles
public import Idealize.ShloMosaic.Lib.Pipeline.ValueKit.Point
public import Idealize.ShloMosaic.Lib.Pipeline.ReadBack

@[expose] public section

set_option maxRecDepth 16384

noncomputable section

namespace Cert.KernelBlocks

open Cert.KernelIdeal Cert.KernelIdeal.Gen Cert.Model Cert.Grad Cert.HostValue Cert.BlockValue
open Idealize.ShloMosaic Idealize.ShloMosaic.TcCoe Idealize.SL.Sem
open scoped BigOperators

/-- Row `r` of block `t` in the whole array. -/
def at_ (t : Fin 32) (r : Fin 256) : Fin 8192 := ⟨t.val * 256 + r.val, by omega⟩

/-- Block `t` of the real data. -/
def tail (D : Data) (t : Fin 32) : Tail where
  a r k := D.dff (at_ t r) k
  q r f := max (D.h (at_ t r) f) 0
  w1 := D.w1
  w2 := D.w2
  pos _ _ := le_max_right _ _
  dxa r l := D.dx1 (at_ t r) l
  x1 r l := D.x1 (at_ t r) l
  z r l := D.z (at_ t r) l
  mixed r l := D.mixed (at_ t r) l
  gt := D.gt
  sc := D.sc
  g := D.g

theorem tail_dh (D : Data) (t : Fin 32) (r : Fin 256) (f : Fin 4096) : (tail D t).dh r f = D.dh (at_ t r) f := rfl

theorem tail_dz (D : Data) (t : Fin 32) (r : Fin 256) (l : Fin 1024) : (tail D t).dz r l = D.dz (at_ t r) l := rfl

theorem sum_rows (f : Fin 8192 → ℝ) : ∑ t : Fin 32, ∑ r : Fin 256, f (at_ t r) = ∑ r, f r :=
  (Fin.sum_univ_tiles 32 256 rfl f).symm

theorem sum_st (D : Data) (j : ℕ) (l : Fin 1024) : ∑ t, (tail D t).st j l = D.st j l := by
  match j with
  | 0 => exact sum_rows fun r => D.du2 r l * D.x1 r l
  | 1 => exact sum_rows fun r => D.du2 r l
  | 2 => exact sum_rows fun r => D.dx r l * xhat (D.z r) l
  | 3 => exact sum_rows fun r => D.dx r l
  | 4 => exact sum_rows fun r => D.dz r l * D.mixed r l
  | n + 5 => exact Finset.sum_const_zero

theorem idx_val : ∀ t : Fin cfg0.N, win0_0.index t = ![t.val, 0]
    ∧ win0_1.index t = ![t.val, 0]
    ∧ win0_2.index t = ![0, 0, 0]
    ∧ win0_3.index t = ![0, 0]
    ∧ win0_4.index t = ![t.val, 0]
    ∧ win0_5.index t = ![t.val, 0]
    ∧ win0_6.index t = ![t.val, 0]
    ∧ win0_7.index t = ![t.val, 0]
    ∧ win0_8.index t = ![0, 0]
    ∧ win0_9.index t = ![0, 0]
    ∧ win0_10.index t = ![t.val, 0]
    ∧ win0_11.index t = ![t.val, 0]
    ∧ win0_12.index t = ![t.val, 0]
    ∧ win0_13.index t = ![0, 0] :=
  (by decide +kernel : ∀ t : Fin grid0.N, _)

variable {m : (ℓ : Loc nD τ sig) → Buf (Elt Ideal) ℓ} {c : Dev nD} {D : Data} (H : Feeds m c D) (t : Fin cfg0.N)
include H

theorem blk0 (r : Fin 256) (k : Fin 1024) : (iblk m c 0 t : S256x1024.Idx → EReal) (ix2 r k) = (((tail D t).a r k : ℝ) : EReal) := by
  refine Eq.trans ?_ (at46 H (at_ t r) k)
  blk_point [iblk, idx_val t]
  rfl

theorem blk1 (r : Fin 256) (f : Fin 4096) : (iblk m c 1 t : S256x4096.Idx → EReal) (ix2 r f)
    = (((tail D t).q r f * (tail D t).q r f : ℝ) : EReal) := by
  refine Eq.trans ?_ (at38 H (at_ t r) f)
  blk_point [iblk, idx_val t]
  rfl

theorem blk2 (d : Fin 8) (l : Fin 1024) (j : Fin 512) : (iblk m c 2 t : S8x1024x512.Idx → EReal) (ix3 d l j)
    = (((tail D t).w1 l (col d j) : ℝ) : EReal) := by
  refine Eq.trans ?_ (at45 H d l j)
  blk_point [iblk, idx_val t]

theorem blk3 (f : Fin 4096) (k : Fin 1024) : (iblk m c 3 t : S4096x1024.Idx → EReal) (ix2 f k) = (((tail D t).w2 f k : ℝ) : EReal) := by
  refine Eq.trans ?_ (at47 H f k)
  blk_point [iblk, idx_val t]

theorem blk4 (r : Fin 256) (k : Fin 1024) : (iblk m c 4 t : S256x1024.Idx → EReal) (ix2 r k) = (((tail D t).dxa r k : ℝ) : EReal) := by
  refine Eq.trans ?_ (atdx1 H (at_ t r) k)
  blk_point [iblk, idx_val t]
  rfl

theorem blk5 (r : Fin 256) (k : Fin 1024) : (iblk m c 5 t : S256x1024.Idx → EReal) (ix2 r k) = (((tail D t).x1 r k : ℝ) : EReal) := by
  refine Eq.trans ?_ (at28 H (at_ t r) k)
  blk_point [iblk, idx_val t]
  rfl

theorem blk6 (r : Fin 256) (k : Fin 1024) : (iblk m c 6 t : S256x1024.Idx → EReal) (ix2 r k) = (((tail D t).z r k : ℝ) : EReal) := by
  refine Eq.trans ?_ (at6 H (at_ t r) k)
  blk_point [iblk, idx_val t]
  rfl

theorem blk7 (r : Fin 256) (k : Fin 1024) : (iblk m c 7 t : S256x1024.Idx → EReal) (ix2 r k) = (((tail D t).mixed r k : ℝ) : EReal) := by
  refine Eq.trans ?_ (atmixed H (at_ t r) k)
  blk_point [iblk, idx_val t]
  rfl

theorem blk8_2 (l : Fin 1024) : View.ld (iblk m c 8 t) (Rect.unit ![2, 0] ![1, 1024] inb_S8x1024_S1x1024_2_0) (ix2 0 l)
    = (((tail D t).gt l : ℝ) : EReal) := by
  refine Eq.trans ?_ (at40_2 H l)
  pointwise
  blk_point [iblk, idx_val t]

theorem blk8_4 (l : Fin 1024) : View.ld (iblk m c 8 t) (Rect.unit ![4, 0] ![1, 1024] inb_S8x1024_S1x1024_4_0) (ix2 0 l)
    = (((tail D t).sc l : ℝ) : EReal) := by
  refine Eq.trans ?_ (at40_4 H l)
  pointwise
  blk_point [iblk, idx_val t]

theorem blk9_0 (l : Fin 1024) : View.ld (iblk m c 9 t) (Rect.unit ![0, 0] ![1, 1024] inb_S8x1024_S1x1024_0_0) (ix2 0 l)
    = (((tail D t).g l : ℝ) : EReal) := by
  refine Eq.trans ?_ (at42_0 H l)
  pointwise
  blk_point [iblk, idx_val t]

theorem du_at (r : Fin 256) (l : Fin 1024) : blockDu (iblk m c 0 t) (iblk m c 1 t) (iblk m c 2 t) (iblk m c 3 t) (ix2 r l)
    = (((tail D t).du r l : ℝ) : EReal) :=
  blockDu_apply (B := (tail D t).toDown) (blk0 H t) (blk1 H t) (blk2 H t) (blk3 H t) r l

end Cert.KernelBlocks

end
-- ==== Proof.KernelValue.lean ====
/- What the kernel leaves in its four result arrays. -/
module

public import proofs.«01_k».proof.Proof.KernelBlocks

@[expose] public section

set_option maxRecDepth 16384

noncomputable section

namespace Cert.KernelValue

open Cert.KernelIdeal Cert.KernelIdeal.Gen Cert.Model Cert.Grad Cert.HostValue Cert.BlockValue Cert.KernelBlocks
open Idealize.ShloMosaic Idealize.ShloMosaic.TcCoe Idealize.SL.Sem
open Idealize.ShloMosaic.Pipeline (Dat)
open scoped BigOperators

variable {m : (ℓ : Loc nD τ sig) → Buf (Elt Ideal) ℓ} {c : Dev nD} {D : Data} (H : Feeds m c D)
include H

set_option maxHeartbeats 1600000 in
/-- The hidden gradient a point stores, shard by shard (first point). -/
theorem point_10_A (t : Fin cfg0.N) (h0 : t.val % 32 = 0) (y) :
    (out0_A_10 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (ms0_11 t) (hs0_11 t) (ms0_12 t) (hs0_12 t) (ms0_13 t) (hs0_13 t) ((hcond0_0
      t).mpr h0) (iblk m c 0 t) (iblk m c 1 t) (iblk m c 2 t) (iblk m c 3 t) (iblk m c 4 t) (iblk m c 5 t) (iblk m c 6
      t) (iblk m c 7 t) (iblk m c 8 t) (iblk m c 9 t)) y
      = (((tail D t).dh (y 0) (y 1) : ℝ) : EReal) := by
  frame_out
  canon_tiles x h
  · obtain ⟨r, j, rfl⟩ : ∃ (r : Fin 256) (j : Fin 512), x = ix2 r j := ⟨x 0, x 1, by idx_vars x⟩
    refine (tile7 (B := (tail D t).toDown) (blk0 H t) (blk1 H t) (blk3 H t) r j).trans ?_
    refine congrArg₂ (fun a b => (((tail D t).dh a b : ℝ) : EReal)) (Fin.ext ?_) (Fin.ext ?_)
    · exact h0.symm
    · exact h1.symm
  · obtain ⟨r, j, rfl⟩ : ∃ (r : Fin 256) (j : Fin 512), x = ix2 r j := ⟨x 0, x 1, by idx_vars x⟩
    refine (tile6 (B := (tail D t).toDown) (blk0 H t) (blk1 H t) (blk3 H t) r j).trans ?_
    refine congrArg₂ (fun a b => (((tail D t).dh a b : ℝ) : EReal)) (Fin.ext ?_) (Fin.ext ?_)
    · exact h0.symm
    · exact h1.symm
  · obtain ⟨r, j, rfl⟩ : ∃ (r : Fin 256) (j : Fin 512), x = ix2 r j := ⟨x 0, x 1, by idx_vars x⟩
    refine (tile5 (B := (tail D t).toDown) (blk0 H t) (blk1 H t) (blk3 H t) r j).trans ?_
    refine congrArg₂ (fun a b => (((tail D t).dh a b : ℝ) : EReal)) (Fin.ext ?_) (Fin.ext ?_)
    · exact h0.symm
    · exact h1.symm
  · obtain ⟨r, j, rfl⟩ : ∃ (r : Fin 256) (j : Fin 512), x = ix2 r j := ⟨x 0, x 1, by idx_vars x⟩
    refine (tile4 (B := (tail D t).toDown) (blk0 H t) (blk1 H t) (blk3 H t) r j).trans ?_
    refine congrArg₂ (fun a b => (((tail D t).dh a b : ℝ) : EReal)) (Fin.ext ?_) (Fin.ext ?_)
    · exact h0.symm
    · exact h1.symm
  · obtain ⟨r, j, rfl⟩ : ∃ (r : Fin 256) (j : Fin 512), x = ix2 r j := ⟨x 0, x 1, by idx_vars x⟩
    refine (tile3 (B := (tail D t).toDown) (blk0 H t) (blk1 H t) (blk3 H t) r j).trans ?_
    refine congrArg₂ (fun a b => (((tail D t).dh a b : ℝ) : EReal)) (Fin.ext ?_) (Fin.ext ?_)
    · exact h0.symm
    · exact h1.symm
  · obtain ⟨r, j, rfl⟩ : ∃ (r : Fin 256) (j : Fin 512), x = ix2 r j := ⟨x 0, x 1, by idx_vars x⟩
    refine (tile2 (B := (tail D t).toDown) (blk0 H t) (blk1 H t) (blk3 H t) r j).trans ?_
    refine congrArg₂ (fun a b => (((tail D t).dh a b : ℝ) : EReal)) (Fin.ext ?_) (Fin.ext ?_)
    · exact h0.symm
    · exact h1.symm
  · obtain ⟨r, j, rfl⟩ : ∃ (r : Fin 256) (j : Fin 512), x = ix2 r j := ⟨x 0, x 1, by idx_vars x⟩
    refine (tile1 (B := (tail D t).toDown) (blk0 H t) (blk1 H t) (blk3 H t) r j).trans ?_
    refine congrArg₂ (fun a b => (((tail D t).dh a b : ℝ) : EReal)) (Fin.ext ?_) (Fin.ext ?_)
    · exact h0.symm
    · exact h1.symm
  · obtain ⟨r, j, rfl⟩ : ∃ (r : Fin 256) (j : Fin 512), x = ix2 r j := ⟨x 0, x 1, by idx_vars x⟩
    refine (tile0 (B := (tail D t).toDown) (blk0 H t) (blk1 H t) (blk3 H t) r j).trans ?_
    refine congrArg₂ (fun a b => (((tail D t).dh a b : ℝ) : EReal)) (Fin.ext ?_) (Fin.ext ?_)
    · exact h0.symm
    · exact (by simp [col] : (col 0 j).val = j.val).trans h1.symm

set_option maxHeartbeats 1600000 in
/-- The hidden gradient a point stores, shard by shard (later points). -/
theorem point_10_B (t : Fin cfg0.N) (h0 : ¬t.val % 32 = 0) (y) :
    (out0_B_10 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (ms0_11 t) (hs0_11 t) (ms0_12 t) (hs0_12 t) (ms0_13 t) (hs0_13 t) (fun h => h0
      ((hcond0_0 t).mp h)) (iblk m c 0 t) (iblk m c 1 t) (iblk m c 2 t) (iblk m c 3 t) (iblk m c 4 t) (iblk m c 5 t)
      (iblk m c 6 t) (iblk m c 7 t) (iblk m c 8 t) (iblk m c 9 t) (outsAt0 m c (t.val - 1) (Nat.lt_of_le_of_lt
      (Nat.sub_le _ _) t.isLt)).2.2.2) y
      = (((tail D t).dh (y 0) (y 1) : ℝ) : EReal) := by
  frame_out
  canon_tiles x h
  · obtain ⟨r, j, rfl⟩ : ∃ (r : Fin 256) (j : Fin 512), x = ix2 r j := ⟨x 0, x 1, by idx_vars x⟩
    refine (tile7 (B := (tail D t).toDown) (blk0 H t) (blk1 H t) (blk3 H t) r j).trans ?_
    refine congrArg₂ (fun a b => (((tail D t).dh a b : ℝ) : EReal)) (Fin.ext ?_) (Fin.ext ?_)
    · exact h0.symm
    · exact h1.symm
  · obtain ⟨r, j, rfl⟩ : ∃ (r : Fin 256) (j : Fin 512), x = ix2 r j := ⟨x 0, x 1, by idx_vars x⟩
    refine (tile6 (B := (tail D t).toDown) (blk0 H t) (blk1 H t) (blk3 H t) r j).trans ?_
    refine congrArg₂ (fun a b => (((tail D t).dh a b : ℝ) : EReal)) (Fin.ext ?_) (Fin.ext ?_)
    · exact h0.symm
    · exact h1.symm
  · obtain ⟨r, j, rfl⟩ : ∃ (r : Fin 256) (j : Fin 512), x = ix2 r j := ⟨x 0, x 1, by idx_vars x⟩
    refine (tile5 (B := (tail D t).toDown) (blk0 H t) (blk1 H t) (blk3 H t) r j).trans ?_
    refine congrArg₂ (fun a b => (((tail D t).dh a b : ℝ) : EReal)) (Fin.ext ?_) (Fin.ext ?_)
    · exact h0.symm
    · exact h1.symm
  · obtain ⟨r, j, rfl⟩ : ∃ (r : Fin 256) (j : Fin 512), x = ix2 r j := ⟨x 0, x 1, by idx_vars x⟩
    refine (tile4 (B := (tail D t).toDown) (blk0 H t) (blk1 H t) (blk3 H t) r j).trans ?_
    refine congrArg₂ (fun a b => (((tail D t).dh a b : ℝ) : EReal)) (Fin.ext ?_) (Fin.ext ?_)
    · exact h0.symm
    · exact h1.symm
  · obtain ⟨r, j, rfl⟩ : ∃ (r : Fin 256) (j : Fin 512), x = ix2 r j := ⟨x 0, x 1, by idx_vars x⟩
    refine (tile3 (B := (tail D t).toDown) (blk0 H t) (blk1 H t) (blk3 H t) r j).trans ?_
    refine congrArg₂ (fun a b => (((tail D t).dh a b : ℝ) : EReal)) (Fin.ext ?_) (Fin.ext ?_)
    · exact h0.symm
    · exact h1.symm
  · obtain ⟨r, j, rfl⟩ : ∃ (r : Fin 256) (j : Fin 512), x = ix2 r j := ⟨x 0, x 1, by idx_vars x⟩
    refine (tile2 (B := (tail D t).toDown) (blk0 H t) (blk1 H t) (blk3 H t) r j).trans ?_
    refine congrArg₂ (fun a b => (((tail D t).dh a b : ℝ) : EReal)) (Fin.ext ?_) (Fin.ext ?_)
    · exact h0.symm
    · exact h1.symm
  · obtain ⟨r, j, rfl⟩ : ∃ (r : Fin 256) (j : Fin 512), x = ix2 r j := ⟨x 0, x 1, by idx_vars x⟩
    refine (tile1 (B := (tail D t).toDown) (blk0 H t) (blk1 H t) (blk3 H t) r j).trans ?_
    refine congrArg₂ (fun a b => (((tail D t).dh a b : ℝ) : EReal)) (Fin.ext ?_) (Fin.ext ?_)
    · exact h0.symm
    · exact h1.symm
  · obtain ⟨r, j, rfl⟩ : ∃ (r : Fin 256) (j : Fin 512), x = ix2 r j := ⟨x 0, x 1, by idx_vars x⟩
    refine (tile0 (B := (tail D t).toDown) (blk0 H t) (blk1 H t) (blk3 H t) r j).trans ?_
    refine congrArg₂ (fun a b => (((tail D t).dh a b : ℝ) : EReal)) (Fin.ext ?_) (Fin.ext ?_)
    · exact h0.symm
    · exact (by simp [col] : (col 0 j).val = j.val).trans h1.symm

/-- The gradient of the residual input at a point. -/
theorem point_11_A (t : Fin cfg0.N) (h0 : t.val % 32 = 0) (y) :
    (out0_A_11 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (ms0_11 t) (hs0_11 t) (ms0_12 t) (hs0_12 t) (ms0_13 t) (hs0_13 t) ((hcond0_0
      t).mpr h0) (iblk m c 0 t) (iblk m c 1 t) (iblk m c 2 t) (iblk m c 3 t) (iblk m c 4 t) (iblk m c 5 t) (iblk m c 6
      t) (iblk m c 7 t) (iblk m c 8 t) (iblk m c 9 t)) y
      = ((alpha * (tail D t).dz (y 0) (y 1) : ℝ) : EReal) := by
  frame_out
  simp only [blockDu_def]
  idx_vars y
  exact out11_at (T := tail D t) (du_at H t) (blk4 H t) (blk8_4 H t) (blk9_0 H t) (blk6 H t) _ _

/-- The gradient of the mixed branch at a point. -/
theorem point_12_A (t : Fin cfg0.N) (h0 : t.val % 32 = 0) (y) :
    (out0_A_12 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (ms0_11 t) (hs0_11 t) (ms0_12 t) (hs0_12 t) (ms0_13 t) (hs0_13 t) ((hcond0_0
      t).mpr h0) (iblk m c 0 t) (iblk m c 1 t) (iblk m c 2 t) (iblk m c 3 t) (iblk m c 4 t) (iblk m c 5 t) (iblk m c 6
      t) (iblk m c 7 t) (iblk m c 8 t) (iblk m c 9 t)) y
      = (((1 + D.gt (y 1)) * (tail D t).dz (y 0) (y 1) : ℝ) : EReal) := by
  frame_out
  simp only [blockDu_def]
  idx_vars y
  exact out12_at (T := tail D t) (du_at H t) (blk4 H t) (blk8_4 H t) (blk9_0 H t) (blk6 H t) (blk8_2 H t) _ _

/-- The gradient of the residual input at a point. -/
theorem point_11_B (t : Fin cfg0.N) (h0 : ¬t.val % 32 = 0) (y) :
    (out0_B_11 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (ms0_11 t) (hs0_11 t) (ms0_12 t) (hs0_12 t) (ms0_13 t) (hs0_13 t) (fun h => h0
      ((hcond0_0 t).mp h)) (iblk m c 0 t) (iblk m c 1 t) (iblk m c 2 t) (iblk m c 3 t) (iblk m c 4 t) (iblk m c 5 t)
      (iblk m c 6 t) (iblk m c 7 t) (iblk m c 8 t) (iblk m c 9 t) (outsAt0 m c (t.val - 1) (Nat.lt_of_le_of_lt
      (Nat.sub_le _ _) t.isLt)).2.2.2) y
      = ((alpha * (tail D t).dz (y 0) (y 1) : ℝ) : EReal) := by
  frame_out
  simp only [blockDu_def]
  idx_vars y
  exact out11_at (T := tail D t) (du_at H t) (blk4 H t) (blk8_4 H t) (blk9_0 H t) (blk6 H t) _ _

/-- The gradient of the mixed branch at a point. -/
theorem point_12_B (t : Fin cfg0.N) (h0 : ¬t.val % 32 = 0) (y) :
    (out0_B_12 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (ms0_11 t) (hs0_11 t) (ms0_12 t) (hs0_12 t) (ms0_13 t) (hs0_13 t) (fun h => h0
      ((hcond0_0 t).mp h)) (iblk m c 0 t) (iblk m c 1 t) (iblk m c 2 t) (iblk m c 3 t) (iblk m c 4 t) (iblk m c 5 t)
      (iblk m c 6 t) (iblk m c 7 t) (iblk m c 8 t) (iblk m c 9 t) (outsAt0 m c (t.val - 1) (Nat.lt_of_le_of_lt
      (Nat.sub_le _ _) t.isLt)).2.2.2) y
      = (((1 + D.gt (y 1)) * (tail D t).dz (y 0) (y 1) : ℝ) : EReal) := by
  frame_out
  simp only [blockDu_def]
  idx_vars y
  exact out12_at (T := tail D t) (du_at H t) (blk4 H t) (blk8_4 H t) (blk9_0 H t) (blk6 H t) (blk8_2 H t) _ _

end Cert.KernelValue

end
-- ==== Proof.KernelSums.lean ====
/- The column sums the kernel accumulates over its grid points. -/
module

public import proofs.«01_k».proof.Proof.KernelBlocks
public import Idealize.ShloMosaic.Lib.WritesUnit

@[expose] public section

set_option maxRecDepth 16384

noncomputable section

namespace Cert.KernelSums

open Cert.KernelIdeal Cert.KernelIdeal.Gen Cert.Model Cert.Grad Cert.HostValue Cert.BlockValue Cert.KernelBlocks
open Idealize.ShloMosaic Idealize.ShloMosaic.TcCoe Idealize.SL.Sem
open Idealize.ShloMosaic.Pipeline (Dat)
open scoped BigOperators

/-- Row `i` of an eight-row array, as the array's own indices. -/
theorem emb_row (i : ℕ) (inb) (k : Fin 8) (hk : k.val = i) (l : Fin 1024) :
    (Rect.unit (s := S8x1024) ![i, 0] ![1, 1024] inb).emb (ix2 0 l) = ix2 k l := by
  subst hk
  refine funext fun a => Fin.ext ?_
  match a with
  | ⟨0, _⟩ => show k.val + 1 * 0 = k.val; omega
  | ⟨1, _⟩ => show 0 + 1 * l.val = l.val; omega

theorem ld_row (f : S8x1024.Idx → Elt Ideal .f32) (i : ℕ) (inb) (k : Fin 8) (hk : k.val = i) (l : Fin 1024) :
    View.ld (Val := Elt Ideal) (e' := .f32) f (Rect.unit (s := S8x1024) ![i, 0] ![1, 1024] inb) (ix2 0 l) = f (ix2 k l) :=
  congrArg f (emb_row i inb k hk l)

theorem canon_row (i : ℕ) (inb) (k : Fin 8) (hk : k.val = i) (l : Fin 1024)
    (w : (Rect.unit (s := S8x1024) ![i, 0] ![1, 1024] inb).shape.Idx → Elt Ideal .f32) (L : List (View.Piece (Elt Ideal) S8x1024 .f32)) :
    View.canon ((⟨Rect.unit (s := S8x1024) ![i, 0] ![1, 1024] inb, w⟩ : View.Piece (Elt Ideal) S8x1024 .f32) :: L) (ix2 k l) = w (ix2 0 l) := by
  rw [← emb_row i inb k hk l]
  exact View.canon_cons_emb _ w L _

theorem canon_skip (i : ℕ) (inb) (k : Fin 8) (hk : k.val ≠ i) (l : Fin 1024)
    (w : (Rect.unit (s := S8x1024) ![i, 0] ![1, 1024] inb).shape.Idx → Elt Ideal .f32) (L : List (View.Piece (Elt Ideal) S8x1024 .f32)) :
    View.canon ((⟨Rect.unit (s := S8x1024) ![i, 0] ![1, 1024] inb, w⟩ : View.Piece (Elt Ideal) S8x1024 .f32) :: L) (ix2 k l)
      = View.canon L (ix2 k l) := by
  refine View.canon_cons_of_not_mem _ L fun h => ?_
  obtain ⟨h1, h2⟩ := (Rect.mem_set_unit (s := S8x1024) (off := ![i, 0]) (size := ![1, 1024]) (inb := inb)).mp h (0 : Fin 2)
  have h1' : i ≤ k.val := h1
  have h2' : k.val < i + 1 := h2
  omega

theorem rd_row {sig : RefSig} {κ : Kind} {sp : Space} (v : View sig κ sp S8x1024 .f32) (f : v.ty.Contents (Elt Ideal))
    (i : ℕ) (inb) (k : Fin 8) (hk : k.val = i) (l : Fin 1024)
    (w : (Rect.unit (s := S8x1024) ![i, 0] ![1, 1024] inb).shape.Idx → Elt Ideal .f32) (L : List (View.Piece (Elt Ideal) S8x1024 .f32)) :
    v.read (Elt Ideal) (v.writes (Elt Ideal) f ((⟨Rect.unit (s := S8x1024) ![i, 0] ![1, 1024] inb, w⟩ : View.Piece (Elt Ideal) S8x1024 .f32) :: L))
      (ix2 k l) = w (ix2 0 l) := by
  refine View.read_writes_cons_unit_of_mem v f inb w L (ix2 k l) (ix2 0 l) rfl fun a => ?_
  match a with
  | ⟨0, _⟩ => show k.val = i + 0; omega
  | ⟨1, _⟩ => show l.val = 0 + l.val; omega

theorem rd_skip {sig : RefSig} {κ : Kind} {sp : Space} (v : View sig κ sp S8x1024 .f32) (f : v.ty.Contents (Elt Ideal))
    (i : ℕ) (inb) (k : Fin 8) (hk : k.val ≠ i) (l : Fin 1024)
    (w : (Rect.unit (s := S8x1024) ![i, 0] ![1, 1024] inb).shape.Idx → Elt Ideal .f32) (L : List (View.Piece (Elt Ideal) S8x1024 .f32)) :
    v.read (Elt Ideal) (v.writes (Elt Ideal) f ((⟨Rect.unit (s := S8x1024) ![i, 0] ![1, 1024] inb, w⟩ : View.Piece (Elt Ideal) S8x1024 .f32) :: L))
      (ix2 k l) = v.read (Elt Ideal) (v.writes (Elt Ideal) f L) (ix2 k l) := by
  refine View.read_writes_cons_unit_of_not_mem v f inb w L (ix2 k l) rfl (0 : Fin 2) ?_
  show k.val < i ∨ i + 1 ≤ k.val
  omega

theorem st_high (T : Tail) (j : ℕ) (l : Fin 1024) (h : 5 ≤ j) : T.st j l = 0 := by
  match j, h with
  | n + 5, _ => rfl

/-- An eight-row array written whole and then row by row reads, at a row, what was last written there. -/
theorem canon_rows (k : Fin 8) (l : Fin 1024) (X : Fin 8 → EReal) (L : List (View.Piece (Elt Ideal) S8x1024 .f32))
    {i4 : _} (w4 : (Rect.unit (s := S8x1024) ![4, 0] ![1, 1024] i4).shape.Idx → Elt Ideal .f32) {i3 : _} (w3 : (Rect.unit (s := S8x1024) ![3, 0] ![1, 1024] i3).shape.Idx → Elt Ideal .f32) {i2 : _} (w2 : (Rect.unit (s := S8x1024) ![2, 0] ![1, 1024] i2).shape.Idx → Elt Ideal .f32) {i1 : _} (w1 : (Rect.unit (s := S8x1024) ![1, 0] ![1, 1024] i1).shape.Idx → Elt Ideal .f32) {i0 : _} (w0 : (Rect.unit (s := S8x1024) ![0, 0] ![1, 1024] i0).shape.Idx → Elt Ideal .f32)
    (h4 : (w4 (ix2 0 l) : EReal) = X 4) (h3 : (w3 (ix2 0 l) : EReal) = X 3) (h2 : (w2 (ix2 0 l) : EReal) = X 2) (h1 : (w1 (ix2 0 l) : EReal) = X 1) (h0 : (w0 (ix2 0 l) : EReal) = X 0)
    (hb : ∀ k : Fin 8, 5 ≤ k.val → (View.canon L (ix2 k l) : EReal) = X k) :
    (View.canon ((⟨Rect.unit (s := S8x1024) ![4, 0] ![1, 1024] i4, w4⟩ : View.Piece (Elt Ideal) S8x1024 .f32) ::     (⟨Rect.unit (s := S8x1024) ![3, 0] ![1, 1024] i3, w3⟩ : View.Piece (Elt Ideal) S8x1024 .f32) ::     (⟨Rect.unit (s := S8x1024) ![2, 0] ![1, 1024] i2, w2⟩ : View.Piece (Elt Ideal) S8x1024 .f32) ::     (⟨Rect.unit (s := S8x1024) ![1, 0] ![1, 1024] i1, w1⟩ : View.Piece (Elt Ideal) S8x1024 .f32) ::     (⟨Rect.unit (s := S8x1024) ![0, 0] ![1, 1024] i0, w0⟩ : View.Piece (Elt Ideal) S8x1024 .f32) :: L) (ix2 k l) : EReal) = X k := by
  by_cases e4 : k = 4
  · subst e4
    exact (canon_row 4 _ 4 rfl l _ _).trans h4
  have n4 : k.val ≠ 4 := fun h => e4 (Fin.ext h)
  refine (canon_skip 4 _ k n4 l _ _).trans ?_
  by_cases e3 : k = 3
  · subst e3
    exact (canon_row 3 _ 3 rfl l _ _).trans h3
  have n3 : k.val ≠ 3 := fun h => e3 (Fin.ext h)
  refine (canon_skip 3 _ k n3 l _ _).trans ?_
  by_cases e2 : k = 2
  · subst e2
    exact (canon_row 2 _ 2 rfl l _ _).trans h2
  have n2 : k.val ≠ 2 := fun h => e2 (Fin.ext h)
  refine (canon_skip 2 _ k n2 l _ _).trans ?_
  by_cases e1 : k = 1
  · subst e1
    exact (canon_row 1 _ 1 rfl l _ _).trans h1
  have n1 : k.val ≠ 1 := fun h => e1 (Fin.ext h)
  refine (canon_skip 1 _ k n1 l _ _).trans ?_
  by_cases e0 : k = 0
  · subst e0
    exact (canon_row 0 _ 0 rfl l _ _).trans h0
  have n0 : k.val ≠ 0 := fun h => e0 (Fin.ext h)
  refine (canon_skip 0 _ k n0 l _ _).trans ?_
  exact hb k (by omega)

theorem rd_rows {sig : RefSig} {κ : Kind} {sp : Space} (v : View sig κ sp S8x1024 .f32) (f : v.ty.Contents (Elt Ideal))
    (k : Fin 8) (l : Fin 1024) (X : Fin 8 → EReal)
    {i4 : _} (w4 : (Rect.unit (s := S8x1024) ![4, 0] ![1, 1024] i4).shape.Idx → Elt Ideal .f32) {i3 : _} (w3 : (Rect.unit (s := S8x1024) ![3, 0] ![1, 1024] i3).shape.Idx → Elt Ideal .f32) {i2 : _} (w2 : (Rect.unit (s := S8x1024) ![2, 0] ![1, 1024] i2).shape.Idx → Elt Ideal .f32) {i1 : _} (w1 : (Rect.unit (s := S8x1024) ![1, 0] ![1, 1024] i1).shape.Idx → Elt Ideal .f32) {i0 : _} (w0 : (Rect.unit (s := S8x1024) ![0, 0] ![1, 1024] i0).shape.Idx → Elt Ideal .f32)
    (h4 : (w4 (ix2 0 l) : EReal) = X 4) (h3 : (w3 (ix2 0 l) : EReal) = X 3) (h2 : (w2 (ix2 0 l) : EReal) = X 2) (h1 : (w1 (ix2 0 l) : EReal) = X 1) (h0 : (w0 (ix2 0 l) : EReal) = X 0)
    (hb : ∀ k : Fin 8, 5 ≤ k.val → (v.read (Elt Ideal) f (ix2 k l) : EReal) = X k) :
    (v.read (Elt Ideal) (v.writes (Elt Ideal) f [(⟨Rect.unit (s := S8x1024) ![4, 0] ![1, 1024] i4, w4⟩ : View.Piece (Elt Ideal) S8x1024 .f32),
      (⟨Rect.unit (s := S8x1024) ![3, 0] ![1, 1024] i3, w3⟩ : View.Piece (Elt Ideal) S8x1024 .f32),
      (⟨Rect.unit (s := S8x1024) ![2, 0] ![1, 1024] i2, w2⟩ : View.Piece (Elt Ideal) S8x1024 .f32),
      (⟨Rect.unit (s := S8x1024) ![1, 0] ![1, 1024] i1, w1⟩ : View.Piece (Elt Ideal) S8x1024 .f32),
      (⟨Rect.unit (s := S8x1024) ![0, 0] ![1, 1024] i0, w0⟩ : View.Piece (Elt Ideal) S8x1024 .f32)])
      (ix2 k l) : EReal) = X k := by
  by_cases e4 : k = 4
  · subst e4
    exact (rd_row v f 4 _ 4 rfl l _ _).trans h4
  have n4 : k.val ≠ 4 := fun h => e4 (Fin.ext h)
  refine (rd_skip v f 4 _ k n4 l _ _).trans ?_
  by_cases e3 : k = 3
  · subst e3
    exact (rd_row v f 3 _ 3 rfl l _ _).trans h3
  have n3 : k.val ≠ 3 := fun h => e3 (Fin.ext h)
  refine (rd_skip v f 3 _ k n3 l _ _).trans ?_
  by_cases e2 : k = 2
  · subst e2
    exact (rd_row v f 2 _ 2 rfl l _ _).trans h2
  have n2 : k.val ≠ 2 := fun h => e2 (Fin.ext h)
  refine (rd_skip v f 2 _ k n2 l _ _).trans ?_
  by_cases e1 : k = 1
  · subst e1
    exact (rd_row v f 1 _ 1 rfl l _ _).trans h1
  have n1 : k.val ≠ 1 := fun h => e1 (Fin.ext h)
  refine (rd_skip v f 1 _ k n1 l _ _).trans ?_
  by_cases e0 : k = 0
  · subst e0
    exact (rd_row v f 0 _ 0 rfl l _ _).trans h0
  have n0 : k.val ≠ 0 := fun h => e0 (Fin.ext h)
  refine (rd_skip v f 0 _ k n0 l _ _).trans ?_
  exact hb k (by omega)

variable {m : (ℓ : Loc nD τ sig) → Buf (Elt Ideal) ℓ} {c : Dev nD} {D : Data} (H : Feeds m c D)
include H

/-- The column sums after the first point. -/
theorem point_13_A (t : Fin cfg0.N) (h0 : t.val % 32 = 0) (y) :
    (out0_A_13 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (ms0_11 t) (hs0_11 t) (ms0_12 t) (hs0_12 t) (ms0_13 t) (hs0_13 t) ((hcond0_0
      t).mpr h0) (iblk m c 0 t) (iblk m c 1 t) (iblk m c 2 t) (iblk m c 3 t) (iblk m c 4 t) (iblk m c 5 t) (iblk m c 6
      t) (iblk m c 7 t) (iblk m c 8 t) (iblk m c 9 t)) y
      = (0 : EReal) + (((tail D t).st (y 0).val (y 1) : ℝ) : EReal) := by
  frame_out
  simp (disch := decide) only [View.readCov_skip, View.readCov_fill]
  simp only [blockDu_def]
  obtain ⟨k, l, rfl⟩ : ∃ (k : Fin 8) (l : Fin 1024), y = ix2 k l := ⟨y 0, y 1, by idx_vars y⟩
  have hd := du_at H t
  have ha := blk4 H t
  have hs := blk8_4 H t
  have hg := blk9_0 H t
  have hz := blk6 H t
  have hp (k : Fin 8) : (k0_pay30 (F := Ideal) (ix2 k l) : EReal) = 0 := by pointwise [k0_pay30]
  refine canon_rows k l (fun k => (0 : EReal) + (((tail D t).st k.val l : ℝ) : EReal)) _ _ _ _ _ _ ?_ ?_ ?_ ?_ ?_ fun k hk => ?_
  · refine (row4_at (T := tail D t) hd ha hs hg hz _ (blk7 H t) l).trans ?_
    exact congrArg (· + _) ((ld_row _ 4 _ 4 rfl l).trans (hp 4))
  · refine (row3_at (T := tail D t) hd ha hs hg hz _ l).trans ?_
    exact congrArg (· + _) ((ld_row _ 3 _ 3 rfl l).trans (hp 3))
  · refine (row2_at (T := tail D t) hd ha hs hg hz _ l).trans ?_
    exact congrArg (· + _) ((ld_row _ 2 _ 2 rfl l).trans (hp 2))
  · refine (row1_at (T := tail D t) hd ha hs hg hz _ l).trans ?_
    exact congrArg (· + _) ((ld_row _ 1 _ 1 rfl l).trans (hp 1))
  · refine (row0_at (T := tail D t) hd ha hs hg hz _ (blk5 H t) l).trans ?_
    exact congrArg (· + _) ((ld_row _ 0 _ 0 rfl l).trans (hp 0))
  · refine (congrFun (View.canon_cons_unit_lit _ _ _ (by decide)) _).trans ((hp _).trans ?_)
    rw [st_high _ _ _ hk]
    exact (add_zero (0 : EReal)).symm

/-- The column sums after a later point. -/
theorem point_13_B (t : Fin cfg0.N) (h0 : ¬t.val % 32 = 0) (y) :
    (out0_B_13 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (ms0_11 t) (hs0_11 t) (ms0_12 t) (hs0_12 t) (ms0_13 t) (hs0_13 t) (fun h => h0
      ((hcond0_0 t).mp h)) (iblk m c 0 t) (iblk m c 1 t) (iblk m c 2 t) (iblk m c 3 t) (iblk m c 4 t) (iblk m c 5 t)
      (iblk m c 6 t) (iblk m c 7 t) (iblk m c 8 t) (iblk m c 9 t) (outsAt0 m c (t.val - 1) (Nat.lt_of_le_of_lt
      (Nat.sub_le _ _) t.isLt)).2.2.2) y
      = ((outsAt0 m c (t.val - 1) (Nat.lt_of_le_of_lt (Nat.sub_le _ _) t.isLt)).2.2.2 : S8x1024.Idx → EReal) y + (((tail D t).st (y 0).val (y 1) : ℝ) : EReal) := by
  frame_out
  simp only [blockDu_def]
  obtain ⟨k, l, rfl⟩ : ∃ (k : Fin 8) (l : Fin 1024), y = ix2 k l := ⟨y 0, y 1, by idx_vars y⟩
  have hd := du_at H t
  have ha := blk4 H t
  have hs := blk8_4 H t
  have hg := blk9_0 H t
  have hz := blk6 H t
  refine rd_rows _ _ k l (fun k => ((outsAt0 m c (t.val - 1) (Nat.lt_of_le_of_lt (Nat.sub_le _ _) t.isLt)).2.2.2 : S8x1024.Idx → EReal)
    (ix2 k l) + (((tail D t).st k.val l : ℝ) : EReal)) _ _ _ _ _ ?_ ?_ ?_ ?_ ?_ fun k hk => ?_
  · refine (row4_at (T := tail D t) hd ha hs hg hz _ (blk7 H t) l).trans ?_
    exact congrArg (· + _) (ld_row _ 4 _ 4 rfl l)
  · refine (row3_at (T := tail D t) hd ha hs hg hz _ l).trans ?_
    exact congrArg (· + _) (ld_row _ 3 _ 3 rfl l)
  · refine (row2_at (T := tail D t) hd ha hs hg hz _ l).trans ?_
    exact congrArg (· + _) (ld_row _ 2 _ 2 rfl l)
  · refine (row1_at (T := tail D t) hd ha hs hg hz _ l).trans ?_
    exact congrArg (· + _) (ld_row _ 1 _ 1 rfl l)
  · refine (row0_at (T := tail D t) hd ha hs hg hz _ (blk5 H t) l).trans ?_
    exact congrArg (· + _) (ld_row _ 0 _ 0 rfl l)
  · refine (congrFun (Memref.IsWhole.read_unread _ _) _).trans ?_
    rw [st_high _ _ _ hk]
    exact (add_zero (_ : EReal)).symm

end Cert.KernelSums

end
-- ==== Proof.KernelFinal.lean ====
/- The four result arrays the kernel leaves, and the data read off finite arguments. -/
module

public import proofs.«01_k».proof.Proof.KernelValue
public import proofs.«01_k».proof.Proof.KernelSums
public import proofs.«01_k».proof.Defs
public import proofs.«01_k».proof.Proof.Gen.Pre_finite
public import proofs.«01_k».proof.Proof.Gen.KernelIdeal.Value
public import Idealize.ShloMosaic.Lib.Pipeline.ValueKit.Geometry

@[expose] public section

set_option maxRecDepth 16384

noncomputable section

namespace Cert.KernelFinal

open Cert.KernelIdeal Cert.KernelIdeal.Gen Cert.Model Cert.Grad Cert.HostValue Cert.BlockValue Cert.KernelBlocks Cert.KernelValue Cert.KernelSums
open Idealize.ShloMosaic Idealize.ShloMosaic.TcCoe Idealize.SL.Sem
open Idealize.ShloMosaic.Pipeline (Dat)
open scoped BigOperators

section
variable {m : (ℓ : Loc nD τ sig) → Buf (Elt Ideal) ℓ} {c : Dev nD} {D : Data} (H : Feeds m c D)
include H

/-- The gradient of the hidden layer. -/
theorem final10 : (dats m 0 c).arrAt 10 cfg0.N = lift D.dh := by
  refine (dats m 0 c).arrAt_eq_of_covers 10 _ (by decide +kernel) fun t hf y => ?_
  blk_simp
  rw [after0_10]
  have e : ((View.whole main_v48_0).slice (win0_10.rect t)).emb y = ix2 (at_ t (y 0)) (y 1) := by
    blk_ext [idx_val t]
    rfl
  refine Eq.trans ?_ (congrArg (lift D.dh) e).symm
  by_cases h : t.val % 32 = 0
  · rw [outsAt0_A m c t h]
    dsimp only
    exact point_10_A H t h _
  · rw [outsAt0_B m c t h]
    dsimp only
    exact point_10_B H t h _

/-- The gradient of the residual input. -/
theorem final11 : (dats m 0 c).arrAt 11 cfg0.N = lift fun r l => alpha * D.dz r l := by
  refine (dats m 0 c).arrAt_eq_of_covers 11 _ (by decide +kernel) fun t hf y => ?_
  blk_simp
  rw [after0_11]
  have e : ((View.whole main_v48_1).slice (win0_11.rect t)).emb y = ix2 (at_ t (y 0)) (y 1) := by
    blk_ext [idx_val t]
    rfl
  refine Eq.trans ?_ (congrArg (lift fun r l => alpha * D.dz r l) e).symm
  by_cases h : t.val % 32 = 0
  · rw [outsAt0_A m c t h]
    dsimp only
    exact point_11_A H t h _
  · rw [outsAt0_B m c t h]
    dsimp only
    exact point_11_B H t h _

/-- The gradient of the mixed branch. -/
theorem final12 : (dats m 0 c).arrAt 12 cfg0.N = lift fun r l => (1 + D.gt l) * D.dz r l := by
  refine (dats m 0 c).arrAt_eq_of_covers 12 _ (by decide +kernel) fun t hf y => ?_
  blk_simp
  rw [after0_12]
  have e : ((View.whole main_v48_2).slice (win0_12.rect t)).emb y = ix2 (at_ t (y 0)) (y 1) := by
    blk_ext [idx_val t]
    rfl
  refine Eq.trans ?_ (congrArg (lift fun r l => (1 + D.gt l) * D.dz r l) e).symm
  by_cases h : t.val % 32 = 0
  · rw [outsAt0_A m c t h]
    dsimp only
    exact point_12_A H t h _
  · rw [outsAt0_B m c t h]
    dsimp only
    exact point_12_B H t h _

/-- The part of the column sums a point adds. -/
theorem sums (n : ℕ) (hn : n < cfg0.N) (y : S8x1024.Idx) : ((outsAt0 m c n hn).2.2.2 : S8x1024.Idx → EReal) y
    = ((∑ s ∈ Finset.range (n + 1), (if h : s < 32 then (tail D ⟨s, h⟩).st (y 0).val (y 1) else 0) : ℝ) : EReal) := by
  have hN : cfg0.N = 32 := N_0
  induction n with
  | zero =>
    have h := outsAt0_A m c ⟨0, hn⟩ rfl
    dsimp only at h
    rw [h]
    dsimp only
    refine (point_13_A H ⟨0, hn⟩ rfl y).trans ?_
    rw [Finset.sum_range_one, dif_pos (by omega), zero_add]
    rfl
  | succ n ih =>
    have hk : ¬(n + 1) % 32 = 0 := by omega
    have h := outsAt0_B m c ⟨n + 1, hn⟩ hk
    dsimp only at h
    rw [h]
    dsimp only
    refine (point_13_B H ⟨n + 1, hn⟩ hk y).trans ?_
    rw [Finset.sum_range_succ, dif_pos (by omega), EReal.coe_add]
    exact congrArg (· + _) (ih (by omega))

/-- The column sums. -/
theorem final13 : (dats m 0 c).arrAt 13 cfg0.N = lift (a := 8) fun j l => D.st j.val l := by
  refine (dats m 0 c).arrAt_eq_of_covers 13 _ (by decide +kernel) fun t hf y => ?_
  blk_simp
  rw [after0_13]
  have e : ((View.whole main_v48_3).slice (win0_13.rect t)).emb y = ix2 (y 0) (y 1) := by
    blk_ext [idx_val t]
  refine Eq.trans ?_ (congrArg (lift (a := 8) fun j l => D.st j.val l) e).symm
  refine (sums H t.val t.isLt _).trans (congrArg (fun t : ℝ => (t : EReal)) ?_)
  have ht : t.val + 1 = 32 := by
    have := (flush0_13 t).mp hf
    have := t.isLt
    have hN : cfg0.N = 32 := N_0
    omega
  rw [ht, Finset.sum_range]
  simp only [Fin.is_lt, dite_true]
  exact sum_st D _ _

end

/-- A number whose absolute value is below something is finite. -/
theorem fin_of (a b : EReal) (h : Ideal.cmp .olt (max a (-a)) b = 1#1) : a = ((a.toReal : ℝ) : EReal) := by
  have hlt : max a (-a) < b := by
    by_contra hc
    rw [Ideal.cmp, decide_eq_false hc] at h
    exact absurd h (by decide)
  have h1 : a ≠ ⊤ := fun e => absurd (lt_of_lt_of_le (lt_of_le_of_lt (le_max_left a (-a)) hlt) le_top) (by rw [e]; exact lt_irrefl _)
  have h2 : a ≠ ⊥ := fun e => absurd (lt_of_lt_of_le (lt_of_le_of_lt (le_max_right a (-a)) hlt) le_top) (by rw [e]; exact lt_irrefl _)
  exact (EReal.coe_toReal h1 h2).symm

theorem lift_of {a b : ℕ} (f : (⟨2, ![a, b]⟩ : Shape).Idx → EReal) (h : ∀ i, f i = (((f i).toReal : ℝ) : EReal)) :
    f = lift fun r l => (f (ix2 r l)).toReal := by
  funext i
  have e : i = ix2 (i 0) (i 1) := funext fun a => match a with
    | ⟨0, _⟩ => rfl
    | ⟨1, _⟩ => rfl
  exact (h i).trans (congrArg (fun j => (((f j).toReal : ℝ) : EReal)) e)

theorem row_of {b : ℕ} (f : (⟨2, ![1, b]⟩ : Shape).Idx → EReal) (h : ∀ i, f i = (((f i).toReal : ℝ) : EReal)) :
    f = row fun l => (f (ix2 0 l)).toReal := by
  funext i
  have e : i = ix2 0 (i 1) := funext fun a => match a with
    | ⟨0, _⟩ => Subsingleton.elim (α := Fin 1) _ _
    | ⟨1, _⟩ => rfl
  exact (h i).trans (congrArg (fun j => (((f j).toReal : ℝ) : EReal)) e)

section
variable (m : (ℓ : Loc nD τ sig) → Buf (Elt Ideal) ℓ) (c : Dev nD)

/-- The real numbers the argument arrays hold. -/
def data : Data where
  x r l := ((m ((c : Thread nD τ).loc main_arg0) : S8192x1024.Idx → EReal) (ix2 r l)).toReal
  mixed r l := ((m ((c : Thread nD τ).loc main_arg1) : S8192x1024.Idx → EReal) (ix2 r l)).toReal
  gt l := ((m ((c : Thread nD τ).loc main_arg2) : S1x1024.Idx → EReal) (ix2 0 l)).toReal
  g l := ((m ((c : Thread nD τ).loc main_arg3) : S1x1024.Idx → EReal) (ix2 0 l)).toReal
  b l := ((m ((c : Thread nD τ).loc main_arg4) : S1x1024.Idx → EReal) (ix2 0 l)).toReal
  sc l := ((m ((c : Thread nD τ).loc main_arg5) : S1x1024.Idx → EReal) (ix2 0 l)).toReal
  sh l := ((m ((c : Thread nD τ).loc main_arg6) : S1x1024.Idx → EReal) (ix2 0 l)).toReal
  w1 r l := ((m ((c : Thread nD τ).loc main_arg7) : S1024x4096.Idx → EReal) (ix2 r l)).toReal
  w2 r l := ((m ((c : Thread nD τ).loc main_arg8) : S4096x1024.Idx → EReal) (ix2 r l)).toReal
  dx1 r l := ((m ((c : Thread nD τ).loc main_arg9) : S8192x1024.Idx → EReal) (ix2 r l)).toReal
  dff r l := ((m ((c : Thread nD τ).loc main_arg10) : S8192x1024.Idx → EReal) (ix2 r l)).toReal

variable {m}

/-- Arguments the precondition calls finite hold real numbers. -/
theorem feeds (h : Cert.Pre_KernelIdeal_finite m) : Feeds m c (data m c) := by
  obtain ⟨h0, h1, h2, h3, h4, h5, h6, h7, h8, h9, h10⟩ := h c
  exact ⟨lift_of _ fun i => fin_of _ _ (congrFun h0 i), lift_of _ fun i => fin_of _ _ (congrFun h1 i), row_of _ fun i => fin_of _ _ (congrFun h2 i),
    row_of _ fun i => fin_of _ _ (congrFun h3 i), row_of _ fun i => fin_of _ _ (congrFun h4 i), row_of _ fun i => fin_of _ _ (congrFun h5 i),
    row_of _ fun i => fin_of _ _ (congrFun h6 i), lift_of _ fun i => fin_of _ _ (congrFun h7 i), lift_of _ fun i => fin_of _ _ (congrFun h8 i),
    lift_of _ fun i => fin_of _ _ (congrFun h9 i), lift_of _ fun i => fin_of _ _ (congrFun h10 i)⟩

end

end Cert.KernelFinal

end
-- ==== Proof.FfModel.lean ====
/- The mathematics of the feed-forward block's forward pass, of the loss after it and of the gradient back to the residual
   stream, over the real numbers, for any number of rows: what both programs compute at finite arguments. -/
module

public import proofs.«01_k».proof.Proof.Model
public import Idealize.ShloMosaic.Lib.Pointwise.Sums

@[expose] public section

noncomputable section

namespace Cert.FfModel

open Idealize.ShloMosaic Cert.Grad
open scoped BigOperators

theorem lit_inv_n : Ideal.ofBits .f32 0x3A800000#32 = ((1 / 1024 : ℝ) : EReal) := by
  simp [Ideal.ofBits, Ideal.ieee, -EReal.coe_mul]; norm_num

theorem lit_half_inv_n : Ideal.ofBits .f32 0x3A000000#32 = ((1 / 2048 : ℝ) : EReal) := by
  simp [Ideal.ofBits, Ideal.ieee, -EReal.coe_mul]; norm_num

theorem lit_half : Ideal.ofBits .f32 0x3F000000#32 = ((1 / 2 : ℝ) : EReal) := by
  simp [Ideal.ofBits, Ideal.ieee, -EReal.coe_mul]; norm_num

/-- The arguments, as real numbers, at `n` rows. -/
structure Data (n : ℕ) where
  x : Fin n → Fin 1024 → ℝ
  tgt : Fin n → Fin 1024 → ℝ
  w1 : Fin 1024 → Fin 4096 → ℝ
  w2 : Fin 4096 → Fin 1024 → ℝ
  sh : Fin 1024 → ℝ
  sc : Fin 1024 → ℝ
  gt : Fin 1024 → ℝ
  g : Fin 1024 → ℝ
  b : Fin 1024 → ℝ

namespace Data
variable {n : ℕ} (D : Data n)

/-- The modulated input. -/
def u2 (r : Fin n) (l : Fin 1024) : ℝ := D.x r l * (1 + D.sc l) + D.sh l
/-- The hidden layer before its activation. -/
def h (r : Fin n) (f : Fin 4096) : ℝ := ∑ k, D.u2 r k * D.w1 k f
/-- The hidden layer: the square of the positive part. -/
def hid (r : Fin n) (f : Fin 4096) : ℝ := max (D.h r f) 0 * max (D.h r f) 0
/-- The block's output. -/
def ff (r : Fin n) (l : Fin 1024) : ℝ := ∑ f, D.hid r f * D.w2 f l
/-- The residual sum before the normalisation. -/
def z (r : Fin n) (l : Fin 1024) : ℝ := alpha * D.x r l + (1 + D.gt l) * D.ff r l
/-- The normalised stream less the target. -/
def diff (r : Fin n) (l : Fin 1024) : ℝ := xhat (D.z r) l * D.g l + D.b l - D.tgt r l
/-- The gradient of the normalised stream. -/
def dy (r : Fin n) (l : Fin 1024) : ℝ := D.diff r l * (1 / 1024)
/-- The gradient of the residual sum. -/
def dz (r : Fin n) (l : Fin 1024) : ℝ := lnGrad (D.z r) (fun k => D.dy r k * D.g k) l
/-- The four column sums: the gradients of the gain and the bias of the normalisation and of the gate, and the loss. -/
def st (j : ℕ) (l : Fin 1024) : ℝ :=
  match j with
  | 0 => ∑ r, D.dy r l * xhat (D.z r) l
  | 1 => ∑ r, D.dy r l
  | 2 => ∑ r, D.dz r l * D.ff r l
  | 3 => (∑ r, ∑ k, D.diff r k * D.diff r k) * (1 / 2048)
  | _ => 0

end Data

/-- Row `r` of block `t` in the whole array. -/
def at_ (t : Fin 16) (r : Fin 512) : Fin 8192 := ⟨t.val * 512 + r.val, by omega⟩

/-- Block `t` of the whole data. -/
def Data.block (D : Data 8192) (t : Fin 16) : Data 512 where
  x r l := D.x (at_ t r) l
  tgt r l := D.tgt (at_ t r) l
  w1 := D.w1
  w2 := D.w2
  sh := D.sh
  sc := D.sc
  gt := D.gt
  g := D.g
  b := D.b

theorem sum_rows (f : Fin 8192 → ℝ) : ∑ t : Fin 16, ∑ r : Fin 512, f (at_ t r) = ∑ r, f r :=
  (Fin.sum_univ_tiles 16 512 rfl f).symm

/-- The blocks' column sums add up to the whole ones. -/
theorem sum_st (D : Data 8192) (j : ℕ) (l : Fin 1024) : ∑ t, (D.block t).st j l = D.st j l := by
  match j with
  | 0 => exact sum_rows fun r => D.dy r l * xhat (D.z r) l
  | 1 => exact sum_rows fun r => D.dy r l
  | 2 => exact sum_rows fun r => D.dz r l * D.ff r l
  | 3 =>
    refine (Finset.sum_mul _ _ _).symm.trans (congrArg (· * (1 / 2048 : ℝ)) ?_)
    exact sum_rows fun r => ∑ k, D.diff r k * D.diff r k
  | n + 4 => exact Finset.sum_const_zero

theorem st_high {n : ℕ} (D : Data n) (j : ℕ) (l : Fin 1024) (h : 4 ≤ j) : D.st j l = 0 := by
  match j, h with
  | n + 4, _ => rfl

end Cert.FfModel

end
-- ==== Proof.FfBlock.lean ====
/- One block of 512 rows of the forward pass: the hidden layer, one shard of 512 columns at a time, and the block's output. -/
module

public import proofs.«01_k».proof.Proof.FfModel
public import proofs.«01_k».proof.Proof.Gen.Kernel9Ideal.Skeleton
public import proofs.«01_k».proof.Proof.Gen.Kernel9Ideal.Frame
public import Idealize.ShloMosaic.Lib.Pipeline.Value

@[expose] public section

set_option maxRecDepth 16384

noncomputable section

namespace Cert.FfBlock

open Cert.Kernel9Ideal Cert.Kernel9Ideal.Gen Cert.FfModel Cert.Grad
open Idealize.ShloMosaic Idealize.ShloMosaic.TcCoe Idealize.SL.Sem
open scoped BigOperators

/-- Column `j` of shard `d`. -/
def col (d : Fin 8) (j : Fin 512) : Fin 4096 := ⟨d.val * 512 + j.val, by omega⟩

/-- One shard's part of the block's output. -/
def part (T : Data 512) (d : Fin 8) (r : Fin 512) (l : Fin 1024) : ℝ := ∑ j : Fin 512, T.hid r (col d j) * T.w2 (col d j) l

theorem sum_part (T : Data 512) (r : Fin 512) (l : Fin 1024) : ∑ d, part T d r l = T.ff r l :=
  (Fin.sum_univ_tiles 8 512 rfl fun f => T.hid r f * T.w2 f l).symm

variable {T : Data 512}

/-- The modulated input. -/
theorem u2_at (x : Vec Ideal S512x1024 .f32) (sc sh : Vec Ideal S1x1024 .f32) (hx : ∀ r l, x (ix2 r l) = ((T.x r l : ℝ) : EReal))
    (hsc : ∀ l, sc (ix2 0 l) = ((T.sc l : ℝ) : EReal)) (hsh : ∀ l, sh (ix2 0 l) = ((T.sh l : ℝ) : EReal)) (r : Fin 512) (l : Fin 1024) :
    k0_pay2 x sc sh (ix2 r l) = ((T.u2 r l : ℝ) : EReal) := by
  pointwise [k0_pay2]
  rw [hx, hsc, hsh, ← EReal.coe_one]
  simp only [← EReal.coe_add, ← EReal.coe_mul]
  rfl

/-- A shard's tile of the hidden layer. -/
theorem tile (d : Fin 8) (v : FVec Ideal S512x1024 .bf16) (w : Vec Ideal S1x1024x512 .bf16)
    (hv : ∀ r k, v (ix2 r k) = ((T.u2 r k : ℝ) : EReal)) (hw : ∀ k j, w (ix3 0 k j) = ((T.w1 k (col d j) : ℝ) : EReal))
    (r : Fin 512) (j : Fin 512) : k0_pay7 v w (ix2 r j) = ((T.hid r (col d j) : ℝ) : EReal) := by
  pointwise [k0_pay7]
  simp only [hv, hw, ← EReal.coe_mul, coe_sum, max_zero_coe]
  rfl

/-- The product of a shard's tile with its rows of the second weight. -/
def mm (v : FVec Ideal S512x512 .bf16) (w : Vec Ideal S512x1024 .bf16) : FVec Ideal S512x1024 .f32 :=
  matmul dot_S512x512_S512x1024_S512x1024_1_0_0_1_n_n none v
    (shapeCast S512x1024 w shapeCasts_S512x1024_S512x1024 : FVec Ideal S512x1024 .bf16)
    (constant S512x1024 .f32 0x00000000#32)

theorem mm_at (d : Fin 8) (v : FVec Ideal S512x512 .bf16) (w : Vec Ideal S512x1024 .bf16)
    (hv : ∀ r j, v (ix2 r j) = ((T.hid r (col d j) : ℝ) : EReal)) (hw : ∀ j l, w (ix2 j l) = ((T.w2 (col d j) l : ℝ) : EReal))
    (r : Fin 512) (l : Fin 1024) : mm v w (ix2 r l) = ((part T d r l : ℝ) : EReal) := by
  pointwise [mm]
  simp only [hv, hw, ← EReal.coe_mul, coe_sum]
  rfl

/-- The first six shards' share of the block's output, as the kernel adds it up. -/
def partSix (x0 : Vec Ideal S512x1024 .f32) (sc sh : Vec Ideal S1x1024 .f32) (x2 : Vec Ideal S8x1024x512 .bf16)
    (x3 : Vec Ideal S4096x1024 .bf16) : FVec Ideal S512x1024 .f32 :=
  (k0_pay12 (k0_pay2 x0 sc sh)
      (k0_pay9 (k0_pay2 x0 sc sh) (k0_pay4 x0 sc sh (View.ld x2 (Rect.unit ![0, 0, 0] ![1, 1024, 512] inb_S8x1024x512_S1x1024x512_0_0_0))
          (View.ld x3 (Rect.unit ![0, 0] ![512, 1024] inb_S4096x1024_S512x1024_0_0)))
        (k0_pay5 x0 sc sh (View.ld x2 (Rect.unit ![1, 0, 0] ![1, 1024, 512] inb_S8x1024x512_S1x1024x512_1_0_0)))
        (View.ld x3 (Rect.unit ![512, 0] ![512, 1024] inb_S4096x1024_S512x1024_512_0))
        (View.ld x2 (Rect.unit ![2, 0, 0] ![1, 1024, 512] inb_S8x1024x512_S1x1024x512_2_0_0))
        (View.ld x3 (Rect.unit ![1024, 0] ![512, 1024] inb_S4096x1024_S512x1024_1024_0))
        (View.ld x2 (Rect.unit ![3, 0, 0] ![1, 1024, 512] inb_S8x1024x512_S1x1024x512_3_0_0))
        (View.ld x3 (Rect.unit ![1536, 0] ![512, 1024] inb_S4096x1024_S512x1024_1536_0)))
      (View.ld x2 (Rect.unit ![4, 0, 0] ![1, 1024, 512] inb_S8x1024x512_S1x1024x512_4_0_0))
      (View.ld x3 (Rect.unit ![2048, 0] ![512, 1024] inb_S4096x1024_S512x1024_2048_0))
      (View.ld x2 (Rect.unit ![5, 0, 0] ![1, 1024, 512] inb_S8x1024x512_S1x1024x512_5_0_0))
      (View.ld x3 (Rect.unit ![2560, 0] ![512, 1024] inb_S4096x1024_S512x1024_2560_0)))

theorem partSix_def (x0 : Vec Ideal S512x1024 .f32) (sc sh : Vec Ideal S1x1024 .f32) (x2 : Vec Ideal S8x1024x512 .bf16)
    (x3 : Vec Ideal S4096x1024 .bf16) :
    (k0_pay12 (k0_pay2 x0 sc sh)
      (k0_pay9 (k0_pay2 x0 sc sh) (k0_pay4 x0 sc sh (View.ld x2 (Rect.unit ![0, 0, 0] ![1, 1024, 512] inb_S8x1024x512_S1x1024x512_0_0_0))
          (View.ld x3 (Rect.unit ![0, 0] ![512, 1024] inb_S4096x1024_S512x1024_0_0)))
        (k0_pay5 x0 sc sh (View.ld x2 (Rect.unit ![1, 0, 0] ![1, 1024, 512] inb_S8x1024x512_S1x1024x512_1_0_0)))
        (View.ld x3 (Rect.unit ![512, 0] ![512, 1024] inb_S4096x1024_S512x1024_512_0))
        (View.ld x2 (Rect.unit ![2, 0, 0] ![1, 1024, 512] inb_S8x1024x512_S1x1024x512_2_0_0))
        (View.ld x3 (Rect.unit ![1024, 0] ![512, 1024] inb_S4096x1024_S512x1024_1024_0))
        (View.ld x2 (Rect.unit ![3, 0, 0] ![1, 1024, 512] inb_S8x1024x512_S1x1024x512_3_0_0))
        (View.ld x3 (Rect.unit ![1536, 0] ![512, 1024] inb_S4096x1024_S512x1024_1536_0)))
      (View.ld x2 (Rect.unit ![4, 0, 0] ![1, 1024, 512] inb_S8x1024x512_S1x1024x512_4_0_0))
      (View.ld x3 (Rect.unit ![2048, 0] ![512, 1024] inb_S4096x1024_S512x1024_2048_0))
      (View.ld x2 (Rect.unit ![5, 0, 0] ![1, 1024, 512] inb_S8x1024x512_S1x1024x512_5_0_0))
      (View.ld x3 (Rect.unit ![2560, 0] ![512, 1024] inb_S4096x1024_S512x1024_2560_0)))
    = partSix x0 sc sh x2 x3 := rfl

/-- The block's output. -/
def blockFf (x0 : Vec Ideal S512x1024 .f32) (sc sh : Vec Ideal S1x1024 .f32) (x2 : Vec Ideal S8x1024x512 .bf16)
    (x3 : Vec Ideal S4096x1024 .bf16) : FVec Ideal S512x1024 .f32 :=
  k0_pay15 (k0_pay2 x0 sc sh)
    (partSix x0 sc sh x2 x3)
    (k0_pay13 (k0_pay2 x0 sc sh) (View.ld x2 (Rect.unit ![6, 0, 0] ![1, 1024, 512] inb_S8x1024x512_S1x1024x512_6_0_0)))
    (View.ld x3 (Rect.unit ![3072, 0] ![512, 1024] inb_S4096x1024_S512x1024_3072_0))
    (View.ld x2 (Rect.unit ![7, 0, 0] ![1, 1024, 512] inb_S8x1024x512_S1x1024x512_7_0_0))
    (View.ld x3 (Rect.unit ![3584, 0] ![512, 1024] inb_S4096x1024_S512x1024_3584_0))

theorem blockFf_def (x0 : Vec Ideal S512x1024 .f32) (sc sh : Vec Ideal S1x1024 .f32) (x2 : Vec Ideal S8x1024x512 .bf16)
    (x3 : Vec Ideal S4096x1024 .bf16) :
    k0_pay15 (k0_pay2 x0 sc sh)
    (partSix x0 sc sh x2 x3)
    (k0_pay13 (k0_pay2 x0 sc sh) (View.ld x2 (Rect.unit ![6, 0, 0] ![1, 1024, 512] inb_S8x1024x512_S1x1024x512_6_0_0)))
    (View.ld x3 (Rect.unit ![3072, 0] ![512, 1024] inb_S4096x1024_S512x1024_3072_0))
    (View.ld x2 (Rect.unit ![7, 0, 0] ![1, 1024, 512] inb_S8x1024x512_S1x1024x512_7_0_0))
    (View.ld x3 (Rect.unit ![3584, 0] ![512, 1024] inb_S4096x1024_S512x1024_3584_0))
    = blockFf x0 sc sh x2 x3 := rfl

/-- The residual sum less its row's mean. -/
def blockCen (x0 : Vec Ideal S512x1024 .f32) (sc sh : Vec Ideal S1x1024 .f32) (x2 : Vec Ideal S8x1024x512 .bf16)
    (x3 : Vec Ideal S4096x1024 .bf16) (gt : Vec Ideal S1x1024 .f32) : FVec Ideal S512x1024 .f32 :=
  k0_pay17 x0 (k0_pay2 x0 sc sh)
    (partSix x0 sc sh x2 x3)
    (k0_pay13 (k0_pay2 x0 sc sh) (View.ld x2 (Rect.unit ![6, 0, 0] ![1, 1024, 512] inb_S8x1024x512_S1x1024x512_6_0_0)))
    (View.ld x3 (Rect.unit ![3072, 0] ![512, 1024] inb_S4096x1024_S512x1024_3072_0))
    (View.ld x2 (Rect.unit ![7, 0, 0] ![1, 1024, 512] inb_S8x1024x512_S1x1024x512_7_0_0))
    (View.ld x3 (Rect.unit ![3584, 0] ![512, 1024] inb_S4096x1024_S512x1024_3584_0)) gt

theorem blockCen_def (x0 : Vec Ideal S512x1024 .f32) (sc sh : Vec Ideal S1x1024 .f32) (x2 : Vec Ideal S8x1024x512 .bf16)
    (x3 : Vec Ideal S4096x1024 .bf16) (gt : Vec Ideal S1x1024 .f32) :
    k0_pay17 x0 (k0_pay2 x0 sc sh)
    (partSix x0 sc sh x2 x3)
    (k0_pay13 (k0_pay2 x0 sc sh) (View.ld x2 (Rect.unit ![6, 0, 0] ![1, 1024, 512] inb_S8x1024x512_S1x1024x512_6_0_0)))
    (View.ld x3 (Rect.unit ![3072, 0] ![512, 1024] inb_S4096x1024_S512x1024_3072_0))
    (View.ld x2 (Rect.unit ![7, 0, 0] ![1, 1024, 512] inb_S8x1024x512_S1x1024x512_7_0_0))
    (View.ld x3 (Rect.unit ![3584, 0] ![512, 1024] inb_S4096x1024_S512x1024_3584_0)) gt
    = blockCen x0 sc sh x2 x3 gt := rfl

/-- The residual sum's variance. -/
def blockVar (x0 : Vec Ideal S512x1024 .f32) (sc sh : Vec Ideal S1x1024 .f32) (x2 : Vec Ideal S8x1024x512 .bf16)
    (x3 : Vec Ideal S4096x1024 .bf16) (gt : Vec Ideal S1x1024 .f32) : FVec Ideal S512x1 .f32 :=
  k0_pay18 x0 (k0_pay2 x0 sc sh)
    (partSix x0 sc sh x2 x3)
    (k0_pay13 (k0_pay2 x0 sc sh) (View.ld x2 (Rect.unit ![6, 0, 0] ![1, 1024, 512] inb_S8x1024x512_S1x1024x512_6_0_0)))
    (View.ld x3 (Rect.unit ![3072, 0] ![512, 1024] inb_S4096x1024_S512x1024_3072_0))
    (View.ld x2 (Rect.unit ![7, 0, 0] ![1, 1024, 512] inb_S8x1024x512_S1x1024x512_7_0_0))
    (View.ld x3 (Rect.unit ![3584, 0] ![512, 1024] inb_S4096x1024_S512x1024_3584_0)) gt

theorem blockVar_def (x0 : Vec Ideal S512x1024 .f32) (sc sh : Vec Ideal S1x1024 .f32) (x2 : Vec Ideal S8x1024x512 .bf16)
    (x3 : Vec Ideal S4096x1024 .bf16) (gt : Vec Ideal S1x1024 .f32) :
    k0_pay18 x0 (k0_pay2 x0 sc sh)
    (partSix x0 sc sh x2 x3)
    (k0_pay13 (k0_pay2 x0 sc sh) (View.ld x2 (Rect.unit ![6, 0, 0] ![1, 1024, 512] inb_S8x1024x512_S1x1024x512_6_0_0)))
    (View.ld x3 (Rect.unit ![3072, 0] ![512, 1024] inb_S4096x1024_S512x1024_3072_0))
    (View.ld x2 (Rect.unit ![7, 0, 0] ![1, 1024, 512] inb_S8x1024x512_S1x1024x512_7_0_0))
    (View.ld x3 (Rect.unit ![3584, 0] ![512, 1024] inb_S4096x1024_S512x1024_3584_0)) gt
    = blockVar x0 sc sh x2 x3 gt := rfl

section

variable {x0 : Vec Ideal S512x1024 .f32} {sc sh : Vec Ideal S1x1024 .f32} {x2 : Vec Ideal S8x1024x512 .bf16}
  {x3 : Vec Ideal S4096x1024 .bf16}
  (h0 : ∀ r l, x0 (ix2 r l) = ((T.x r l : ℝ) : EReal)) (hsc : ∀ l, sc (ix2 0 l) = ((T.sc l : ℝ) : EReal))
  (hsh : ∀ l, sh (ix2 0 l) = ((T.sh l : ℝ) : EReal))
  (h2 : ∀ d k j, x2 (ix3 d k j) = ((T.w1 k (col d j) : ℝ) : EReal)) (h3 : ∀ f l, x3 (ix2 f l) = ((T.w2 f l : ℝ) : EReal))

include h0 hsc hsh h2

theorem tile0 (r : Fin 512) (j : Fin 512) :
    k0_pay7 (k0_pay2 x0 sc sh) (View.ld x2 (Rect.unit ![0, 0, 0] ![1, 1024, 512] inb_S8x1024x512_S1x1024x512_0_0_0)) (ix2 r j)
      = ((T.hid r (col 0 j) : ℝ) : EReal) := by
  refine tile 0 _ _ (u2_at _ _ _ h0 hsc hsh) (fun k j => Eq.trans ?_ (h2 0 k j)) r j
  pointwise

theorem tile1 (r : Fin 512) (j : Fin 512) :
    k0_pay7 (k0_pay2 x0 sc sh) (View.ld x2 (Rect.unit ![1, 0, 0] ![1, 1024, 512] inb_S8x1024x512_S1x1024x512_1_0_0)) (ix2 r j)
      = ((T.hid r (col 1 j) : ℝ) : EReal) := by
  refine tile 1 _ _ (u2_at _ _ _ h0 hsc hsh) (fun k j => Eq.trans ?_ (h2 1 k j)) r j
  pointwise

theorem tile2 (r : Fin 512) (j : Fin 512) :
    k0_pay7 (k0_pay2 x0 sc sh) (View.ld x2 (Rect.unit ![2, 0, 0] ![1, 1024, 512] inb_S8x1024x512_S1x1024x512_2_0_0)) (ix2 r j)
      = ((T.hid r (col 2 j) : ℝ) : EReal) := by
  refine tile 2 _ _ (u2_at _ _ _ h0 hsc hsh) (fun k j => Eq.trans ?_ (h2 2 k j)) r j
  pointwise

theorem tile3 (r : Fin 512) (j : Fin 512) :
    k0_pay7 (k0_pay2 x0 sc sh) (View.ld x2 (Rect.unit ![3, 0, 0] ![1, 1024, 512] inb_S8x1024x512_S1x1024x512_3_0_0)) (ix2 r j)
      = ((T.hid r (col 3 j) : ℝ) : EReal) := by
  refine tile 3 _ _ (u2_at _ _ _ h0 hsc hsh) (fun k j => Eq.trans ?_ (h2 3 k j)) r j
  pointwise

theorem tile4 (r : Fin 512) (j : Fin 512) :
    k0_pay7 (k0_pay2 x0 sc sh) (View.ld x2 (Rect.unit ![4, 0, 0] ![1, 1024, 512] inb_S8x1024x512_S1x1024x512_4_0_0)) (ix2 r j)
      = ((T.hid r (col 4 j) : ℝ) : EReal) := by
  refine tile 4 _ _ (u2_at _ _ _ h0 hsc hsh) (fun k j => Eq.trans ?_ (h2 4 k j)) r j
  pointwise

theorem tile5 (r : Fin 512) (j : Fin 512) :
    k0_pay7 (k0_pay2 x0 sc sh) (View.ld x2 (Rect.unit ![5, 0, 0] ![1, 1024, 512] inb_S8x1024x512_S1x1024x512_5_0_0)) (ix2 r j)
      = ((T.hid r (col 5 j) : ℝ) : EReal) := by
  refine tile 5 _ _ (u2_at _ _ _ h0 hsc hsh) (fun k j => Eq.trans ?_ (h2 5 k j)) r j
  pointwise

theorem tile6 (r : Fin 512) (j : Fin 512) :
    k0_pay7 (k0_pay2 x0 sc sh) (View.ld x2 (Rect.unit ![6, 0, 0] ![1, 1024, 512] inb_S8x1024x512_S1x1024x512_6_0_0)) (ix2 r j)
      = ((T.hid r (col 6 j) : ℝ) : EReal) := by
  refine tile 6 _ _ (u2_at _ _ _ h0 hsc hsh) (fun k j => Eq.trans ?_ (h2 6 k j)) r j
  pointwise

theorem tile7 (r : Fin 512) (j : Fin 512) :
    k0_pay7 (k0_pay2 x0 sc sh) (View.ld x2 (Rect.unit ![7, 0, 0] ![1, 1024, 512] inb_S8x1024x512_S1x1024x512_7_0_0)) (ix2 r j)
      = ((T.hid r (col 7 j) : ℝ) : EReal) := by
  refine tile 7 _ _ (u2_at _ _ _ h0 hsc hsh) (fun k j => Eq.trans ?_ (h2 7 k j)) r j
  pointwise

include h3

theorem mm0 (r : Fin 512) (l : Fin 1024) :
    mm (k0_pay7 (k0_pay2 x0 sc sh) (View.ld x2 (Rect.unit ![0, 0, 0] ![1, 1024, 512] inb_S8x1024x512_S1x1024x512_0_0_0)))
      (View.ld x3 (Rect.unit ![0, 0] ![512, 1024] inb_S4096x1024_S512x1024_0_0)) (ix2 r l)
      = ((part T 0 r l : ℝ) : EReal) := by
  refine mm_at 0 _ _ (tile0 h0 hsc hsh h2) (fun j l => Eq.trans ?_ (h3 (col 0 j) l)) r l
  pointwise
  exact congrArg (fun f => x3 (ix2 f l)) (Fin.ext (by simp [col]))

theorem mm1 (r : Fin 512) (l : Fin 1024) :
    mm (k0_pay7 (k0_pay2 x0 sc sh) (View.ld x2 (Rect.unit ![1, 0, 0] ![1, 1024, 512] inb_S8x1024x512_S1x1024x512_1_0_0)))
      (View.ld x3 (Rect.unit ![512, 0] ![512, 1024] inb_S4096x1024_S512x1024_512_0)) (ix2 r l)
      = ((part T 1 r l : ℝ) : EReal) := by
  refine mm_at 1 _ _ (tile1 h0 hsc hsh h2) (fun j l => Eq.trans ?_ (h3 (col 1 j) l)) r l
  pointwise
  rfl

theorem mm2 (r : Fin 512) (l : Fin 1024) :
    mm (k0_pay7 (k0_pay2 x0 sc sh) (View.ld x2 (Rect.unit ![2, 0, 0] ![1, 1024, 512] inb_S8x1024x512_S1x1024x512_2_0_0)))
      (View.ld x3 (Rect.unit ![1024, 0] ![512, 1024] inb_S4096x1024_S512x1024_1024_0)) (ix2 r l)
      = ((part T 2 r l : ℝ) : EReal) := by
  refine mm_at 2 _ _ (tile2 h0 hsc hsh h2) (fun j l => Eq.trans ?_ (h3 (col 2 j) l)) r l
  pointwise
  rfl

theorem mm3 (r : Fin 512) (l : Fin 1024) :
    mm (k0_pay7 (k0_pay2 x0 sc sh) (View.ld x2 (Rect.unit ![3, 0, 0] ![1, 1024, 512] inb_S8x1024x512_S1x1024x512_3_0_0)))
      (View.ld x3 (Rect.unit ![1536, 0] ![512, 1024] inb_S4096x1024_S512x1024_1536_0)) (ix2 r l)
      = ((part T 3 r l : ℝ) : EReal) := by
  refine mm_at 3 _ _ (tile3 h0 hsc hsh h2) (fun j l => Eq.trans ?_ (h3 (col 3 j) l)) r l
  pointwise
  rfl

theorem mm4 (r : Fin 512) (l : Fin 1024) :
    mm (k0_pay7 (k0_pay2 x0 sc sh) (View.ld x2 (Rect.unit ![4, 0, 0] ![1, 1024, 512] inb_S8x1024x512_S1x1024x512_4_0_0)))
      (View.ld x3 (Rect.unit ![2048, 0] ![512, 1024] inb_S4096x1024_S512x1024_2048_0)) (ix2 r l)
      = ((part T 4 r l : ℝ) : EReal) := by
  refine mm_at 4 _ _ (tile4 h0 hsc hsh h2) (fun j l => Eq.trans ?_ (h3 (col 4 j) l)) r l
  pointwise
  rfl

theorem mm5 (r : Fin 512) (l : Fin 1024) :
    mm (k0_pay7 (k0_pay2 x0 sc sh) (View.ld x2 (Rect.unit ![5, 0, 0] ![1, 1024, 512] inb_S8x1024x512_S1x1024x512_5_0_0)))
      (View.ld x3 (Rect.unit ![2560, 0] ![512, 1024] inb_S4096x1024_S512x1024_2560_0)) (ix2 r l)
      = ((part T 5 r l : ℝ) : EReal) := by
  refine mm_at 5 _ _ (tile5 h0 hsc hsh h2) (fun j l => Eq.trans ?_ (h3 (col 5 j) l)) r l
  pointwise
  rfl

theorem mm6 (r : Fin 512) (l : Fin 1024) :
    mm (k0_pay7 (k0_pay2 x0 sc sh) (View.ld x2 (Rect.unit ![6, 0, 0] ![1, 1024, 512] inb_S8x1024x512_S1x1024x512_6_0_0)))
      (View.ld x3 (Rect.unit ![3072, 0] ![512, 1024] inb_S4096x1024_S512x1024_3072_0)) (ix2 r l)
      = ((part T 6 r l : ℝ) : EReal) := by
  refine mm_at 6 _ _ (tile6 h0 hsc hsh h2) (fun j l => Eq.trans ?_ (h3 (col 6 j) l)) r l
  pointwise
  rfl

theorem mm7 (r : Fin 512) (l : Fin 1024) :
    mm (k0_pay7 (k0_pay2 x0 sc sh) (View.ld x2 (Rect.unit ![7, 0, 0] ![1, 1024, 512] inb_S8x1024x512_S1x1024x512_7_0_0)))
      (View.ld x3 (Rect.unit ![3584, 0] ![512, 1024] inb_S4096x1024_S512x1024_3584_0)) (ix2 r l)
      = ((part T 7 r l : ℝ) : EReal) := by
  refine mm_at 7 _ _ (tile7 h0 hsc hsh h2) (fun j l => Eq.trans ?_ (h3 (col 7 j) l)) r l
  pointwise
  rfl

/-- The block's output is the sum over the whole hidden layer. -/
theorem ff_at (r : Fin 512) (l : Fin 1024) : blockFf x0 sc sh x2 x3 (ix2 r l) = ((T.ff r l : ℝ) : EReal) := by
  have e : blockFf x0 sc sh x2 x3 (ix2 r l) = ((((((((Ideal.ofBits .f32 0x00000000#32 + mm (k0_pay7 (k0_pay2 x0 sc sh) (View.ld x2 (Rect.unit ![0, 0, 0] ![1, 1024, 512] inb_S8x1024x512_S1x1024x512_0_0_0)))
      (View.ld x3 (Rect.unit ![0, 0] ![512, 1024] inb_S4096x1024_S512x1024_0_0)) (ix2 r l)) + mm (k0_pay7 (k0_pay2 x0 sc sh) (View.ld x2 (Rect.unit ![1, 0, 0] ![1, 1024, 512] inb_S8x1024x512_S1x1024x512_1_0_0)))
      (View.ld x3 (Rect.unit ![512, 0] ![512, 1024] inb_S4096x1024_S512x1024_512_0)) (ix2 r l)) + mm (k0_pay7 (k0_pay2 x0 sc sh) (View.ld x2 (Rect.unit ![2, 0, 0] ![1, 1024, 512] inb_S8x1024x512_S1x1024x512_2_0_0)))
      (View.ld x3 (Rect.unit ![1024, 0] ![512, 1024] inb_S4096x1024_S512x1024_1024_0)) (ix2 r l)) + mm (k0_pay7 (k0_pay2 x0 sc sh) (View.ld x2 (Rect.unit ![3, 0, 0] ![1, 1024, 512] inb_S8x1024x512_S1x1024x512_3_0_0)))
      (View.ld x3 (Rect.unit ![1536, 0] ![512, 1024] inb_S4096x1024_S512x1024_1536_0)) (ix2 r l)) + mm (k0_pay7 (k0_pay2 x0 sc sh) (View.ld x2 (Rect.unit ![4, 0, 0] ![1, 1024, 512] inb_S8x1024x512_S1x1024x512_4_0_0)))
      (View.ld x3 (Rect.unit ![2048, 0] ![512, 1024] inb_S4096x1024_S512x1024_2048_0)) (ix2 r l)) + mm (k0_pay7 (k0_pay2 x0 sc sh) (View.ld x2 (Rect.unit ![5, 0, 0] ![1, 1024, 512] inb_S8x1024x512_S1x1024x512_5_0_0)))
      (View.ld x3 (Rect.unit ![2560, 0] ![512, 1024] inb_S4096x1024_S512x1024_2560_0)) (ix2 r l)) + mm (k0_pay7 (k0_pay2 x0 sc sh) (View.ld x2 (Rect.unit ![6, 0, 0] ![1, 1024, 512] inb_S8x1024x512_S1x1024x512_6_0_0)))
      (View.ld x3 (Rect.unit ![3072, 0] ![512, 1024] inb_S4096x1024_S512x1024_3072_0)) (ix2 r l)) + mm (k0_pay7 (k0_pay2 x0 sc sh) (View.ld x2 (Rect.unit ![7, 0, 0] ![1, 1024, 512] inb_S8x1024x512_S1x1024x512_7_0_0)))
      (View.ld x3 (Rect.unit ![3584, 0] ![512, 1024] inb_S4096x1024_S512x1024_3584_0)) (ix2 r l)) := rfl
  rw [e, mm0 h0 hsc hsh h2 h3, mm1 h0 hsc hsh h2 h3, mm2 h0 hsc hsh h2 h3, mm3 h0 hsc hsh h2 h3, mm4 h0 hsc hsh h2 h3, mm5 h0 hsc hsh h2 h3, mm6 h0 hsc hsh h2 h3, mm7 h0 hsc hsh h2 h3, Ideal.ofBits_zero_f32, zero_add, ← sum_part T r l]
  simp only [← EReal.coe_add]
  rw [Fin.sum_univ_eight]

variable {gt : Vec Ideal S1x1024 .f32} (hgt : ∀ l, gt (ix2 0 l) = ((T.gt l : ℝ) : EReal))
include hgt

theorem cen_at (r : Fin 512) (l : Fin 1024) : blockCen x0 sc sh x2 x3 gt (ix2 r l) = ((cen (T.z r) l : ℝ) : EReal) := by
  unfold blockCen
  pointwise [k0_pay17, k0_pay16]
  simp only [blockFf_def, ff_at h0 hsc hsh h2 h3, h0, hgt, lit_alpha, lit_n, ← EReal.coe_one, ← EReal.coe_add, ← EReal.coe_mul, coe_sum,
    div_coe_coe _ (by norm_num : (1024 : ℝ) ≠ 0), ← EReal.coe_sub]
  rfl

theorem var_at (r : Fin 512) : blockVar x0 sc sh x2 x3 gt (ix2 r 0) = ((mean (fun k => cen (T.z r) k * cen (T.z r) k) : ℝ) : EReal) := by
  unfold blockVar
  pointwise [k0_pay18]
  simp only [blockCen_def, cen_at h0 hsc hsh h2 h3 hgt, lit_n, ← EReal.coe_mul, coe_sum, div_coe_coe _ (by norm_num : (1024 : ℝ) ≠ 0)]
  rfl

end

end Cert.FfBlock

end
-- ==== Proof.FfNorm.lean ====
/- One block of 512 rows of the forward pass: the normalisation, the loss, the gradient back to the residual sum, and the
   four column sums. -/
module

public import proofs.«01_k».proof.Proof.FfBlock

@[expose] public section

set_option maxRecDepth 16384

noncomputable section

namespace Cert.FfBlock

open Cert.Kernel9Ideal Cert.Kernel9Ideal.Gen Cert.FfModel Cert.Grad
open Idealize.ShloMosaic Idealize.ShloMosaic.TcCoe Idealize.SL.Sem
open scoped BigOperators

theorem n_ne : (1024 : ℝ) ≠ 0 := by norm_num

variable {T : Data 512} {ce tg ff : FVec Ideal S512x1024 .f32} {va : FVec Ideal S512x1 .f32} {g b gt : FVec Ideal S1x1024 .f32}
  (hc : ∀ r l, ce (ix2 r l) = ((cen (T.z r) l : ℝ) : EReal))
  (hv : ∀ r, va (ix2 r 0) = ((mean (fun k => cen (T.z r) k * cen (T.z r) k) : ℝ) : EReal))

section
include hv

theorem rstd_at (r : Fin 512) : k0_pay20 va k0_pay19 (ix2 r 0) = ((rstd (T.z r) : ℝ) : EReal) := by
  pointwise [k0_pay20, k0_pay19]
  simp only [hv, lit_eps, ← EReal.coe_add]
  exact rsqrt_pos (vare_pos _)

include hc

theorem xhat_at (r : Fin 512) (l : Fin 1024) : k0_pay21 ce va k0_pay19 (ix2 r l) = ((xhat (T.z r) l : ℝ) : EReal) := by
  pointwise [k0_pay21]
  rw [hc, rstd_at hv, ← EReal.coe_mul]
  rfl

variable (hg : ∀ l, g (ix2 0 l) = ((T.g l : ℝ) : EReal)) (hb : ∀ l, b (ix2 0 l) = ((T.b l : ℝ) : EReal))
  (ht : ∀ r l, tg (ix2 r l) = ((T.tgt r l : ℝ) : EReal))
include hg hb ht

theorem diff_at (r : Fin 512) (l : Fin 1024) : k0_pay22 ce va k0_pay19 g b tg (ix2 r l) = ((T.diff r l : ℝ) : EReal) := by
  pointwise [k0_pay22]
  rw [xhat_at hc hv, hg, hb, ht]
  simp only [← EReal.coe_mul, ← EReal.coe_add, ← EReal.coe_sub]
  rfl

theorem dy_at (r : Fin 512) (l : Fin 1024) : k0_pay23 ce va k0_pay19 g b tg (ix2 r l) = ((T.dy r l : ℝ) : EReal) := by
  pointwise [k0_pay23]
  rw [diff_at hc hv hg hb ht, lit_inv_n, ← EReal.coe_mul]
  rfl

theorem dz_at (r : Fin 512) (l : Fin 1024) : k0_pay24 ce va k0_pay19 g b tg g (ix2 r l) = ((T.dz r l : ℝ) : EReal) := by
  pointwise [k0_pay24]
  simp only [dy_at hc hv hg hb ht, xhat_at hc hv, rstd_at hv, hg, lit_n, ← EReal.coe_mul, coe_sum, div_coe_coe _ n_ne, ← EReal.coe_sub]
  rfl

/-- The gradient of the residual input. -/
theorem dxa_at (r : Fin 512) (l : Fin 1024) : k0_pay26 ce va k0_pay19 g b tg g (ix2 r l) = ((alpha * T.dz r l : ℝ) : EReal) := by
  pointwise [k0_pay26]
  rw [dz_at hc hv hg hb ht, lit_alpha, ← EReal.coe_mul]

/-- The gradient of the block's output. -/
theorem dff_at (hgt : ∀ l, gt (ix2 0 l) = ((T.gt l : ℝ) : EReal)) (r : Fin 512) (l : Fin 1024) :
    k0_pay25 (k0_pay16 gt) ce va k0_pay19 g b tg g (ix2 r l) = (((1 + T.gt l) * T.dz r l : ℝ) : EReal) := by
  pointwise [k0_pay25, k0_pay16]
  rw [dz_at hc hv hg hb ht, hgt, ← EReal.coe_one, ← EReal.coe_add, ← EReal.coe_mul]

variable (acc : FVec Ideal S1x1024 .f32)

theorem row0_at (l : Fin 1024) : k0_pay28 (k0_pay21 ce va k0_pay19) (k0_pay23 ce va k0_pay19 g b tg) acc (ix2 0 l)
    = acc (ix2 0 l) + ((T.st 0 l : ℝ) : EReal) := by
  pointwise [k0_pay28]
  simp only [dy_at hc hv hg hb ht, xhat_at hc hv, ← EReal.coe_mul, coe_sum]
  rfl

theorem row1_at (l : Fin 1024) : k0_pay29 (k0_pay23 ce va k0_pay19 g b tg) acc (ix2 0 l)
    = acc (ix2 0 l) + ((T.st 1 l : ℝ) : EReal) := by
  pointwise [k0_pay29]
  simp only [dy_at hc hv hg hb ht, coe_sum]
  rfl

theorem row2_at (hf : ∀ r l, ff (ix2 r l) = ((T.ff r l : ℝ) : EReal)) (l : Fin 1024) :
    k0_pay30 ff (k0_pay24 ce va k0_pay19 g b tg g) acc (ix2 0 l) = acc (ix2 0 l) + ((T.st 2 l : ℝ) : EReal) := by
  pointwise [k0_pay30]
  simp only [dz_at hc hv hg hb ht, hf, ← EReal.coe_mul, coe_sum]
  rfl

theorem row3_at (l : Fin 1024) : k0_pay1 (k0_pay31 (k0_pay22 ce va k0_pay19 g b tg)) acc (ix2 0 l)
    = acc (ix2 0 l) + ((T.st 3 l : ℝ) : EReal) := by
  pointwise [k0_pay1, k0_pay31]
  simp only [diff_at hc hv hg hb ht, lit_half_inv_n, ← EReal.coe_mul, coe_sum]
  rfl

end

end Cert.FfBlock

end
-- ==== Proof.FfBlocks.lean ====
/- The blocks the forward pass reads at a grid point, as slices of the real data. -/
module

public import proofs.«01_k».proof.Proof.FfBlock
public import proofs.«01_k».proof.Proof.FfNorm
public import Idealize.ShloMosaic.Lib.Claim
public import Idealize.ShloMosaic.Lib.Pipeline.Value
public import Idealize.ShloMosaic.Lib.Pipeline.ValueKit.Acc
public import Idealize.ShloMosaic.Lib.Pipeline.ValueKit.Tiles
public import Idealize.ShloMosaic.Lib.Pipeline.ValueKit.Point
public import Idealize.ShloMosaic.Lib.Pipeline.ReadBack

@[expose] public section

set_option maxRecDepth 16384

noncomputable section

namespace Cert.FfBlocks

open Cert.Kernel9Ideal Cert.Kernel9Ideal.Gen Cert.FfModel Cert.FfBlock Cert.Grad
open Cert.Model (lift row)
open Idealize.ShloMosaic Idealize.ShloMosaic.TcCoe Idealize.SL.Sem
open scoped BigOperators

section
variable (m : (ℓ : Loc nD τ sig) → Buf (Elt Ideal) ℓ) (c : Dev nD)

/-- A row of zeros. -/
abbrev zrow : S1x1024.Idx → EReal := broadcastInDim S1x1024 ![] bcast_S_S1x1024 (constant (F := Ideal) S_ .f32 0x00000000#32)

theorem V1 (i : S8x1024.Idx) : (V m c main_v1 : S8x1024.Idx → EReal) i
    = concatenate S8x1024 0 [⟨S1x1024, zrow⟩, ⟨S1x1024, zrow⟩, ⟨S1x1024, zrow⟩,
        ⟨S1x1024, m ((c : Thread nD τ).loc main_arg4)⟩, ⟨S1x1024, m ((c : Thread nD τ).loc main_arg5)⟩,
        ⟨S1x1024, m ((c : Thread nD τ).loc main_arg6)⟩, ⟨S1x1024, zrow⟩, ⟨S1x1024, zrow⟩]
        concatenates_S1x1024_S1x1024_S1x1024_S1x1024_S1x1024_S1x1024_S1x1024_S1x1024_S8x1024_d0 i := by
  rfl

theorem V1_3 (l : Fin 1024) : (V m c main_v1 : S8x1024.Idx → EReal) (ix2 3 l) = (m ((c : Thread nD τ).loc main_arg4) : S1x1024.Idx → EReal) (ix2 0 l) := by
  rw [V1]
  pointwise

theorem V1_4 (l : Fin 1024) : (V m c main_v1 : S8x1024.Idx → EReal) (ix2 4 l) = (m ((c : Thread nD τ).loc main_arg5) : S1x1024.Idx → EReal) (ix2 0 l) := by
  rw [V1]
  pointwise

theorem V1_5 (l : Fin 1024) : (V m c main_v1 : S8x1024.Idx → EReal) (ix2 5 l) = (m ((c : Thread nD τ).loc main_arg6) : S1x1024.Idx → EReal) (ix2 0 l) := by
  rw [V1]
  pointwise

theorem V2 (i : S8x1024.Idx) : (V m c main_v2 : S8x1024.Idx → EReal) i
    = concatenate S8x1024 0 [⟨S1x1024, zrow⟩, ⟨S1x1024, zrow⟩,
        ⟨S1x1024, m ((c : Thread nD τ).loc main_arg7)⟩, ⟨S1x1024, m ((c : Thread nD τ).loc main_arg8)⟩,
        ⟨S1x1024, zrow⟩, ⟨S1x1024, zrow⟩, ⟨S1x1024, zrow⟩, ⟨S1x1024, zrow⟩]
        concatenates_S1x1024_S1x1024_S1x1024_S1x1024_S1x1024_S1x1024_S1x1024_S1x1024_S8x1024_d0 i := by
  rfl

theorem V2_2 (l : Fin 1024) : (V m c main_v2 : S8x1024.Idx → EReal) (ix2 2 l) = (m ((c : Thread nD τ).loc main_arg7) : S1x1024.Idx → EReal) (ix2 0 l) := by
  rw [V2]
  pointwise

theorem V2_3 (l : Fin 1024) : (V m c main_v2 : S8x1024.Idx → EReal) (ix2 3 l) = (m ((c : Thread nD τ).loc main_arg8) : S1x1024.Idx → EReal) (ix2 0 l) := by
  rw [V2]
  pointwise

theorem V5 (d : Fin 8) (k : Fin 1024) (j : Fin 512) : (V m c main_v5 : S8x1024x512.Idx → EReal) (ix3 d k j)
   = (m ((c : Thread nD τ).loc main_arg2) : S1024x4096.Idx → EReal) (ix2 k (col d j)) := by
  trans (transpose S8x1024x512 [1, 0, 2] (shapeCast S1024x8x512 (m ((c : Thread nD τ).loc main_arg2) : S1024x4096.Idx → EReal) shapeCasts_S1024x4096_S1024x8x512) transposes_S1024x8x512_S8x1024x512_1_0_2) (ix3 d k j)
  · rfl
  pointwise
  rfl

theorem V6 (i : S4096x1024.Idx) : (V m c main_v6) i = m ((c : Thread nD τ).loc main_arg3) i := by
  rfl

/-- The nine arguments hold the real data. -/
structure Feeds (D : Data 8192) : Prop where
  h0 : (m ((c : Thread nD τ).loc main_arg0) : S8192x1024.Idx → EReal) = lift D.x
  h1 : (m ((c : Thread nD τ).loc main_arg1) : S8192x1024.Idx → EReal) = lift D.tgt
  h2 : (m ((c : Thread nD τ).loc main_arg2) : S1024x4096.Idx → EReal) = lift D.w1
  h3 : (m ((c : Thread nD τ).loc main_arg3) : S4096x1024.Idx → EReal) = lift D.w2
  h4 : (m ((c : Thread nD τ).loc main_arg4) : S1x1024.Idx → EReal) = row D.sh
  h5 : (m ((c : Thread nD τ).loc main_arg5) : S1x1024.Idx → EReal) = row D.sc
  h6 : (m ((c : Thread nD τ).loc main_arg6) : S1x1024.Idx → EReal) = row D.gt
  h7 : (m ((c : Thread nD τ).loc main_arg7) : S1x1024.Idx → EReal) = row D.g
  h8 : (m ((c : Thread nD τ).loc main_arg8) : S1x1024.Idx → EReal) = row D.b

end

theorem idx_val : ∀ t : Fin cfg0.N, win0_0.index t = ![t.val, 0]
    ∧ win0_1.index t = ![t.val, 0]
    ∧ win0_2.index t = ![0, 0, 0]
    ∧ win0_3.index t = ![0, 0]
    ∧ win0_4.index t = ![0, 0]
    ∧ win0_5.index t = ![0, 0]
    ∧ win0_6.index t = ![t.val, 0]
    ∧ win0_7.index t = ![t.val, 0]
    ∧ win0_8.index t = ![t.val, 0]
    ∧ win0_9.index t = ![t.val, 0]
    ∧ win0_10.index t = ![0, 0] :=
  (by decide +kernel : ∀ t : Fin grid0.N, _)

variable {m : (ℓ : Loc nD τ sig) → Buf (Elt Ideal) ℓ} {c : Dev nD} {D : Data 8192} (H : Feeds m c D) (t : Fin cfg0.N)
include H

theorem blk0 (r : Fin 512) (l : Fin 1024) : (iblk m c 0 t : S512x1024.Idx → EReal) (ix2 r l) = (((D.block t).x r l : ℝ) : EReal) := by
  refine Eq.trans ?_ (congrFun H.h0 (ix2 (at_ t r) l))
  blk_point [iblk, idx_val t]
  rfl

theorem blk1 (r : Fin 512) (l : Fin 1024) : (iblk m c 1 t : S512x1024.Idx → EReal) (ix2 r l) = (((D.block t).tgt r l : ℝ) : EReal) := by
  refine Eq.trans ?_ (congrFun H.h1 (ix2 (at_ t r) l))
  blk_point [iblk, idx_val t]
  rfl

theorem blk2 (d : Fin 8) (k : Fin 1024) (j : Fin 512) : (iblk m c 2 t : S8x1024x512.Idx → EReal) (ix3 d k j)
    = (((D.block t).w1 k (col d j) : ℝ) : EReal) := by
  refine Eq.trans ?_ ((V5 m c d k j).trans (congrFun H.h2 _))
  blk_point [iblk, idx_val t]

theorem blk3 (f : Fin 4096) (l : Fin 1024) : (iblk m c 3 t : S4096x1024.Idx → EReal) (ix2 f l) = (((D.block t).w2 f l : ℝ) : EReal) := by
  refine Eq.trans ?_ ((V6 m c _).trans (congrFun H.h3 (ix2 f l)))
  blk_point [iblk, idx_val t]

theorem blk4_3 (l : Fin 1024) : View.ld (iblk m c 4 t) (Rect.unit ![3, 0] ![1, 1024] inb_S8x1024_S1x1024_3_0) (ix2 0 l)
    = (((D.block t).sh l : ℝ) : EReal) := by
  refine Eq.trans ?_ ((V1_3 m c l).trans (congrFun H.h4 (ix2 0 l)))
  pointwise
  blk_point [iblk, idx_val t]

theorem blk4_4 (l : Fin 1024) : View.ld (iblk m c 4 t) (Rect.unit ![4, 0] ![1, 1024] inb_S8x1024_S1x1024_4_0) (ix2 0 l)
    = (((D.block t).sc l : ℝ) : EReal) := by
  refine Eq.trans ?_ ((V1_4 m c l).trans (congrFun H.h5 (ix2 0 l)))
  pointwise
  blk_point [iblk, idx_val t]

theorem blk4_5 (l : Fin 1024) : View.ld (iblk m c 4 t) (Rect.unit ![5, 0] ![1, 1024] inb_S8x1024_S1x1024_5_0) (ix2 0 l)
    = (((D.block t).gt l : ℝ) : EReal) := by
  refine Eq.trans ?_ ((V1_5 m c l).trans (congrFun H.h6 (ix2 0 l)))
  pointwise
  blk_point [iblk, idx_val t]

theorem blk5_2 (l : Fin 1024) : View.ld (iblk m c 5 t) (Rect.unit ![2, 0] ![1, 1024] inb_S8x1024_S1x1024_2_0) (ix2 0 l)
    = (((D.block t).g l : ℝ) : EReal) := by
  refine Eq.trans ?_ ((V2_2 m c l).trans (congrFun H.h7 (ix2 0 l)))
  pointwise
  blk_point [iblk, idx_val t]

theorem blk5_3 (l : Fin 1024) : View.ld (iblk m c 5 t) (Rect.unit ![3, 0] ![1, 1024] inb_S8x1024_S1x1024_3_0) (ix2 0 l)
    = (((D.block t).b l : ℝ) : EReal) := by
  refine Eq.trans ?_ ((V2_3 m c l).trans (congrFun H.h8 (ix2 0 l)))
  pointwise
  blk_point [iblk, idx_val t]

end Cert.FfBlocks

end
-- ==== Proof.FfValue.lean ====
/- What the forward pass stores at a grid point, save the column sums. -/
module

public import proofs.«01_k».proof.Proof.FfBlocks

@[expose] public section

set_option maxRecDepth 16384

noncomputable section

namespace Cert.FfValue

open Cert.Kernel9Ideal Cert.Kernel9Ideal.Gen Cert.FfModel Cert.FfBlock Cert.FfBlocks Cert.Grad
open Cert.Model (lift row)
open Idealize.ShloMosaic Idealize.ShloMosaic.TcCoe Idealize.SL.Sem
open Idealize.ShloMosaic.Pipeline (Dat)
open scoped BigOperators

variable {m : (ℓ : Loc nD τ sig) → Buf (Elt Ideal) ℓ} {c : Dev nD} {D : Data 8192} (H : Feeds m c D)
include H

/-- The modulated input a point stores. -/
theorem point_6_A (t : Fin cfg0.N) (h0 : t.val % 16 = 0) (y) :
    (out0_A_6 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) ((hcond0_0 t).mpr h0) (iblk m c 0 t) (iblk m c 1 t) (iblk m c 2 t) (iblk m c 3
      t) (iblk m c 4 t) (iblk m c 5 t)) y
      = (((D.block t).u2 (y 0) (y 1) : ℝ) : EReal) := by
  frame_out
  idx_vars y
  exact u2_at _ _ _ (blk0 H t) (blk4_4 H t) (blk4_3 H t) _ _

/-- The modulated input a point stores. -/
theorem point_6_B (t : Fin cfg0.N) (h0 : ¬t.val % 16 = 0) (y) :
    (out0_B_6 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (fun h => h0 ((hcond0_0 t).mp h)) (iblk m c 0 t) (iblk m c 1 t) (iblk m c 2 t)
      (iblk m c 3 t) (iblk m c 4 t) (iblk m c 5 t) ((outsAt0 m c (t.val - 1) (Nat.lt_of_le_of_lt (Nat.sub_le _ _)
      t.isLt)).2.2.2.2)) y
      = (((D.block t).u2 (y 0) (y 1) : ℝ) : EReal) := by
  frame_out
  idx_vars y
  exact u2_at _ _ _ (blk0 H t) (blk4_4 H t) (blk4_3 H t) _ _

/-- The gradient of the block's output a point stores. -/
theorem point_8_A (t : Fin cfg0.N) (h0 : t.val % 16 = 0) (y) :
    (out0_A_8 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) ((hcond0_0 t).mpr h0) (iblk m c 0 t) (iblk m c 1 t) (iblk m c 2 t) (iblk m c 3
      t) (iblk m c 4 t) (iblk m c 5 t)) y
      = (((1 + (D.block t).gt (y 1)) * (D.block t).dz (y 0) (y 1) : ℝ) : EReal) := by
  frame_out
  simp only [partSix_def, blockFf_def, blockCen_def, blockVar_def]
  idx_vars y
  exact dff_at (cen_at (blk0 H t) (blk4_4 H t) (blk4_3 H t) (blk2 H t) (blk3 H t) (blk4_5 H t)) (var_at (blk0 H t) (blk4_4 H t) (blk4_3 H t) (blk2 H t) (blk3 H t) (blk4_5 H t)) (blk5_2 H t) (blk5_3 H t) (blk1 H t) (blk4_5 H t) _ _

/-- The gradient of the block's output a point stores. -/
theorem point_8_B (t : Fin cfg0.N) (h0 : ¬t.val % 16 = 0) (y) :
    (out0_B_8 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (fun h => h0 ((hcond0_0 t).mp h)) (iblk m c 0 t) (iblk m c 1 t) (iblk m c 2 t)
      (iblk m c 3 t) (iblk m c 4 t) (iblk m c 5 t) ((outsAt0 m c (t.val - 1) (Nat.lt_of_le_of_lt (Nat.sub_le _ _)
      t.isLt)).2.2.2.2)) y
      = (((1 + (D.block t).gt (y 1)) * (D.block t).dz (y 0) (y 1) : ℝ) : EReal) := by
  frame_out
  simp only [partSix_def, blockFf_def, blockCen_def, blockVar_def]
  idx_vars y
  exact dff_at (cen_at (blk0 H t) (blk4_4 H t) (blk4_3 H t) (blk2 H t) (blk3 H t) (blk4_5 H t)) (var_at (blk0 H t) (blk4_4 H t) (blk4_3 H t) (blk2 H t) (blk3 H t) (blk4_5 H t)) (blk5_2 H t) (blk5_3 H t) (blk1 H t) (blk4_5 H t) _ _

/-- The gradient of the residual input a point stores. -/
theorem point_9_A (t : Fin cfg0.N) (h0 : t.val % 16 = 0) (y) :
    (out0_A_9 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) ((hcond0_0 t).mpr h0) (iblk m c 0 t) (iblk m c 1 t) (iblk m c 2 t) (iblk m c 3
      t) (iblk m c 4 t) (iblk m c 5 t)) y
      = ((alpha * (D.block t).dz (y 0) (y 1) : ℝ) : EReal) := by
  frame_out
  simp only [partSix_def, blockFf_def, blockCen_def, blockVar_def]
  idx_vars y
  exact dxa_at (cen_at (blk0 H t) (blk4_4 H t) (blk4_3 H t) (blk2 H t) (blk3 H t) (blk4_5 H t)) (var_at (blk0 H t) (blk4_4 H t) (blk4_3 H t) (blk2 H t) (blk3 H t) (blk4_5 H t)) (blk5_2 H t) (blk5_3 H t) (blk1 H t) _ _

/-- The gradient of the residual input a point stores. -/
theorem point_9_B (t : Fin cfg0.N) (h0 : ¬t.val % 16 = 0) (y) :
    (out0_B_9 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (fun h => h0 ((hcond0_0 t).mp h)) (iblk m c 0 t) (iblk m c 1 t) (iblk m c 2 t)
      (iblk m c 3 t) (iblk m c 4 t) (iblk m c 5 t) ((outsAt0 m c (t.val - 1) (Nat.lt_of_le_of_lt (Nat.sub_le _ _)
      t.isLt)).2.2.2.2)) y
      = ((alpha * (D.block t).dz (y 0) (y 1) : ℝ) : EReal) := by
  frame_out
  simp only [partSix_def, blockFf_def, blockCen_def, blockVar_def]
  idx_vars y
  exact dxa_at (cen_at (blk0 H t) (blk4_4 H t) (blk4_3 H t) (blk2 H t) (blk3 H t) (blk4_5 H t)) (var_at (blk0 H t) (blk4_4 H t) (blk4_3 H t) (blk2 H t) (blk3 H t) (blk4_5 H t)) (blk5_2 H t) (blk5_3 H t) (blk1 H t) _ _

set_option maxHeartbeats 1600000 in
/-- The hidden layer a point stores, shard by shard. -/
theorem point_7_A (t : Fin cfg0.N) (h0 : t.val % 16 = 0) (y) :
    (out0_A_7 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) ((hcond0_0 t).mpr h0) (iblk m c 0 t) (iblk m c 1 t) (iblk m c 2 t) (iblk m c 3
      t) (iblk m c 4 t) (iblk m c 5 t)) y
      = (((D.block t).hid (y 0) (y 1) : ℝ) : EReal) := by
  frame_out
  canon_tiles x h
  · obtain ⟨r, j, rfl⟩ : ∃ (r : Fin 512) (j : Fin 512), x = ix2 r j := ⟨x 0, x 1, by idx_vars x⟩
    refine (tile7 (blk0 H t) (blk4_4 H t) (blk4_3 H t) (blk2 H t) r j).trans ?_
    refine congrArg₂ (fun a b => (((D.block t).hid a b : ℝ) : EReal)) (Fin.ext ?_) (Fin.ext ?_)
    · exact h0.symm
    · exact h1.symm
  · obtain ⟨r, j, rfl⟩ : ∃ (r : Fin 512) (j : Fin 512), x = ix2 r j := ⟨x 0, x 1, by idx_vars x⟩
    refine (tile6 (blk0 H t) (blk4_4 H t) (blk4_3 H t) (blk2 H t) r j).trans ?_
    refine congrArg₂ (fun a b => (((D.block t).hid a b : ℝ) : EReal)) (Fin.ext ?_) (Fin.ext ?_)
    · exact h0.symm
    · exact h1.symm
  · obtain ⟨r, j, rfl⟩ : ∃ (r : Fin 512) (j : Fin 512), x = ix2 r j := ⟨x 0, x 1, by idx_vars x⟩
    refine (tile5 (blk0 H t) (blk4_4 H t) (blk4_3 H t) (blk2 H t) r j).trans ?_
    refine congrArg₂ (fun a b => (((D.block t).hid a b : ℝ) : EReal)) (Fin.ext ?_) (Fin.ext ?_)
    · exact h0.symm
    · exact h1.symm
  · obtain ⟨r, j, rfl⟩ : ∃ (r : Fin 512) (j : Fin 512), x = ix2 r j := ⟨x 0, x 1, by idx_vars x⟩
    refine (tile4 (blk0 H t) (blk4_4 H t) (blk4_3 H t) (blk2 H t) r j).trans ?_
    refine congrArg₂ (fun a b => (((D.block t).hid a b : ℝ) : EReal)) (Fin.ext ?_) (Fin.ext ?_)
    · exact h0.symm
    · exact h1.symm
  · obtain ⟨r, j, rfl⟩ : ∃ (r : Fin 512) (j : Fin 512), x = ix2 r j := ⟨x 0, x 1, by idx_vars x⟩
    refine (tile3 (blk0 H t) (blk4_4 H t) (blk4_3 H t) (blk2 H t) r j).trans ?_
    refine congrArg₂ (fun a b => (((D.block t).hid a b : ℝ) : EReal)) (Fin.ext ?_) (Fin.ext ?_)
    · exact h0.symm
    · exact h1.symm
  · obtain ⟨r, j, rfl⟩ : ∃ (r : Fin 512) (j : Fin 512), x = ix2 r j := ⟨x 0, x 1, by idx_vars x⟩
    refine (tile2 (blk0 H t) (blk4_4 H t) (blk4_3 H t) (blk2 H t) r j).trans ?_
    refine congrArg₂ (fun a b => (((D.block t).hid a b : ℝ) : EReal)) (Fin.ext ?_) (Fin.ext ?_)
    · exact h0.symm
    · exact h1.symm
  · obtain ⟨r, j, rfl⟩ : ∃ (r : Fin 512) (j : Fin 512), x = ix2 r j := ⟨x 0, x 1, by idx_vars x⟩
    refine (tile1 (blk0 H t) (blk4_4 H t) (blk4_3 H t) (blk2 H t) r j).trans ?_
    refine congrArg₂ (fun a b => (((D.block t).hid a b : ℝ) : EReal)) (Fin.ext ?_) (Fin.ext ?_)
    · exact h0.symm
    · exact h1.symm
  · obtain ⟨r, j, rfl⟩ : ∃ (r : Fin 512) (j : Fin 512), x = ix2 r j := ⟨x 0, x 1, by idx_vars x⟩
    refine (tile0 (blk0 H t) (blk4_4 H t) (blk4_3 H t) (blk2 H t) r j).trans ?_
    refine congrArg₂ (fun a b => (((D.block t).hid a b : ℝ) : EReal)) (Fin.ext ?_) (Fin.ext ?_)
    · exact h0.symm
    · exact (by simp [col] : (col 0 j).val = j.val).trans h1.symm

set_option maxHeartbeats 1600000 in
/-- The hidden layer a point stores, shard by shard. -/
theorem point_7_B (t : Fin cfg0.N) (h0 : ¬t.val % 16 = 0) (y) :
    (out0_B_7 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (fun h => h0 ((hcond0_0 t).mp h)) (iblk m c 0 t) (iblk m c 1 t) (iblk m c 2 t)
      (iblk m c 3 t) (iblk m c 4 t) (iblk m c 5 t) ((outsAt0 m c (t.val - 1) (Nat.lt_of_le_of_lt (Nat.sub_le _ _)
      t.isLt)).2.2.2.2)) y
      = (((D.block t).hid (y 0) (y 1) : ℝ) : EReal) := by
  frame_out
  canon_tiles x h
  · obtain ⟨r, j, rfl⟩ : ∃ (r : Fin 512) (j : Fin 512), x = ix2 r j := ⟨x 0, x 1, by idx_vars x⟩
    refine (tile7 (blk0 H t) (blk4_4 H t) (blk4_3 H t) (blk2 H t) r j).trans ?_
    refine congrArg₂ (fun a b => (((D.block t).hid a b : ℝ) : EReal)) (Fin.ext ?_) (Fin.ext ?_)
    · exact h0.symm
    · exact h1.symm
  · obtain ⟨r, j, rfl⟩ : ∃ (r : Fin 512) (j : Fin 512), x = ix2 r j := ⟨x 0, x 1, by idx_vars x⟩
    refine (tile6 (blk0 H t) (blk4_4 H t) (blk4_3 H t) (blk2 H t) r j).trans ?_
    refine congrArg₂ (fun a b => (((D.block t).hid a b : ℝ) : EReal)) (Fin.ext ?_) (Fin.ext ?_)
    · exact h0.symm
    · exact h1.symm
  · obtain ⟨r, j, rfl⟩ : ∃ (r : Fin 512) (j : Fin 512), x = ix2 r j := ⟨x 0, x 1, by idx_vars x⟩
    refine (tile5 (blk0 H t) (blk4_4 H t) (blk4_3 H t) (blk2 H t) r j).trans ?_
    refine congrArg₂ (fun a b => (((D.block t).hid a b : ℝ) : EReal)) (Fin.ext ?_) (Fin.ext ?_)
    · exact h0.symm
    · exact h1.symm
  · obtain ⟨r, j, rfl⟩ : ∃ (r : Fin 512) (j : Fin 512), x = ix2 r j := ⟨x 0, x 1, by idx_vars x⟩
    refine (tile4 (blk0 H t) (blk4_4 H t) (blk4_3 H t) (blk2 H t) r j).trans ?_
    refine congrArg₂ (fun a b => (((D.block t).hid a b : ℝ) : EReal)) (Fin.ext ?_) (Fin.ext ?_)
    · exact h0.symm
    · exact h1.symm
  · obtain ⟨r, j, rfl⟩ : ∃ (r : Fin 512) (j : Fin 512), x = ix2 r j := ⟨x 0, x 1, by idx_vars x⟩
    refine (tile3 (blk0 H t) (blk4_4 H t) (blk4_3 H t) (blk2 H t) r j).trans ?_
    refine congrArg₂ (fun a b => (((D.block t).hid a b : ℝ) : EReal)) (Fin.ext ?_) (Fin.ext ?_)
    · exact h0.symm
    · exact h1.symm
  · obtain ⟨r, j, rfl⟩ : ∃ (r : Fin 512) (j : Fin 512), x = ix2 r j := ⟨x 0, x 1, by idx_vars x⟩
    refine (tile2 (blk0 H t) (blk4_4 H t) (blk4_3 H t) (blk2 H t) r j).trans ?_
    refine congrArg₂ (fun a b => (((D.block t).hid a b : ℝ) : EReal)) (Fin.ext ?_) (Fin.ext ?_)
    · exact h0.symm
    · exact h1.symm
  · obtain ⟨r, j, rfl⟩ : ∃ (r : Fin 512) (j : Fin 512), x = ix2 r j := ⟨x 0, x 1, by idx_vars x⟩
    refine (tile1 (blk0 H t) (blk4_4 H t) (blk4_3 H t) (blk2 H t) r j).trans ?_
    refine congrArg₂ (fun a b => (((D.block t).hid a b : ℝ) : EReal)) (Fin.ext ?_) (Fin.ext ?_)
    · exact h0.symm
    · exact h1.symm
  · obtain ⟨r, j, rfl⟩ : ∃ (r : Fin 512) (j : Fin 512), x = ix2 r j := ⟨x 0, x 1, by idx_vars x⟩
    refine (tile0 (blk0 H t) (blk4_4 H t) (blk4_3 H t) (blk2 H t) r j).trans ?_
    refine congrArg₂ (fun a b => (((D.block t).hid a b : ℝ) : EReal)) (Fin.ext ?_) (Fin.ext ?_)
    · exact h0.symm
    · exact (by simp [col] : (col 0 j).val = j.val).trans h1.symm

end Cert.FfValue

end
-- ==== Proof.FfSums.lean ====
/- The column sums the forward pass accumulates over its grid points. -/
module

public import proofs.«01_k».proof.Proof.FfBlocks
public import proofs.«01_k».proof.Proof.KernelSums

@[expose] public section

set_option maxRecDepth 16384

noncomputable section

namespace Cert.FfSums

open Cert.Kernel9Ideal Cert.Kernel9Ideal.Gen Cert.FfModel Cert.FfBlock Cert.FfBlocks Cert.Grad
open Cert.Model (lift row)
open Cert.KernelSums (canon_row canon_skip rd_row rd_skip ld_row)
open Idealize.ShloMosaic Idealize.ShloMosaic.TcCoe Idealize.SL.Sem
open Idealize.ShloMosaic.Pipeline (Dat)
open scoped BigOperators

/-- An eight-row array written whole and then row by row reads, at a row, what was last written there. -/
theorem canon_rows (k : Fin 8) (l : Fin 1024) (X : Fin 8 → EReal) (L : List (View.Piece (Elt Ideal) S8x1024 .f32))
    {i3 : _} (w3 : (Rect.unit (s := S8x1024) ![3, 0] ![1, 1024] i3).shape.Idx → Elt Ideal .f32) {i2 : _} (w2 : (Rect.unit (s := S8x1024) ![2, 0] ![1, 1024] i2).shape.Idx → Elt Ideal .f32) {i1 : _} (w1 : (Rect.unit (s := S8x1024) ![1, 0] ![1, 1024] i1).shape.Idx → Elt Ideal .f32) {i0 : _} (w0 : (Rect.unit (s := S8x1024) ![0, 0] ![1, 1024] i0).shape.Idx → Elt Ideal .f32)
    (h3 : (w3 (ix2 0 l) : EReal) = X 3) (h2 : (w2 (ix2 0 l) : EReal) = X 2) (h1 : (w1 (ix2 0 l) : EReal) = X 1) (h0 : (w0 (ix2 0 l) : EReal) = X 0)
    (hb : ∀ k : Fin 8, 4 ≤ k.val → (View.canon L (ix2 k l) : EReal) = X k) :
    (View.canon ((⟨Rect.unit (s := S8x1024) ![3, 0] ![1, 1024] i3, w3⟩ : View.Piece (Elt Ideal) S8x1024 .f32) ::     (⟨Rect.unit (s := S8x1024) ![2, 0] ![1, 1024] i2, w2⟩ : View.Piece (Elt Ideal) S8x1024 .f32) ::     (⟨Rect.unit (s := S8x1024) ![1, 0] ![1, 1024] i1, w1⟩ : View.Piece (Elt Ideal) S8x1024 .f32) ::     (⟨Rect.unit (s := S8x1024) ![0, 0] ![1, 1024] i0, w0⟩ : View.Piece (Elt Ideal) S8x1024 .f32) :: L) (ix2 k l) : EReal) = X k := by
  by_cases e3 : k = 3
  · subst e3
    exact (canon_row 3 _ 3 rfl l _ _).trans h3
  have n3 : k.val ≠ 3 := fun h => e3 (Fin.ext h)
  refine (canon_skip 3 _ k n3 l _ _).trans ?_
  by_cases e2 : k = 2
  · subst e2
    exact (canon_row 2 _ 2 rfl l _ _).trans h2
  have n2 : k.val ≠ 2 := fun h => e2 (Fin.ext h)
  refine (canon_skip 2 _ k n2 l _ _).trans ?_
  by_cases e1 : k = 1
  · subst e1
    exact (canon_row 1 _ 1 rfl l _ _).trans h1
  have n1 : k.val ≠ 1 := fun h => e1 (Fin.ext h)
  refine (canon_skip 1 _ k n1 l _ _).trans ?_
  by_cases e0 : k = 0
  · subst e0
    exact (canon_row 0 _ 0 rfl l _ _).trans h0
  have n0 : k.val ≠ 0 := fun h => e0 (Fin.ext h)
  refine (canon_skip 0 _ k n0 l _ _).trans ?_
  exact hb k (by omega)

theorem rd_rows {sig : RefSig} {κ : Kind} {sp : Space} (v : View sig κ sp S8x1024 .f32) (f : v.ty.Contents (Elt Ideal))
    (k : Fin 8) (l : Fin 1024) (X : Fin 8 → EReal)
    {i3 : _} (w3 : (Rect.unit (s := S8x1024) ![3, 0] ![1, 1024] i3).shape.Idx → Elt Ideal .f32) {i2 : _} (w2 : (Rect.unit (s := S8x1024) ![2, 0] ![1, 1024] i2).shape.Idx → Elt Ideal .f32) {i1 : _} (w1 : (Rect.unit (s := S8x1024) ![1, 0] ![1, 1024] i1).shape.Idx → Elt Ideal .f32) {i0 : _} (w0 : (Rect.unit (s := S8x1024) ![0, 0] ![1, 1024] i0).shape.Idx → Elt Ideal .f32)
    (h3 : (w3 (ix2 0 l) : EReal) = X 3) (h2 : (w2 (ix2 0 l) : EReal) = X 2) (h1 : (w1 (ix2 0 l) : EReal) = X 1) (h0 : (w0 (ix2 0 l) : EReal) = X 0)
    (hb : ∀ k : Fin 8, 4 ≤ k.val → (v.read (Elt Ideal) f (ix2 k l) : EReal) = X k) :
    (v.read (Elt Ideal) (v.writes (Elt Ideal) f [(⟨Rect.unit (s := S8x1024) ![3, 0] ![1, 1024] i3, w3⟩ : View.Piece (Elt Ideal) S8x1024 .f32),
      (⟨Rect.unit (s := S8x1024) ![2, 0] ![1, 1024] i2, w2⟩ : View.Piece (Elt Ideal) S8x1024 .f32),
      (⟨Rect.unit (s := S8x1024) ![1, 0] ![1, 1024] i1, w1⟩ : View.Piece (Elt Ideal) S8x1024 .f32),
      (⟨Rect.unit (s := S8x1024) ![0, 0] ![1, 1024] i0, w0⟩ : View.Piece (Elt Ideal) S8x1024 .f32)])
      (ix2 k l) : EReal) = X k := by
  by_cases e3 : k = 3
  · subst e3
    exact (rd_row v f 3 _ 3 rfl l _ _).trans h3
  have n3 : k.val ≠ 3 := fun h => e3 (Fin.ext h)
  refine (rd_skip v f 3 _ k n3 l _ _).trans ?_
  by_cases e2 : k = 2
  · subst e2
    exact (rd_row v f 2 _ 2 rfl l _ _).trans h2
  have n2 : k.val ≠ 2 := fun h => e2 (Fin.ext h)
  refine (rd_skip v f 2 _ k n2 l _ _).trans ?_
  by_cases e1 : k = 1
  · subst e1
    exact (rd_row v f 1 _ 1 rfl l _ _).trans h1
  have n1 : k.val ≠ 1 := fun h => e1 (Fin.ext h)
  refine (rd_skip v f 1 _ k n1 l _ _).trans ?_
  by_cases e0 : k = 0
  · subst e0
    exact (rd_row v f 0 _ 0 rfl l _ _).trans h0
  have n0 : k.val ≠ 0 := fun h => e0 (Fin.ext h)
  refine (rd_skip v f 0 _ k n0 l _ _).trans ?_
  exact hb k (by omega)

variable {m : (ℓ : Loc nD τ sig) → Buf (Elt Ideal) ℓ} {c : Dev nD} {D : Data 8192} (H : Feeds m c D)
include H

/-- The column sums after the first point. -/
theorem point_10_A (t : Fin cfg0.N) (h0 : t.val % 16 = 0) (y) :
    (out0_A_10 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) ((hcond0_0 t).mpr h0) (iblk m c 0 t) (iblk m c 1 t) (iblk m c 2 t) (iblk m c 3
      t) (iblk m c 4 t) (iblk m c 5 t)) y
      = (0 : EReal) + (((D.block t).st (y 0).val (y 1) : ℝ) : EReal) := by
  frame_out
  simp (disch := decide) only [View.readCov_skip, View.readCov_fill]
  simp only [partSix_def, blockFf_def, blockCen_def, blockVar_def]
  obtain ⟨k, l, rfl⟩ : ∃ (k : Fin 8) (l : Fin 1024), y = ix2 k l := ⟨y 0, y 1, by idx_vars y⟩
  have hc := cen_at (blk0 H t) (blk4_4 H t) (blk4_3 H t) (blk2 H t) (blk3 H t) (blk4_5 H t)
  have hv := var_at (blk0 H t) (blk4_4 H t) (blk4_3 H t) (blk2 H t) (blk3 H t) (blk4_5 H t)
  have hf := ff_at (blk0 H t) (blk4_4 H t) (blk4_3 H t) (blk2 H t) (blk3 H t)
  have hg := blk5_2 H t
  have hb := blk5_3 H t
  have ht := blk1 H t
  have hp (k : Fin 8) : (k0_pay27 (F := Ideal) (ix2 k l) : EReal) = 0 := by pointwise [k0_pay27]
  refine canon_rows k l (fun k => (0 : EReal) + (((D.block t).st k.val l : ℝ) : EReal)) _ _ _ _ _ ?_ ?_ ?_ ?_ fun k hk => ?_
  · refine (row3_at (T := D.block t) hc hv hg hb ht _ l).trans ?_
    exact congrArg (· + _) ((ld_row _ 3 _ 3 rfl l).trans (hp 3))
  · refine (row2_at (T := D.block t) hc hv hg hb ht _ hf l).trans ?_
    exact congrArg (· + _) ((ld_row _ 2 _ 2 rfl l).trans (hp 2))
  · refine (row1_at (T := D.block t) hc hv hg hb ht _ l).trans ?_
    exact congrArg (· + _) ((ld_row _ 1 _ 1 rfl l).trans (hp 1))
  · refine (row0_at (T := D.block t) hc hv hg hb ht _ l).trans ?_
    exact congrArg (· + _) ((ld_row _ 0 _ 0 rfl l).trans (hp 0))
  · refine (congrFun (View.canon_cons_unit_lit _ _ _ (by decide)) _).trans ((hp _).trans ?_)
    rw [st_high _ _ _ hk]
    exact (add_zero (0 : EReal)).symm

/-- The column sums after a later point. -/
theorem point_10_B (t : Fin cfg0.N) (h0 : ¬t.val % 16 = 0) (y) :
    (out0_B_10 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (fun h => h0 ((hcond0_0 t).mp h)) (iblk m c 0 t) (iblk m c 1 t) (iblk m c 2 t)
      (iblk m c 3 t) (iblk m c 4 t) (iblk m c 5 t) ((outsAt0 m c (t.val - 1) (Nat.lt_of_le_of_lt (Nat.sub_le _ _)
      t.isLt)).2.2.2.2)) y
      = ((outsAt0 m c (t.val - 1) (Nat.lt_of_le_of_lt (Nat.sub_le _ _) t.isLt)).2.2.2.2 : S8x1024.Idx → EReal) y
        + (((D.block t).st (y 0).val (y 1) : ℝ) : EReal) := by
  frame_out
  simp only [partSix_def, blockFf_def, blockCen_def, blockVar_def]
  obtain ⟨k, l, rfl⟩ : ∃ (k : Fin 8) (l : Fin 1024), y = ix2 k l := ⟨y 0, y 1, by idx_vars y⟩
  have hc := cen_at (blk0 H t) (blk4_4 H t) (blk4_3 H t) (blk2 H t) (blk3 H t) (blk4_5 H t)
  have hv := var_at (blk0 H t) (blk4_4 H t) (blk4_3 H t) (blk2 H t) (blk3 H t) (blk4_5 H t)
  have hf := ff_at (blk0 H t) (blk4_4 H t) (blk4_3 H t) (blk2 H t) (blk3 H t)
  have hg := blk5_2 H t
  have hb := blk5_3 H t
  have ht := blk1 H t
  refine rd_rows _ _ k l (fun k => ((outsAt0 m c (t.val - 1) (Nat.lt_of_le_of_lt (Nat.sub_le _ _) t.isLt)).2.2.2.2 : S8x1024.Idx → EReal)
    (ix2 k l) + (((D.block t).st k.val l : ℝ) : EReal)) _ _ _ _ ?_ ?_ ?_ ?_ fun k hk => ?_
  · refine (row3_at (T := D.block t) hc hv hg hb ht _ l).trans ?_
    exact congrArg (· + _) (ld_row _ 3 _ 3 rfl l)
  · refine (row2_at (T := D.block t) hc hv hg hb ht _ hf l).trans ?_
    exact congrArg (· + _) (ld_row _ 2 _ 2 rfl l)
  · refine (row1_at (T := D.block t) hc hv hg hb ht _ l).trans ?_
    exact congrArg (· + _) (ld_row _ 1 _ 1 rfl l)
  · refine (row0_at (T := D.block t) hc hv hg hb ht _ l).trans ?_
    exact congrArg (· + _) (ld_row _ 0 _ 0 rfl l)
  · refine (congrFun (Memref.IsWhole.read_unread _ _) _).trans ?_
    rw [st_high _ _ _ hk]
    exact (add_zero (_ : EReal)).symm

end Cert.FfSums

end
-- ==== Proof.FfRef.lean ====
/- The reference's stages of the forward pass at finite arguments: each is the model's real expression. -/
module

public import proofs.«01_k».proof.Proof.FfModel
public import proofs.«01_k».proof.Proof.Gen.Reference9Ideal.Read

@[expose] public section

set_option maxRecDepth 16384

noncomputable section

namespace Cert.FfRef

open Cert.Reference9Ideal Cert.Reference9Ideal.Read Cert.FfModel Cert.Grad
open Cert.Model (lift row lift_apply row_apply)
open Idealize.ShloMosaic Idealize.ShloMosaic.TcCoe Idealize.SL.Sem Idealize.ShloMosaic.StableHlo
open scoped BigOperators

variable (D : Data 8192)

/-! ## Re-indexings through a unit axis -/

/-- A row and a column as an index of the tall matrices. -/
def pt (r : Fin 8192) (l : Fin 1024) : S8192x1024.Idx := ValueIdx.ix2 r l

theorem e74 (i : S8192x1.Idx) (k : Fin 1024) : idx_main_v73 (idx_main_v74 i) k = pt (i 0) k := funext fun a => Fin.ext (by
  have h1 : (i 1).val < 1 := (i 1).isLt
  match a with
  | ⟨0, _⟩ => show (i 0).val * 1 + (i 1).val = (i 0).val; omega
  | ⟨1, _⟩ => rfl)

theorem e60 (i : S1x1024.Idx) (k : Fin 8192) : idx_main_v59 (idx_main_v60 i) k = pt k (i 1) := funext fun a => Fin.ext (by
  have h1 : (i 0).val < 1 := (i 0).isLt
  match a with
  | ⟨0, _⟩ => rfl
  | ⟨1, _⟩ => show (i 0).val * 1024 + (i 1).val = (i 1).val; omega)

theorem n_ne : (1024 : ℝ) ≠ 0 := by norm_num

/-- A sum over the indices of a vector is the sum over its entries. -/
theorem sum_vec (f : S8192.Idx → EReal) (g : Fin 8192 → EReal) (h : ∀ j, f j = g (j 0)) : ∑ j : S8192.Idx, f j = ∑ k, g k :=
  Fintype.sum_equiv ⟨fun j => j 0, fun k => fun a => match a with | ⟨0, _⟩ => k,
    fun j => funext fun a => match a with | ⟨0, _⟩ => rfl, fun k => rfl⟩ f g h

/-- The modulated input. -/
theorem v5 (i) : val_main_v5 (F := Ideal) (lift D.x) (row D.sh) (row D.sc) i = ((D.u2 (i 0) (i 1) : ℝ) : EReal) := by
  rw [val_main_v5_apply, val_main_v3_apply, val_main_v4_apply, val_main_v2_apply, val_main_v1_apply, val_main_v0_apply, val_main_cst_apply]
  simp only [Ideal.addf_def, Ideal.mulf_def, Ideal.ofBits_def, lit_one, lift_apply, row_apply, ← EReal.coe_add, ← EReal.coe_mul]
  rfl

/-- The hidden layer before its activation. -/
theorem v6 (i) : val_main_v6 (F := Ideal) (lift D.x) (lift D.w1) (row D.sh) (row D.sc) i = ((D.h (i 0) (i 1) : ℝ) : EReal) := by
  rw [val_main_v6_apply]
  simp only [v5, lift_apply, ← EReal.coe_mul, coe_sum]
  rfl

/-- The hidden layer. -/
theorem v8 (i) : val_main_v8 (F := Ideal) (lift D.x) (lift D.w1) (row D.sh) (row D.sc) i = ((D.hid (i 0) (i 1) : ℝ) : EReal) := by
  rw [val_main_v8_apply, val_main_v7_apply, v6, val_main_call0_v0_apply, val_main_call0_cst_apply, Ideal.maximumf_def, Ideal.ofBits_def,
    Ideal.ofBits_zero_f32, max_zero_coe, Ideal.mulf_def, ← EReal.coe_mul]
  rfl

/-- The block's output. -/
theorem v9 (i) : val_main_v9 (F := Ideal) (lift D.x) (lift D.w1) (lift D.w2) (row D.sh) (row D.sc) i
    = ((D.ff (i 0) (i 1) : ℝ) : EReal) := by
  rw [val_main_v9_apply]
  simp only [v8, lift_apply, ← EReal.coe_mul, coe_sum]
  rfl

theorem v13 (i) : val_main_v13 (F := Ideal) (row D.gt) i = ((1 + D.gt (i 1) : ℝ) : EReal) := by
  rw [val_main_v13_apply, val_main_v12_apply, val_main_cst_1_apply, row_apply, Ideal.addf_def, Ideal.ofBits_def, lit_one, ← EReal.coe_add]

/-- The residual sum. -/
theorem v16 (i) : val_main_v16 (F := Ideal) (lift D.x) (lift D.w1) (lift D.w2) (row D.sh) (row D.sc) (row D.gt) i = ((D.z (i 0) (i 1) : ℝ) : EReal) := by
  rw [val_main_v16_apply, val_main_v11_apply, val_main_v15_apply, val_main_v10_apply, val_main_v14_apply, val_main_cst_0_apply, v13, v9]
  simp only [Ideal.addf_def, Ideal.mulf_def, Ideal.ofBits_def, lit_alpha, lift_apply, ← EReal.coe_add, ← EReal.coe_mul]
  rfl

/-- The row means. -/
theorem v20 (i) : val_main_v20 (F := Ideal) (lift D.x) (lift D.w1) (lift D.w2) (row D.sh) (row D.sc) (row D.gt) i = ((mean (D.z (i 0)) : ℝ) : EReal) := by
  rw [val_main_v20_apply, val_main_v18_apply, val_main_v17_apply, val_main_v19_apply, val_main_cst_2_apply, val_main_cst_3_apply]
  simp only [Ideal.hostDivf_def, Ideal.ofBits_def, lit_n, Ideal.ofBits_zero_f32, zero_add, v16, coe_sum, div_coe_coe _ n_ne]
  rfl

theorem v22 (i) : val_main_v22 (F := Ideal) (lift D.x) (lift D.w1) (lift D.w2) (row D.sh) (row D.sc) (row D.gt) i = ((cen (D.z (i 0)) (i 1) : ℝ) : EReal) := by
  rw [val_main_v22_apply, val_main_v21_apply, v16, v20, Ideal.subf_def, ← EReal.coe_sub]
  rfl

theorem v31 (i) : val_main_v31 (F := Ideal) (lift D.x) (lift D.w1) (lift D.w2) (row D.sh) (row D.sc) (row D.gt) i = ((cen (D.z (i 0)) (i 1) : ℝ) : EReal) := by
  rw [val_main_v31_apply, val_main_v30_apply, v16, v20, Ideal.subf_def, ← EReal.coe_sub]
  rfl

theorem v25 (i) : val_main_v25 (F := Ideal) (lift D.x) (lift D.w1) (lift D.w2) (row D.sh) (row D.sc) (row D.gt) i = ((2 * cen (D.z (i 0)) (i 1) : ℝ) : EReal) := by
  rw [val_main_v25_apply, val_main_v24_apply, v22, val_main_cst_4_apply, Ideal.mulf_def, Ideal.ofBits_def, lit_two, ← EReal.coe_mul]

theorem v23 (i) : val_main_v23 (F := Ideal) (lift D.x) (lift D.w1) (lift D.w2) (row D.sh) (row D.sc) (row D.gt) i
    = ((cen (D.z (i 0)) (i 1) * cen (D.z (i 0)) (i 1) : ℝ) : EReal) := by
  rw [val_main_v23_apply, v22, Ideal.mulf_def, ← EReal.coe_mul]

theorem v33 (i) : val_main_v33 (F := Ideal) (lift D.x) (lift D.w1) (lift D.w2) (row D.sh) (row D.sc) (row D.gt) i = ((vare (D.z (i 0)) : ℝ) : EReal) := by
  rw [val_main_v33_apply, val_main_v29_apply, val_main_v27_apply, val_main_v26_apply, val_main_v28_apply, val_main_v32_apply,
    val_main_cst_5_apply, val_main_cst_6_apply, val_main_cst_7_apply]
  simp only [Ideal.addf_def, Ideal.mulf_def, Ideal.hostDivf_def, Ideal.ofBits_def, lit_n, lit_eps, Ideal.ofBits_zero_f32, zero_add,
    v23, ← EReal.coe_mul, coe_sum, div_coe_coe _ n_ne, ← EReal.coe_add]
  rfl

theorem v34 (i) : val_main_v34 (F := Ideal) (lift D.x) (lift D.w1) (lift D.w2) (row D.sh) (row D.sc) (row D.gt) i = ((rstd (D.z (i 0)) : ℝ) : EReal) := by
  rw [val_main_v34_apply, v33]
  exact rsqrt_pos (vare_pos _)

theorem v37 (i) : val_main_v37 (F := Ideal) (lift D.x) (lift D.w1) (lift D.w2) (row D.sh) (row D.sc) (row D.gt) i
    = ((-(1 / 2) * (rstd (D.z (i 0)) / vare (D.z (i 0))) : ℝ) : EReal) := by
  rw [val_main_v37_apply, val_main_v35_apply, val_main_v36_apply, val_main_cst_8_apply, v33, v34, Ideal.mulf_def, Ideal.hostDivf_def,
    Ideal.ofBits_def, lit_neg_half, div_coe_coe _ (vare_pos _).ne', ← EReal.coe_mul]

theorem v39 (i) : val_main_v39 (F := Ideal) (lift D.x) (lift D.w1) (lift D.w2) (row D.sh) (row D.sc) (row D.gt) i = ((xhat (D.z (i 0)) (i 1) : ℝ) : EReal) := by
  rw [val_main_v39_apply, val_main_v38_apply, v31, v34, Ideal.mulf_def, ← EReal.coe_mul]
  rfl

/-- The normalised stream less the target. -/
theorem v44 (i) : val_main_v44 (F := Ideal) (lift D.x) (lift D.tgt) (lift D.w1) (lift D.w2) (row D.sh) (row D.sc)
    (row D.gt) (row D.g) (row D.b) i = ((D.diff (i 0) (i 1) : ℝ) : EReal) := by
  rw [val_main_v44_apply, val_main_v43_apply, val_main_v41_apply, val_main_v40_apply, val_main_v42_apply, v39, row_apply, row_apply,
    lift_apply, Ideal.addf_def, Ideal.mulf_def, Ideal.subf_def, ← EReal.coe_mul, ← EReal.coe_add, ← EReal.coe_sub]
  rfl

theorem v45 (i) : val_main_v45 (F := Ideal) (lift D.x) (lift D.tgt) (lift D.w1) (lift D.w2) (row D.sh) (row D.sc)
    (row D.gt) (row D.g) (row D.b) i
    = ((D.diff (i 0) (i 1) * D.diff (i 0) (i 1) : ℝ) : EReal) := by
  rw [val_main_v45_apply, v44, Ideal.mulf_def, ← EReal.coe_mul]

theorem v50 (j) : val_main_v50 (F := Ideal) (lift D.x) (lift D.tgt) (lift D.w1) (lift D.w2) (row D.sh) (row D.sc)
    (row D.gt) (row D.g) (row D.b) j
    = (((∑ k, D.diff (j 0) k * D.diff (j 0) k) / 1024 : ℝ) : EReal) := by
  rw [val_main_v50_apply, val_main_v48_apply, val_main_v49_apply, val_main_cst_10_apply, val_main_cst_11_apply]
  simp only [v45, Ideal.hostDivf_def, Ideal.ofBits_def, lit_n, Ideal.ofBits_zero_f32, zero_add, coe_sum, div_coe_coe _ n_ne]
  rfl

/-- The loss. -/
theorem v97 (i) : val_main_v97 (F := Ideal) (lift D.x) (lift D.tgt) (lift D.w1) (lift D.w2) (row D.sh) (row D.sc)
    (row D.gt) (row D.g) (row D.b) i = ((D.st 3 (i 1) : ℝ) : EReal) := by
  rw [val_main_v97_apply, val_main_v52_apply, val_main_v51_apply, val_main_cst_12_apply, val_main_cst_13_apply,
    sum_vec _ (fun r => (((∑ k, D.diff r k * D.diff r k) / 1024 : ℝ) : EReal)) (v50 D)]
  simp only [Ideal.mulf_def, Ideal.ofBits_def, lit_half, Ideal.ofBits_zero_f32, zero_add, coe_sum, ← EReal.coe_mul]
  refine congrArg (fun t : ℝ => (t : EReal)) ?_
  rw [← Finset.sum_div]
  show 1 / 2 * ((∑ r, ∑ k, D.diff r k * D.diff r k) / 1024) = (∑ r, ∑ k, D.diff r k * D.diff r k) * (1 / 2048)
  ring

/-- The gradient of the normalised stream. -/
theorem v58 (i) : val_main_v58 (F := Ideal) (lift D.x) (lift D.tgt) (lift D.w1) (lift D.w2) (row D.sh) (row D.sc)
    (row D.gt) (row D.g) (row D.b) i = ((D.dy (i 0) (i 1) : ℝ) : EReal) := by
  rw [val_main_v58_apply, val_main_v57_apply, val_main_v56_apply, val_main_v54_apply, val_main_v53_apply, val_main_v55_apply,
    val_main_cst_14_apply, val_main_cst_15_apply, val_main_cst_16_apply, val_main_v47_apply, val_main_v46_apply, val_main_cst_9_apply, v44]
  simp only [Ideal.hostDivf_def, Ideal.mulf_def, Ideal.ofBits_def, lit_n, lit_half, lit_one, lit_two, ← EReal.coe_mul, div_coe_coe _ n_ne]
  refine congrArg (fun t : ℝ => (t : EReal)) ?_
  show 1 / 2 * 1 / 1024 * (2 * D.diff (i 0) (i 1)) = D.diff (i 0) (i 1) * (1 / 1024)
  ring

theorem v65 (i) : val_main_v65 (F := Ideal) (lift D.x) (lift D.tgt) (lift D.w1) (lift D.w2) (row D.sh) (row D.sc)
    (row D.gt) (row D.g) (row D.b) i = ((D.dy (i 0) (i 1) * D.g (i 1) : ℝ) : EReal) := by
  rw [val_main_v65_apply, val_main_v64_apply, v58, row_apply, Ideal.mulf_def, ← EReal.coe_mul]
  rfl

theorem v70 (i) : val_main_v70 (F := Ideal) (lift D.x) (lift D.tgt) (lift D.w1) (lift D.w2) (row D.sh) (row D.sc)
    (row D.gt) (row D.g) (row D.b) i = ((D.dy (i 0) (i 1) * D.g (i 1) * rstd (D.z (i 0)) : ℝ) : EReal) := by
  rw [val_main_v70_apply, val_main_v69_apply, v65, v34, Ideal.mulf_def, ← EReal.coe_mul]
  rfl

theorem v66 (i) : val_main_v66 (F := Ideal) (lift D.x) (lift D.tgt) (lift D.w1) (lift D.w2) (row D.sh) (row D.sc)
    (row D.gt) (row D.g) (row D.b) i
    = ((cen (D.z (i 0)) (i 1) * (D.dy (i 0) (i 1) * D.g (i 1)) : ℝ) : EReal) := by
  rw [val_main_v66_apply, v31, v65, Ideal.mulf_def, ← EReal.coe_mul]

theorem v68 (i) : val_main_v68 (F := Ideal) (lift D.x) (lift D.tgt) (lift D.w1) (lift D.w2) (row D.sh) (row D.sc)
    (row D.gt) (row D.g) (row D.b) i
    = ((∑ k, cen (D.z (i 0)) k * (D.dy (i 0) k * D.g k) : ℝ) : EReal) := by
  have h68 (i : S8192x1.Idx) (k : Fin 1024) : idx_main_v67 (idx_main_v68 i) k = pt (i 0) k := e74 i k
  rw [val_main_v68_apply, val_main_v67_apply, val_main_cst_19_apply]
  simp only [h68, v66, Ideal.ofBits_def, Ideal.ofBits_zero_f32, zero_add, coe_sum]
  rfl

theorem v76 (i) : val_main_v76 (F := Ideal) (lift D.x) (lift D.tgt) (lift D.w1) (lift D.w2) (row D.sh) (row D.sc)
    (row D.gt) (row D.g) (row D.b) i
    = (((∑ k, cen (D.z (i 0)) k * (D.dy (i 0) k * D.g k)) * (-(1 / 2) * (rstd (D.z (i 0)) / vare (D.z (i 0)))) / 1024 : ℝ) : EReal) := by
  rw [val_main_v76_apply, val_main_v71_apply, v68, val_main_v75_apply, v37, val_main_cst_21_apply, Ideal.hostDivf_def, Ideal.mulf_def,
    Ideal.ofBits_def, lit_n, ← EReal.coe_mul, div_coe_coe _ n_ne]

theorem v79 (i) : val_main_v79 (F := Ideal) (lift D.x) (lift D.tgt) (lift D.w1) (lift D.w2) (row D.sh) (row D.sc)
    (row D.gt) (row D.g) (row D.b) i
    = (((∑ k, cen (D.z (i 0)) k * (D.dy (i 0) k * D.g k)) * (-(1 / 2) * (rstd (D.z (i 0)) / vare (D.z (i 0)))) / 1024 * (2 * cen (D.z (i 0)) (i 1)) : ℝ) : EReal) := by
  rw [val_main_v79_apply, val_main_v78_apply, val_main_v77_apply, v25, val_main_cst_22_apply]
  simp only [v76, Ideal.mulf_def, Ideal.ofBits_def, Ideal.ofBits_zero_f32, zero_add, coe_sum, ← EReal.coe_mul]
  rw [Fin.sum_univ_one]
  rfl

theorem v74 (i) : val_main_v74 (F := Ideal) (lift D.x) (lift D.tgt) (lift D.w1) (lift D.w2) (row D.sh) (row D.sc)
    (row D.gt) (row D.g) (row D.b) i
    = ((∑ l, -(D.dy (i 0) l * D.g l * rstd (D.z (i 0))) : ℝ) : EReal) := by
  have h72 (i) : val_main_v72 (F := Ideal) (lift D.x) (lift D.tgt) (lift D.w1) (lift D.w2) (row D.sh) (row D.sc)
    (row D.gt) (row D.g) (row D.b) i
      = ((-(D.dy (i 0) (i 1) * D.g (i 1) * rstd (D.z (i 0))) : ℝ) : EReal) := by
    rw [val_main_v72_apply, v70, Ideal.hostNegf_def, Ideal.negf_def, ← EReal.coe_neg]
  rw [val_main_v74_apply, val_main_v73_apply, val_main_cst_20_apply]
  simp only [e74, h72, Ideal.ofBits_def, Ideal.ofBits_zero_f32, zero_add, coe_sum]
  rfl

theorem v82 (i) : val_main_v82 (F := Ideal) (lift D.x) (lift D.tgt) (lift D.w1) (lift D.w2) (row D.sh) (row D.sc)
    (row D.gt) (row D.g) (row D.b) i
    = ((∑ l, -((∑ k, cen (D.z (i 0)) k * (D.dy (i 0) k * D.g k)) * (-(1 / 2) * (rstd (D.z (i 0)) / vare (D.z (i 0)))) / 1024 * (2 * cen (D.z (i 0)) l)) : ℝ) : EReal) := by
  have h80 (i) : val_main_v80 (F := Ideal) (lift D.x) (lift D.tgt) (lift D.w1) (lift D.w2) (row D.sh) (row D.sc)
    (row D.gt) (row D.g) (row D.b) i
      = ((-((∑ k, cen (D.z (i 0)) k * (D.dy (i 0) k * D.g k)) * (-(1 / 2) * (rstd (D.z (i 0)) / vare (D.z (i 0)))) / 1024 * (2 * cen (D.z (i 0)) (i 1))) : ℝ) : EReal) := by
    rw [val_main_v80_apply, v79, Ideal.hostNegf_def, Ideal.negf_def, ← EReal.coe_neg]
  have h82 (i : S8192x1.Idx) (k : Fin 1024) : idx_main_v81 (idx_main_v82 i) k = pt (i 0) k := e74 i k
  rw [val_main_v82_apply, val_main_v81_apply, val_main_cst_23_apply]
  simp only [h82, h80, Ideal.ofBits_def, Ideal.ofBits_zero_f32, zero_add, coe_sum]
  rfl

theorem v86 (i) : val_main_v86 (F := Ideal) (lift D.x) (lift D.tgt) (lift D.w1) (lift D.w2) (row D.sh) (row D.sc)
    (row D.gt) (row D.g) (row D.b) i
    = ((((∑ l, -(D.dy (i 0) l * D.g l * rstd (D.z (i 0)))) + ∑ l, -((∑ k, cen (D.z (i 0)) k * (D.dy (i 0) k * D.g k)) * (-(1 / 2) * (rstd (D.z (i 0)) / vare (D.z (i 0)))) / 1024 * (2 * cen (D.z (i 0)) l))) / 1024 : ℝ) : EReal) := by
  rw [val_main_v86_apply, val_main_v84_apply, v74, v82, val_main_v85_apply, val_main_cst_24_apply, Ideal.hostDivf_def, Ideal.addf_def,
    Ideal.ofBits_def, lit_n, ← EReal.coe_add, div_coe_coe _ n_ne]

/-- The gradient of the residual sum. -/
theorem v89 (i) : val_main_v89 (F := Ideal) (lift D.x) (lift D.tgt) (lift D.w1) (lift D.w2) (row D.sh) (row D.sc)
    (row D.gt) (row D.g) (row D.b) i = ((D.dz (i 0) (i 1) : ℝ) : EReal) := by
  refine Eq.trans ?_ (congrArg (fun t : ℝ => (t : EReal)) (lnChain_eq (D.z (i 0)) (fun k => D.dy (i 0) k * D.g k) (i 1)))
  rw [val_main_v89_apply, val_main_v83_apply, val_main_v88_apply, val_main_v87_apply, v70, v79, val_main_cst_25_apply]
  simp only [v86, Ideal.addf_def, Ideal.ofBits_def, Ideal.ofBits_zero_f32, zero_add, ← EReal.coe_add, coe_sum]
  rw [Fin.sum_univ_one]
  rfl

/-! ## The column sums -/

theorem v60 (i) : val_main_v60 (F := Ideal) (lift D.x) (lift D.tgt) (lift D.w1) (lift D.w2) (row D.sh) (row D.sc)
    (row D.gt) (row D.g) (row D.b) i = ((D.st 1 (i 1) : ℝ) : EReal) := by
  rw [val_main_v60_apply, val_main_v59_apply, val_main_cst_17_apply]
  simp only [e60, v58, Ideal.ofBits_def, Ideal.ofBits_zero_f32, zero_add, coe_sum]
  rfl

theorem v61 (i) : val_main_v61 (F := Ideal) (lift D.x) (lift D.tgt) (lift D.w1) (lift D.w2) (row D.sh) (row D.sc)
    (row D.gt) (row D.g) (row D.b) i
    = ((D.dy (i 0) (i 1) * xhat (D.z (i 0)) (i 1) : ℝ) : EReal) := by
  rw [val_main_v61_apply, v39, v58, Ideal.mulf_def, ← EReal.coe_mul, mul_comm]

theorem v63 (i) : val_main_v63 (F := Ideal) (lift D.x) (lift D.tgt) (lift D.w1) (lift D.w2) (row D.sh) (row D.sc)
    (row D.gt) (row D.g) (row D.b) i = ((D.st 0 (i 1) : ℝ) : EReal) := by
  have e (i : S1x1024.Idx) (k : Fin 8192) : idx_main_v62 (idx_main_v63 i) k = pt k (i 1) := e60 i k
  rw [val_main_v63_apply, val_main_v62_apply, val_main_cst_18_apply]
  simp only [e, v61, Ideal.ofBits_def, Ideal.ofBits_zero_f32, zero_add, coe_sum]
  rfl

theorem v92 (i) : val_main_v92 (F := Ideal) (lift D.x) (lift D.tgt) (lift D.w1) (lift D.w2) (row D.sh) (row D.sc)
    (row D.gt) (row D.g) (row D.b) i
    = ((D.dz (i 0) (i 1) * D.ff (i 0) (i 1) : ℝ) : EReal) := by
  rw [val_main_v92_apply, v89, v9, Ideal.mulf_def, ← EReal.coe_mul]

theorem v94 (i) : val_main_v94 (F := Ideal) (lift D.x) (lift D.tgt) (lift D.w1) (lift D.w2) (row D.sh) (row D.sc)
    (row D.gt) (row D.g) (row D.b) i = ((D.st 2 (i 1) : ℝ) : EReal) := by
  have e (i : S1x1024.Idx) (k : Fin 8192) : idx_main_v93 (idx_main_v94 i) k = pt k (i 1) := e60 i k
  rw [val_main_v94_apply, val_main_v93_apply, val_main_cst_26_apply]
  simp only [e, v92, Ideal.ofBits_def, Ideal.ofBits_zero_f32, zero_add, coe_sum]
  rfl

/-! ## The results -/

/-- The modulated input, as the reference returns it. -/
theorem out0 : val_main_v99 (F := Ideal) (lift D.x) (row D.sh) (row D.sc) = lift D.u2 := by
  funext i
  rw [val_main_v99_apply, v5]
  rfl

/-- The hidden layer. -/
theorem out1 : val_main_v100 (F := Ideal) (lift D.x) (lift D.w1) (row D.sh) (row D.sc) = lift D.hid := by
  funext i
  rw [val_main_v100_apply, v8]
  rfl

/-- The gradient of the block's output. -/
theorem out2 : val_main_v101 (F := Ideal) (lift D.x) (lift D.tgt) (lift D.w1) (lift D.w2) (row D.sh) (row D.sc)
    (row D.gt) (row D.g) (row D.b) = lift fun r l => (1 + D.gt l) * D.dz r l := by
  funext i
  rw [val_main_v101_apply, val_main_v91_apply, val_main_v90_apply, v13, v89, Ideal.mulf_def, ← EReal.coe_mul]
  rfl

/-- The gradient of the residual input. -/
theorem out3 : val_main_v96 (F := Ideal) (lift D.x) (lift D.tgt) (lift D.w1) (lift D.w2) (row D.sh) (row D.sc)
    (row D.gt) (row D.g) (row D.b) = lift fun r l => alpha * D.dz r l := by
  funext i
  rw [val_main_v96_apply, val_main_v95_apply, val_main_cst_27_apply, v89, Ideal.ofBits_def, lit_alpha, Ideal.mulf_def, ← EReal.coe_mul]
  rfl

/-- The four column sums over four rows of zeros. -/
theorem out4 : val_main_v102 (F := Ideal) (lift D.x) (lift D.tgt) (lift D.w1) (lift D.w2) (row D.sh) (row D.sc)
    (row D.gt) (row D.g) (row D.b) = lift (a := 8) fun j l => D.st j.val l := by
  funext i
  unfold val_main_v102 val_main_v98
  idx_vars i
  pointwise
  simp only [v60, v63, v94, v97]
  have hz : ∀ i, val_main_call1_v0 (F := Ideal) i = 0 := by
    intro i
    show (((0#32).toInt : ℝ) : EReal) = 0
    simp
  fin_vals i0 with h0
  · obtain rfl : i0 = 0 := Fin.ext h0
    rfl
  · obtain rfl : i0 = 1 := Fin.ext h0
    rfl
  · obtain rfl : i0 = 2 := Fin.ext h0
    rfl
  · obtain rfl : i0 = 3 := Fin.ext h0
    rfl
  all_goals
    rw [dif_neg (by omega), hz, lift_apply]
    show (0 : EReal) = ((D.st i0.val i1 : ℝ) : EReal)
    rw [h0]
    rfl

end Cert.FfRef

end
-- ==== Proof.FfFinal.lean ====
/- The forward pass's five result arrays are the reference's, at finite arguments. -/
module

public import proofs.«01_k».proof.Proof.FfValue
public import proofs.«01_k».proof.Proof.FfSums
public import proofs.«01_k».proof.Proof.FfRef
public import proofs.«01_k».proof.Proof.KernelFinal
public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit.Geometry

@[expose] public section

set_option maxRecDepth 16384

noncomputable section

namespace Cert.FfFinal

open Cert.Kernel9Ideal Cert.Kernel9Ideal.Gen Cert.FfModel Cert.FfBlock Cert.FfBlocks Cert.FfValue Cert.FfSums Cert.Grad
open Cert.Model (lift row)
open Cert.KernelFinal (fin_of lift_of row_of)
open Idealize.ShloMosaic Idealize.ShloMosaic.TcCoe Idealize.SL.Sem
open Idealize.ShloMosaic.Pipeline (Dat)
open scoped BigOperators

/-- The side conditions of the finiteness function's operations. -/
instance facts : Cert.Pre_finite_ff.Facts where
  bcast_S_S8192x1024 := by decide
  bcast_S_S1024x4096 := by decide
  bcast_S_S4096x1024 := by decide
  bcast_S_S1x1024 := by decide

section
variable {m : (ℓ : Loc nD τ sig) → Buf (Elt Ideal) ℓ} {c : Dev nD} {D : Data 8192} (H : Feeds m c D)
include H

/-- The modulated input. -/
theorem final6 : (dats m 0 c).arrAt 6 cfg0.N = lift D.u2 := by
  refine (dats m 0 c).arrAt_eq_of_covers 6 _ (by decide +kernel) fun t hf y => ?_
  blk_simp
  rw [after0_6]
  have e : ((View.whole main_v7_0).slice (win0_6.rect t)).emb y = ix2 (at_ t (y 0)) (y 1) := by
    blk_ext [idx_val t]
    rfl
  refine Eq.trans ?_ (congrArg (lift D.u2) e).symm
  by_cases h : t.val % 16 = 0
  · rw [outsAt0_A m c t h]
    dsimp only
    exact point_6_A H t h _
  · rw [outsAt0_B m c t h]
    dsimp only
    exact point_6_B H t h _

/-- The hidden layer. -/
theorem final7 : (dats m 0 c).arrAt 7 cfg0.N = lift D.hid := by
  refine (dats m 0 c).arrAt_eq_of_covers 7 _ (by decide +kernel) fun t hf y => ?_
  blk_simp
  rw [after0_7]
  have e : ((View.whole main_v7_1).slice (win0_7.rect t)).emb y = ix2 (at_ t (y 0)) (y 1) := by
    blk_ext [idx_val t]
    rfl
  refine Eq.trans ?_ (congrArg (lift D.hid) e).symm
  by_cases h : t.val % 16 = 0
  · rw [outsAt0_A m c t h]
    dsimp only
    exact point_7_A H t h _
  · rw [outsAt0_B m c t h]
    dsimp only
    exact point_7_B H t h _

/-- The gradient of the block's output. -/
theorem final8 : (dats m 0 c).arrAt 8 cfg0.N = lift (fun r l => (1 + D.gt l) * D.dz r l) := by
  refine (dats m 0 c).arrAt_eq_of_covers 8 _ (by decide +kernel) fun t hf y => ?_
  blk_simp
  rw [after0_8]
  have e : ((View.whole main_v7_2).slice (win0_8.rect t)).emb y = ix2 (at_ t (y 0)) (y 1) := by
    blk_ext [idx_val t]
    rfl
  refine Eq.trans ?_ (congrArg (lift (fun r l => (1 + D.gt l) * D.dz r l)) e).symm
  by_cases h : t.val % 16 = 0
  · rw [outsAt0_A m c t h]
    dsimp only
    exact point_8_A H t h _
  · rw [outsAt0_B m c t h]
    dsimp only
    exact point_8_B H t h _

/-- The gradient of the residual input. -/
theorem final9 : (dats m 0 c).arrAt 9 cfg0.N = lift (fun r l => alpha * D.dz r l) := by
  refine (dats m 0 c).arrAt_eq_of_covers 9 _ (by decide +kernel) fun t hf y => ?_
  blk_simp
  rw [after0_9]
  have e : ((View.whole main_v7_3).slice (win0_9.rect t)).emb y = ix2 (at_ t (y 0)) (y 1) := by
    blk_ext [idx_val t]
    rfl
  refine Eq.trans ?_ (congrArg (lift (fun r l => alpha * D.dz r l)) e).symm
  by_cases h : t.val % 16 = 0
  · rw [outsAt0_A m c t h]
    dsimp only
    exact point_9_A H t h _
  · rw [outsAt0_B m c t h]
    dsimp only
    exact point_9_B H t h _

/-- The part of the column sums a point adds. -/
theorem sums (n : ℕ) (hn : n < cfg0.N) (y : S8x1024.Idx) : ((outsAt0 m c n hn).2.2.2.2 : S8x1024.Idx → EReal) y
    = ((∑ s ∈ Finset.range (n + 1), (if h : s < 16 then (D.block ⟨s, h⟩).st (y 0).val (y 1) else 0) : ℝ) : EReal) := by
  have hN : cfg0.N = 16 := N_0
  induction n with
  | zero =>
    have h := outsAt0_A m c ⟨0, hn⟩ rfl
    dsimp only at h
    rw [h]
    dsimp only
    refine (point_10_A H ⟨0, hn⟩ rfl y).trans ?_
    rw [Finset.sum_range_one, dif_pos (by omega), zero_add]
    rfl
  | succ n ih =>
    have hk : ¬(n + 1) % 16 = 0 := by omega
    have h := outsAt0_B m c ⟨n + 1, hn⟩ hk
    dsimp only at h
    rw [h]
    dsimp only
    refine (point_10_B H ⟨n + 1, hn⟩ hk y).trans ?_
    rw [Finset.sum_range_succ, dif_pos (by omega), EReal.coe_add]
    exact congrArg (· + _) (ih (by omega))

/-- The column sums. -/
theorem final10 : (dats m 0 c).arrAt 10 cfg0.N = lift (a := 8) fun j l => D.st j.val l := by
  refine (dats m 0 c).arrAt_eq_of_covers 10 _ (by decide +kernel) fun t hf y => ?_
  blk_simp
  rw [after0_10]
  have e : ((View.whole main_v7_4).slice (win0_10.rect t)).emb y = ix2 (y 0) (y 1) := by
    blk_ext [idx_val t]
  refine Eq.trans ?_ (congrArg (lift (a := 8) fun j l => D.st j.val l) e).symm
  refine (sums H t.val t.isLt _).trans (congrArg (fun t : ℝ => (t : EReal)) ?_)
  have ht : t.val + 1 = 16 := by
    have := (flush0_10 t).mp hf
    have := t.isLt
    have hN : cfg0.N = 16 := N_0
    omega
  rw [ht, Finset.sum_range]
  simp only [Fin.is_lt, dite_true]
  exact sum_st D _ _

end

section
variable (m : (ℓ : Loc nD τ sig) → Buf (Elt Ideal) ℓ) (c : Dev nD)

/-- The real numbers the argument arrays hold. -/
def data : Data 8192 where
  x r l := ((m ((c : Thread nD τ).loc main_arg0) : S8192x1024.Idx → EReal) (ix2 r l)).toReal
  tgt r l := ((m ((c : Thread nD τ).loc main_arg1) : S8192x1024.Idx → EReal) (ix2 r l)).toReal
  w1 r l := ((m ((c : Thread nD τ).loc main_arg2) : S1024x4096.Idx → EReal) (ix2 r l)).toReal
  w2 r l := ((m ((c : Thread nD τ).loc main_arg3) : S4096x1024.Idx → EReal) (ix2 r l)).toReal
  sh l := ((m ((c : Thread nD τ).loc main_arg4) : S1x1024.Idx → EReal) (ix2 0 l)).toReal
  sc l := ((m ((c : Thread nD τ).loc main_arg5) : S1x1024.Idx → EReal) (ix2 0 l)).toReal
  gt l := ((m ((c : Thread nD τ).loc main_arg6) : S1x1024.Idx → EReal) (ix2 0 l)).toReal
  g l := ((m ((c : Thread nD τ).loc main_arg7) : S1x1024.Idx → EReal) (ix2 0 l)).toReal
  b l := ((m ((c : Thread nD τ).loc main_arg8) : S1x1024.Idx → EReal) (ix2 0 l)).toReal

variable {m}

/-- Arguments the precondition calls finite hold real numbers. -/
theorem feeds (h : Cert.Pre_Kernel9Ideal_finite_ff m) : Feeds m c (data m c) := by
  obtain ⟨h0, h1, h2, h3, h4, h5, h6, h7, h8⟩ := h c
  exact ⟨lift_of _ fun i => fin_of _ _ (congrFun h0 i),
    lift_of _ fun i => fin_of _ _ (congrFun h1 i),
    lift_of _ fun i => fin_of _ _ (congrFun h2 i),
    lift_of _ fun i => fin_of _ _ (congrFun h3 i),
    row_of _ fun i => fin_of _ _ (congrFun h4 i),
    row_of _ fun i => fin_of _ _ (congrFun h5 i),
    row_of _ fun i => fin_of _ _ (congrFun h6 i),
    row_of _ fun i => fin_of _ _ (congrFun h7 i),
    row_of _ fun i => fin_of _ _ (congrFun h8 i)⟩

end

/-- The frame of the reference. -/
theorem frame_ref : Cert.quiescent_Reference9Ideal := fun m ρ _ =>
  θ_run_mono (Cert.Reference9Ideal.Value.run m ρ) fun r h => ⟨fun c => (h c).2.2.2.2.2, sem_eq_zero_of_no_sems (by decide) r.2⟩

/-- The frame of the reference at finite arguments. -/
theorem frame_ref_finite : Cert.quiescent_Reference9Ideal_pre_finite_ff := fun m ρ _ =>
  θ_run_mono (Cert.Reference9Ideal.Value.run m ρ) fun r h => ⟨fun c => (h c).2.2.2.2.2, sem_eq_zero_of_no_sems (by decide) r.2⟩

/-- The five results are the reference's, at finite arguments. -/
theorem value : Cert.algebraic_Kernel9Ideal_Reference9Ideal_pre_finite_ff := by
  intro m g m' g' hpre hagree
  refine ⟨fun c => lift (data m c).u2, fun c => lift (data m c).hid, fun c => lift fun r l => (1 + (data m c).gt l) * (data m c).dz r l,
    fun c => lift fun r l => alpha * (data m c).dz r l, fun c => lift (a := 8) fun j l => (data m c).st j.val l,
    θ_run_mono (θ_run_and (Cert.Kernel9Ideal.Gen.unchanged m g) (Cert.Kernel9Ideal.Gen.run_main m g)) fun r h c =>
      ⟨((h.2 c).1 6).trans (final6 (feeds c hpre)), ((h.2 c).1 7).trans (final7 (feeds c hpre)), ((h.2 c).1 8).trans (final8 (feeds c hpre)),
        ((h.2 c).1 9).trans (final9 (feeds c hpre)), ((h.2 c).1 10).trans (final10 (feeds c hpre)), h.1 c⟩,
    θ_run_mono (Cert.Reference9Ideal.Value.run m' g') fun r h c => ?_⟩
  obtain ⟨a0, a1, a2, a3, a4, a5, a6, a7, a8⟩ := hagree c
  have H := feeds c hpre
  have e0 : m' ((c.tc : Thread Cert.Reference9Ideal.nD Cert.Reference9Ideal.τ).loc Cert.Reference9Ideal.main_arg0) = lift (data m c).x := a0.trans H.h0
  have e1 : m' ((c.tc : Thread Cert.Reference9Ideal.nD Cert.Reference9Ideal.τ).loc Cert.Reference9Ideal.main_arg1) = lift (data m c).tgt := a1.trans H.h1
  have e2 : m' ((c.tc : Thread Cert.Reference9Ideal.nD Cert.Reference9Ideal.τ).loc Cert.Reference9Ideal.main_arg2) = lift (data m c).w1 := a2.trans H.h2
  have e3 : m' ((c.tc : Thread Cert.Reference9Ideal.nD Cert.Reference9Ideal.τ).loc Cert.Reference9Ideal.main_arg3) = lift (data m c).w2 := a3.trans H.h3
  have e4 : m' ((c.tc : Thread Cert.Reference9Ideal.nD Cert.Reference9Ideal.τ).loc Cert.Reference9Ideal.main_arg4) = row (data m c).sh := a4.trans H.h4
  have e5 : m' ((c.tc : Thread Cert.Reference9Ideal.nD Cert.Reference9Ideal.τ).loc Cert.Reference9Ideal.main_arg5) = row (data m c).sc := a5.trans H.h5
  have e6 : m' ((c.tc : Thread Cert.Reference9Ideal.nD Cert.Reference9Ideal.τ).loc Cert.Reference9Ideal.main_arg6) = row (data m c).gt := a6.trans H.h6
  have e7 : m' ((c.tc : Thread Cert.Reference9Ideal.nD Cert.Reference9Ideal.τ).loc Cert.Reference9Ideal.main_arg7) = row (data m c).g := a7.trans H.h7
  have e8 : m' ((c.tc : Thread Cert.Reference9Ideal.nD Cert.Reference9Ideal.τ).loc Cert.Reference9Ideal.main_arg8) = row (data m c).b := a8.trans H.h8
  have t0 : Cert.Reference9Ideal.Read.val_main_v99 (F := Ideal) (m' ((c.tc : Thread Cert.Reference9Ideal.nD Cert.Reference9Ideal.τ).loc Cert.Reference9Ideal.main_arg0))
      (m' ((c.tc : Thread Cert.Reference9Ideal.nD Cert.Reference9Ideal.τ).loc Cert.Reference9Ideal.main_arg4))
      (m' ((c.tc : Thread Cert.Reference9Ideal.nD Cert.Reference9Ideal.τ).loc Cert.Reference9Ideal.main_arg5))
      = lift (data m c).u2 := by
    rw [e0, e4, e5]
    exact Cert.FfRef.out0 _
  have t1 : Cert.Reference9Ideal.Read.val_main_v100 (F := Ideal) (m' ((c.tc : Thread Cert.Reference9Ideal.nD Cert.Reference9Ideal.τ).loc Cert.Reference9Ideal.main_arg0))
      (m' ((c.tc : Thread Cert.Reference9Ideal.nD Cert.Reference9Ideal.τ).loc Cert.Reference9Ideal.main_arg2))
      (m' ((c.tc : Thread Cert.Reference9Ideal.nD Cert.Reference9Ideal.τ).loc Cert.Reference9Ideal.main_arg4))
      (m' ((c.tc : Thread Cert.Reference9Ideal.nD Cert.Reference9Ideal.τ).loc Cert.Reference9Ideal.main_arg5))
      = lift (data m c).hid := by
    rw [e0, e2, e4, e5]
    exact Cert.FfRef.out1 _
  have t2 : Cert.Reference9Ideal.Read.val_main_v101 (F := Ideal) (m' ((c.tc : Thread Cert.Reference9Ideal.nD Cert.Reference9Ideal.τ).loc Cert.Reference9Ideal.main_arg0))
      (m' ((c.tc : Thread Cert.Reference9Ideal.nD Cert.Reference9Ideal.τ).loc Cert.Reference9Ideal.main_arg1))
      (m' ((c.tc : Thread Cert.Reference9Ideal.nD Cert.Reference9Ideal.τ).loc Cert.Reference9Ideal.main_arg2))
      (m' ((c.tc : Thread Cert.Reference9Ideal.nD Cert.Reference9Ideal.τ).loc Cert.Reference9Ideal.main_arg3))
      (m' ((c.tc : Thread Cert.Reference9Ideal.nD Cert.Reference9Ideal.τ).loc Cert.Reference9Ideal.main_arg4))
      (m' ((c.tc : Thread Cert.Reference9Ideal.nD Cert.Reference9Ideal.τ).loc Cert.Reference9Ideal.main_arg5))
      (m' ((c.tc : Thread Cert.Reference9Ideal.nD Cert.Reference9Ideal.τ).loc Cert.Reference9Ideal.main_arg6))
      (m' ((c.tc : Thread Cert.Reference9Ideal.nD Cert.Reference9Ideal.τ).loc Cert.Reference9Ideal.main_arg7))
      (m' ((c.tc : Thread Cert.Reference9Ideal.nD Cert.Reference9Ideal.τ).loc Cert.Reference9Ideal.main_arg8))
      = lift fun r l => (1 + (data m c).gt l) * (data m c).dz r l := by
    rw [e0, e1, e2, e3, e4, e5, e6, e7, e8]
    exact Cert.FfRef.out2 _
  have t3 : Cert.Reference9Ideal.Read.val_main_v96 (F := Ideal) (m' ((c.tc : Thread Cert.Reference9Ideal.nD Cert.Reference9Ideal.τ).loc Cert.Reference9Ideal.main_arg0))
      (m' ((c.tc : Thread Cert.Reference9Ideal.nD Cert.Reference9Ideal.τ).loc Cert.Reference9Ideal.main_arg1))
      (m' ((c.tc : Thread Cert.Reference9Ideal.nD Cert.Reference9Ideal.τ).loc Cert.Reference9Ideal.main_arg2))
      (m' ((c.tc : Thread Cert.Reference9Ideal.nD Cert.Reference9Ideal.τ).loc Cert.Reference9Ideal.main_arg3))
      (m' ((c.tc : Thread Cert.Reference9Ideal.nD Cert.Reference9Ideal.τ).loc Cert.Reference9Ideal.main_arg4))
      (m' ((c.tc : Thread Cert.Reference9Ideal.nD Cert.Reference9Ideal.τ).loc Cert.Reference9Ideal.main_arg5))
      (m' ((c.tc : Thread Cert.Reference9Ideal.nD Cert.Reference9Ideal.τ).loc Cert.Reference9Ideal.main_arg6))
      (m' ((c.tc : Thread Cert.Reference9Ideal.nD Cert.Reference9Ideal.τ).loc Cert.Reference9Ideal.main_arg7))
      (m' ((c.tc : Thread Cert.Reference9Ideal.nD Cert.Reference9Ideal.τ).loc Cert.Reference9Ideal.main_arg8))
      = lift fun r l => alpha * (data m c).dz r l := by
    rw [e0, e1, e2, e3, e4, e5, e6, e7, e8]
    exact Cert.FfRef.out3 _
  have t4 : Cert.Reference9Ideal.Read.val_main_v102 (F := Ideal) (m' ((c.tc : Thread Cert.Reference9Ideal.nD Cert.Reference9Ideal.τ).loc Cert.Reference9Ideal.main_arg0))
      (m' ((c.tc : Thread Cert.Reference9Ideal.nD Cert.Reference9Ideal.τ).loc Cert.Reference9Ideal.main_arg1))
      (m' ((c.tc : Thread Cert.Reference9Ideal.nD Cert.Reference9Ideal.τ).loc Cert.Reference9Ideal.main_arg2))
      (m' ((c.tc : Thread Cert.Reference9Ideal.nD Cert.Reference9Ideal.τ).loc Cert.Reference9Ideal.main_arg3))
      (m' ((c.tc : Thread Cert.Reference9Ideal.nD Cert.Reference9Ideal.τ).loc Cert.Reference9Ideal.main_arg4))
      (m' ((c.tc : Thread Cert.Reference9Ideal.nD Cert.Reference9Ideal.τ).loc Cert.Reference9Ideal.main_arg5))
      (m' ((c.tc : Thread Cert.Reference9Ideal.nD Cert.Reference9Ideal.τ).loc Cert.Reference9Ideal.main_arg6))
      (m' ((c.tc : Thread Cert.Reference9Ideal.nD Cert.Reference9Ideal.τ).loc Cert.Reference9Ideal.main_arg7))
      (m' ((c.tc : Thread Cert.Reference9Ideal.nD Cert.Reference9Ideal.τ).loc Cert.Reference9Ideal.main_arg8))
      = lift (a := 8) fun j l => (data m c).st j.val l := by
    rw [e0, e1, e2, e3, e4, e5, e6, e7, e8]
    exact Cert.FfRef.out4 _
  obtain ⟨h0, h1, h2, h3, h4, hu⟩ := h c
  exact ⟨h0.trans ((Cert.Reference9Ideal.Read.val_main_v99_eq _).trans t0),
    h1.trans ((Cert.Reference9Ideal.Read.val_main_v100_eq _).trans t1),
    h2.trans ((Cert.Reference9Ideal.Read.val_main_v101_eq _).trans t2),
    h3.trans ((Cert.Reference9Ideal.Read.val_main_v96_eq _).trans t3),
    h4.trans ((Cert.Reference9Ideal.Read.val_main_v102_eq _).trans t4), hu⟩

end Cert.FfFinal

end
-- ==== Proof.MixFwd.lean ====
/- The mixing layer, forward: what the kernel's four result arrays hold, and that the reference's are the same. -/
module

public import proofs.«01_k».proof.Proof.Gen.Kernel12Ideal.Value
public import proofs.«01_k».proof.Proof.Gen.Reference12Ideal.Run
public import proofs.«01_k».proof.Proof.Gen.Reference12Ideal.Read
public import proofs.«01_k».proof.Defs
public import Idealize.ShloMosaic.Lib.Claim
public import Idealize.ShloMosaic.Lib.Pointwise.Index
public import Idealize.ShloMosaic.Lib.Pointwise.Sums
public import Idealize.ShloMosaic.Lib.Pipeline.ValueKit.Acc
public import Idealize.ShloMosaic.Lib.Pipeline.ValueKit.Tiles
public import Idealize.ShloMosaic.Lib.Pipeline.ValueKit.Point
public import Idealize.ShloMosaic.Lib.Pipeline.ValueKit.Geometry
public import Idealize.ShloMosaic.Lib.Pipeline.ReadBack

@[expose] public section

set_option maxRecDepth 16384

noncomputable section

namespace Cert.MixFwd

open Cert.Kernel12Ideal Cert.Kernel12Ideal.Gen
open Idealize.ShloMosaic Idealize.ShloMosaic.TcCoe Idealize.SL.Sem
open Idealize.ShloMosaic.Pipeline (Dat)
open scoped BigOperators

/-- A row divided by the root of its mean square, times the gain. -/
def rms (v : S8192x512.Idx → EReal) (g : S1x512.Idx → EReal) (r : Fin 8192) (k : Fin 512) : EReal :=
  v (ix2 r k) * Ideal.rsqrt (Ideal.div (∑ x : Fin 512, v (ix2 r x) * v (ix2 r x)) (Ideal.ofBits .f32 1140850688#32) + Ideal.ofBits .f32 925353388#32)
    * g (ix2 0 k)

/-- The two scaled arrays side by side. -/
def cat (o cv : S8192x512.Idx → EReal) (g1 g2 : S1x512.Idx → EReal) (i : S8192x1024.Idx) : EReal :=
  if h : (i 1).val < 512 then rms o g1 (i 0) ⟨(i 1).val, h⟩
  else rms cv g2 (i 0) ⟨(i 1).val - 512, by have := (i 1).isLt; change (i 1).val < 1024 at this; omega⟩

theorem cat_low (o cv : S8192x512.Idx → EReal) (g1 g2 : S1x512.Idx → EReal) (i : S8192x1024.Idx) (k : Fin 512) (h : (i 1).val = k.val) :
    cat o cv g1 g2 i = rms o g1 (i 0) k := by
  unfold cat
  rw [dif_pos (by omega)]
  exact congrArg (rms o g1 (i 0)) (Fin.ext h)

theorem cat_high (o cv : S8192x512.Idx → EReal) (g1 g2 : S1x512.Idx → EReal) (i : S8192x1024.Idx) (k : Fin 512) (h : (i 1).val = 512 + k.val) :
    cat o cv g1 g2 i = rms cv g2 (i 0) k := by
  unfold cat
  rw [dif_neg (by omega)]
  exact congrArg (rms cv g2 (i 0)) (Fin.ext (by show (i 1).val - 512 = k.val; omega))

/-- The rows of the weight that meet the two arrays. -/
def lo (k : Fin 512) : Fin 1024 := ⟨k.val, by omega⟩
def hi (k : Fin 512) : Fin 1024 := ⟨512 + k.val, by omega⟩

/-- The output projection. -/
def mixed (o cv : S8192x512.Idx → EReal) (w : S1024x1024.Idx → EReal) (g1 g2 : S1x512.Idx → EReal) (r : Fin 8192) (l : Fin 1024) : EReal :=
  ∑ k : Fin 512, rms o g1 r k * w (ix2 (lo k) l) + ∑ k : Fin 512, rms cv g2 r k * w (ix2 (hi k) l)

/-- The gated sum with the layer's input. -/
def z1 (o cv : S8192x512.Idx → EReal) (x : S8192x1024.Idx → EReal) (w : S1024x1024.Idx → EReal) (g1 g2 : S1x512.Idx → EReal) (gt : S1x1024.Idx → EReal)
    (r : Fin 8192) (l : Fin 1024) : EReal :=
  Ideal.ofBits .f32 1066940400#32 * x (ix2 r l) + (1 + gt (ix2 0 l)) * mixed o cv w g1 g2 r l

/-- The mean of a row, its entries around the mean, and the normalised row with gain and shift. -/
def mean (z : Fin 1024 → EReal) : EReal := Ideal.div (∑ l : Fin 1024, z l) (Ideal.ofBits .f32 1149239296#32)

def cen (z : Fin 1024 → EReal) (l : Fin 1024) : EReal := z l - mean z

def ln (z : Fin 1024 → EReal) (g b : S1x1024.Idx → EReal) (l : Fin 1024) : EReal :=
  cen z l * Ideal.rsqrt (Ideal.div (∑ l : Fin 1024, cen z l * cen z l) (Ideal.ofBits .f32 1149239296#32) + Ideal.ofBits .f32 925353388#32)
    * g (ix2 0 l) + b (ix2 0 l)

/-- Row `r` of block `t` in the whole array. -/
def at_ (t : Fin 16) (r : Fin 512) : Fin 8192 := ⟨t.val * 512 + r.val, by omega⟩

/-! ## A block's arithmetic -/

theorem pay2 (v : Vec Ideal S512x512 .f32) (g : Vec Ideal S1x512 .f32) (r k : Fin 512) : k0_pay2 v g (ix2 r k)
    = v (ix2 r k) * Ideal.rsqrt (Ideal.div (∑ x : Fin 512, v (ix2 r x) * v (ix2 r x)) (Ideal.ofBits .f32 1140850688#32) + Ideal.ofBits .f32 925353388#32)
      * g (ix2 0 k) := by
  pointwise [k0_pay2]

theorem pay3 (v : Vec Ideal S512x512 .f32) (g : Vec Ideal S1x512 .f32) (r k : Fin 512) : k0_pay3 v g (ix2 r k)
    = v (ix2 r k) * Ideal.rsqrt (Ideal.div (∑ x : Fin 512, v (ix2 r x) * v (ix2 r x)) (Ideal.ofBits .f32 1140850688#32) + Ideal.ofBits .f32 925353388#32)
      * g (ix2 0 k) := by
  pointwise [k0_pay3]

section
variable (a b : Vec Ideal S512x512 .bf16) (w w' : Vec Ideal S512x1024 .bf16)

theorem pay5 (r : Fin 512) (l : Fin 1024) : k0_pay5 a b (k0_pay4 w) (constant (F := Ideal) S512x1024 .f32 0x00000000#32) w' (ix2 r l)
    = ∑ x : Fin 512, a (ix2 r x) * w (ix2 x l) + ∑ x : Fin 512, b (ix2 r x) * w' (ix2 x l) := by
  pointwise [k0_pay5, k0_pay4]

variable (x : Vec Ideal S512x1024 .f32) (gt : Vec Ideal S1x1024 .f32)

theorem pay6 (r : Fin 512) (l : Fin 1024) : k0_pay6 a b (k0_pay4 w) (constant (F := Ideal) S512x1024 .f32 0x00000000#32) w' x gt (ix2 r l)
    = Ideal.ofBits .f32 1066940400#32 * x (ix2 r l)
      + (1 + gt (ix2 0 l)) * k0_pay5 a b (k0_pay4 w) (constant (F := Ideal) S512x1024 .f32 0x00000000#32) w' (ix2 r l) := by
  pointwise [k0_pay6]

theorem pay7 (g : Vec Ideal S1x1024 .f32) (s : Vec Ideal S1x1024 .f32) (r : Fin 512) (l : Fin 1024) :
    k0_pay1 (k0_pay7 a b (k0_pay4 w) (constant (F := Ideal) S512x1024 .f32 0x00000000#32) w' x gt g) s (ix2 r l)
    = ln (fun l => k0_pay6 a b (k0_pay4 w) (constant (F := Ideal) S512x1024 .f32 0x00000000#32) w' x gt (ix2 r l)) g s l := by
  unfold ln cen mean
  pointwise [k0_pay1, k0_pay7]

end

/-! ## The blocks -/

theorem idx_val : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![0, 0]
    ∧ win0_7.index t = ![t.val, 0]
    ∧ win0_8.index t = ![t.val, 0]
    ∧ win0_9.index t = ![t.val, 0]
    ∧ win0_10.index t = ![t.val, 0] :=
  (by decide +kernel : ∀ t : Fin grid0.N, _)

section
variable (m : (ℓ : Loc nD τ sig) → Buf (Elt Ideal) ℓ) (c : Dev nD)

/-- The arguments. -/
abbrev x0 : S8192x512.Idx → EReal := m ((c : Thread nD τ).loc main_arg0)
abbrev x1 : S8192x512.Idx → EReal := m ((c : Thread nD τ).loc main_arg1)
abbrev x2 : S8192x1024.Idx → EReal := m ((c : Thread nD τ).loc main_arg2)
abbrev x3 : S1024x1024.Idx → EReal := m ((c : Thread nD τ).loc main_arg3)
abbrev x4 : S1x512.Idx → EReal := m ((c : Thread nD τ).loc main_arg4)
abbrev x5 : S1x512.Idx → EReal := m ((c : Thread nD τ).loc main_arg5)
abbrev x6 : S1x1024.Idx → EReal := m ((c : Thread nD τ).loc main_arg6)
abbrev x7 : S1x1024.Idx → EReal := m ((c : Thread nD τ).loc main_arg7)
abbrev x8 : S1x1024.Idx → EReal := m ((c : Thread nD τ).loc main_arg8)

/-- A row of zeros. -/
abbrev zr : S1x1024.Idx → EReal := broadcastInDim S1x1024 ![] bcast_S_S1x1024 (constant (F := Ideal) S_ .f32 0x00000000#32)

theorem V2 (i : S8x512.Idx) : (V m c main_v2 : S8x512.Idx → EReal) i
    = concatenate S8x512 0 [⟨S1x512, x4 m c⟩, ⟨S1x512, x5 m c⟩,
        ⟨S6x512, broadcastInDim S6x512 ![] bcast_S_S6x512 (constant (F := Ideal) S_ .f32 0x00000000#32)⟩]
        concatenates_S1x512_S1x512_S6x512_S8x512_d0 i := by
  rfl

theorem V3 (i : S8x1024.Idx) : (V m c main_v3 : S8x1024.Idx → EReal) i
    = concatenate S8x1024 0 [⟨S1x1024, zr⟩, ⟨S1x1024, zr⟩, ⟨S1x1024, x6 m c⟩, ⟨S1x1024, zr⟩, ⟨S1x1024, zr⟩, ⟨S1x1024, zr⟩, ⟨S1x1024, zr⟩, ⟨S1x1024, zr⟩]
        concatenates_S1x1024_S1x1024_S1x1024_S1x1024_S1x1024_S1x1024_S1x1024_S1x1024_S8x1024_d0 i := by
  rfl

theorem V4 (i : S8x1024.Idx) : (V m c main_v4 : S8x1024.Idx → EReal) i
    = concatenate S8x1024 0 [⟨S1x1024, x7 m c⟩, ⟨S1x1024, x8 m c⟩, ⟨S1x1024, zr⟩, ⟨S1x1024, zr⟩, ⟨S1x1024, zr⟩, ⟨S1x1024, zr⟩, ⟨S1x1024, zr⟩, ⟨S1x1024, zr⟩]
        concatenates_S1x1024_S1x1024_S1x1024_S1x1024_S1x1024_S1x1024_S1x1024_S1x1024_S8x1024_d0 i := by
  rfl

theorem V2_0 (k : Fin 512) : (V m c main_v2 : S8x512.Idx → EReal) (ix2 0 k) = x4 m c (ix2 0 k) := by
  rw [V2]
  pointwise

theorem V2_1 (k : Fin 512) : (V m c main_v2 : S8x512.Idx → EReal) (ix2 1 k) = x5 m c (ix2 0 k) := by
  rw [V2]
  pointwise

theorem V3_2 (l : Fin 1024) : (V m c main_v3 : S8x1024.Idx → EReal) (ix2 2 l) = x6 m c (ix2 0 l) := by
  rw [V3]
  pointwise

theorem V4_0 (l : Fin 1024) : (V m c main_v4 : S8x1024.Idx → EReal) (ix2 0 l) = x7 m c (ix2 0 l) := by
  rw [V4]
  pointwise

theorem V4_1 (l : Fin 1024) : (V m c main_v4 : S8x1024.Idx → EReal) (ix2 1 l) = x8 m c (ix2 0 l) := by
  rw [V4]
  pointwise

theorem V5 (k : Fin 1024) (l : Fin 1024) : (V m c main_v5 : S1024x1024.Idx → EReal) (ix2 k l) = x3 m c (ix2 k l) := by
  rfl

variable (t : Fin cfg0.N)

theorem blk0 (r k : Fin 512) : (iblk m c 0 t : S512x512.Idx → EReal) (ix2 r k) = x0 m c (ix2 (at_ t r) k) := by
  blk_point [iblk, idx_val t]
  rfl

theorem blk1 (r k : Fin 512) : (iblk m c 1 t : S512x512.Idx → EReal) (ix2 r k) = x1 m c (ix2 (at_ t r) k) := by
  blk_point [iblk, idx_val t]
  rfl

theorem blk2 (r : Fin 512) (l : Fin 1024) : (iblk m c 2 t : S512x1024.Idx → EReal) (ix2 r l) = x2 m c (ix2 (at_ t r) l) := by
  blk_point [iblk, idx_val t]
  rfl

theorem blk3_lo (k : Fin 512) (l : Fin 1024) : View.ld (iblk m c 3 t) r0_5 (ix2 k l) = x3 m c (ix2 (lo k) l) := by
  refine Eq.trans ?_ (V5 m c (lo k) l)
  pointwise
  blk_point [iblk, idx_val t]
  rfl

theorem blk3_hi (k : Fin 512) (l : Fin 1024) : View.ld (iblk m c 3 t) r0_6 (ix2 k l) = x3 m c (ix2 (hi k) l) := by
  refine Eq.trans ?_ (V5 m c (hi k) l)
  pointwise
  blk_point [iblk, idx_val t]
  rfl

theorem blk4_0 (k : Fin 512) : View.ld (iblk m c 4 t) r0_1 (ix2 0 k) = x4 m c (ix2 0 k) := by
  refine Eq.trans ?_ (V2_0 m c k)
  pointwise
  blk_point [iblk, idx_val t]

theorem blk4_1 (k : Fin 512) : View.ld (iblk m c 4 t) r0_2 (ix2 0 k) = x5 m c (ix2 0 k) := by
  refine Eq.trans ?_ (V2_1 m c k)
  pointwise
  blk_point [iblk, idx_val t]

theorem blk5_2 (l : Fin 1024) : View.ld (iblk m c 5 t) r0_8 (ix2 0 l) = x6 m c (ix2 0 l) := by
  refine Eq.trans ?_ (V3_2 m c l)
  pointwise
  blk_point [iblk, idx_val t]

theorem blk6_0 (l : Fin 1024) : View.ld (iblk m c 6 t) r0_9 (ix2 0 l) = x7 m c (ix2 0 l) := by
  refine Eq.trans ?_ (V4_0 m c l)
  pointwise
  blk_point [iblk, idx_val t]

theorem blk6_1 (l : Fin 1024) : View.ld (iblk m c 6 t) r0_10 (ix2 0 l) = x8 m c (ix2 0 l) := by
  refine Eq.trans ?_ (V4_1 m c l)
  pointwise
  blk_point [iblk, idx_val t]

/-- The two scaled blocks. -/
abbrev bo : Vec Ideal S512x512 .bf16 := k0_pay2 (iblk m c 0 t) (View.ld (iblk m c 4 t) r0_1)
abbrev bc : Vec Ideal S512x512 .bf16 := k0_pay3 (iblk m c 1 t) (View.ld (iblk m c 4 t) r0_2)

theorem bo_at (r k : Fin 512) : bo m c t (ix2 r k) = rms (x0 m c) (x4 m c) (at_ t r) k := by
  refine (pay2 _ _ r k).trans ?_
  simp only [blk0, blk4_0]
  rfl

theorem bc_at (r k : Fin 512) : bc m c t (ix2 r k) = rms (x1 m c) (x5 m c) (at_ t r) k := by
  refine (pay3 _ _ r k).trans ?_
  simp only [blk1, blk4_1]
  rfl

/-- The block of the projection. -/
theorem mixed_at (r : Fin 512) (l : Fin 1024) :
    k0_pay5 (bo m c t) (bc m c t) (k0_pay4 (View.ld (iblk m c 3 t) r0_5)) (constant (F := Ideal) S512x1024 .f32 0x00000000#32)
      (View.ld (iblk m c 3 t) r0_6) (ix2 r l)
    = mixed (x0 m c) (x1 m c) (x3 m c) (x4 m c) (x5 m c) (at_ t r) l :=
  (pay5 _ _ _ _ r l).trans (congrArg₂ (· + ·)
    (Finset.sum_congr rfl fun k _ => congrArg₂ (· * ·) (bo_at m c t r k) (blk3_lo m c t k l))
    (Finset.sum_congr rfl fun k _ => congrArg₂ (· * ·) (bc_at m c t r k) (blk3_hi m c t k l)))

/-- The block of the gated sum. -/
theorem z1_at (r : Fin 512) (l : Fin 1024) :
    k0_pay6 (bo m c t) (bc m c t) (k0_pay4 (View.ld (iblk m c 3 t) r0_5)) (constant (F := Ideal) S512x1024 .f32 0x00000000#32)
      (View.ld (iblk m c 3 t) r0_6) (iblk m c 2 t) (View.ld (iblk m c 5 t) r0_8) (ix2 r l)
    = z1 (x0 m c) (x1 m c) (x2 m c) (x3 m c) (x4 m c) (x5 m c) (x6 m c) (at_ t r) l := by
  refine (pay6 _ _ _ _ _ _ r l).trans ?_
  rw [mixed_at, blk2, blk5_2]
  rfl

/-- The block of the normalised sum. -/
theorem x1_at (r : Fin 512) (l : Fin 1024) :
    k0_pay1 (k0_pay7 (bo m c t) (bc m c t) (k0_pay4 (View.ld (iblk m c 3 t) r0_5)) (constant (F := Ideal) S512x1024 .f32 0x00000000#32)
      (View.ld (iblk m c 3 t) r0_6) (iblk m c 2 t) (View.ld (iblk m c 5 t) r0_8) (View.ld (iblk m c 6 t) r0_9)) (View.ld (iblk m c 6 t) r0_10) (ix2 r l)
    = ln (z1 (x0 m c) (x1 m c) (x2 m c) (x3 m c) (x4 m c) (x5 m c) (x6 m c) (at_ t r)) (x7 m c) (x8 m c) l := by
  refine (pay7 _ _ _ _ _ _ _ _ r l).trans ?_
  rw [show (fun l => k0_pay6 (bo m c t) (bc m c t) (k0_pay4 (View.ld (iblk m c 3 t) r0_5)) (constant (F := Ideal) S512x1024 .f32 0x00000000#32)
      (View.ld (iblk m c 3 t) r0_6) (iblk m c 2 t) (View.ld (iblk m c 5 t) r0_8) (ix2 r l)) = z1 (x0 m c) (x1 m c) (x2 m c) (x3 m c) (x4 m c) (x5 m c) (x6 m c) (at_ t r) from funext (z1_at m c t r)]
  unfold ln
  rw [blk6_0, blk6_1]

/-! ## The result arrays -/

/-- The two scaled arrays. -/
theorem final7 : (dats m 0 c).arrAt 7 cfg0.N = fun i => cat (x0 m c) (x1 m c) (x4 m c) (x5 m c) i := by
  refine (dats m 0 c).arrAt_eq_of_covers 7 _ (by decide +kernel) fun t hf y => ?_
  blk_simp
  rw [after0_7]
  have e : ((View.whole main_v6_0).slice (win0_7.rect t)).emb y = ix2 (at_ t (y 0)) (y 1) := by
    blk_ext [idx_val t]
    rfl
  refine Eq.trans ?_ (congrArg (fun i : S8192x1024.Idx => cat (x0 m c) (x1 m c) (x4 m c) (x5 m c) i) e).symm
  frame_out
  canon_tiles x h
  · obtain ⟨r, k, rfl⟩ : ∃ (r k : Fin 512), x = ix2 r k := ⟨x 0, x 1, by idx_vars x⟩
    refine (bc_at m c t r k).trans ((cat_high _ _ _ _ _ k h1).trans ?_).symm
    exact congrArg (fun r => rms (x1 m c) (x5 m c) (at_ t r) k) (Fin.ext h0)
  · obtain ⟨r, k, rfl⟩ : ∃ (r k : Fin 512), x = ix2 r k := ⟨x 0, x 1, by idx_vars x⟩
    refine (bo_at m c t r k).trans ((cat_low _ _ _ _ _ k h1).trans ?_).symm
    exact congrArg (fun r => rms (x0 m c) (x4 m c) (at_ t r) k) (Fin.ext h0)

/-- The output projection. -/
theorem final8 : (dats m 0 c).arrAt 8 cfg0.N = fun i => mixed (x0 m c) (x1 m c) (x3 m c) (x4 m c) (x5 m c) (i 0) (i 1) := by
  refine (dats m 0 c).arrAt_eq_of_covers 8 _ (by decide +kernel) fun t hf y => ?_
  blk_simp
  rw [after0_8]
  have e : ((View.whole main_v6_1).slice (win0_8.rect t)).emb y = ix2 (at_ t (y 0)) (y 1) := by
    blk_ext [idx_val t]
    rfl
  refine Eq.trans ?_ (congrArg (fun i : S8192x1024.Idx => mixed (x0 m c) (x1 m c) (x3 m c) (x4 m c) (x5 m c) (i 0) (i 1)) e).symm
  unfold_out out0_8
  frame_out
  obtain ⟨i, j, rfl⟩ : ∃ (i : Fin 512) (j : Fin 1024), y = ix2 i j := ⟨y 0, y 1, by idx_vars y⟩
  exact mixed_at m c t i j

/-- The gated sum. -/
theorem final9 : (dats m 0 c).arrAt 9 cfg0.N = fun i => z1 (x0 m c) (x1 m c) (x2 m c) (x3 m c) (x4 m c) (x5 m c) (x6 m c) (i 0) (i 1) := by
  refine (dats m 0 c).arrAt_eq_of_covers 9 _ (by decide +kernel) fun t hf y => ?_
  blk_simp
  rw [after0_9]
  have e : ((View.whole main_v6_2).slice (win0_9.rect t)).emb y = ix2 (at_ t (y 0)) (y 1) := by
    blk_ext [idx_val t]
    rfl
  refine Eq.trans ?_ (congrArg (fun i : S8192x1024.Idx => z1 (x0 m c) (x1 m c) (x2 m c) (x3 m c) (x4 m c) (x5 m c) (x6 m c) (i 0) (i 1)) e).symm
  unfold_out out0_9
  frame_out
  obtain ⟨i, j, rfl⟩ : ∃ (i : Fin 512) (j : Fin 1024), y = ix2 i j := ⟨y 0, y 1, by idx_vars y⟩
  exact z1_at m c t i j

/-- The normalised sum. -/
theorem final10 : (dats m 0 c).arrAt 10 cfg0.N = fun i => ln (z1 (x0 m c) (x1 m c) (x2 m c) (x3 m c) (x4 m c) (x5 m c) (x6 m c) (i 0)) (x7 m c) (x8 m c) (i 1) := by
  refine (dats m 0 c).arrAt_eq_of_covers 10 _ (by decide +kernel) fun t hf y => ?_
  blk_simp
  rw [after0_10]
  have e : ((View.whole main_v6_3).slice (win0_10.rect t)).emb y = ix2 (at_ t (y 0)) (y 1) := by
    blk_ext [idx_val t]
    rfl
  refine Eq.trans ?_ (congrArg (fun i : S8192x1024.Idx => ln (z1 (x0 m c) (x1 m c) (x2 m c) (x3 m c) (x4 m c) (x5 m c) (x6 m c) (i 0)) (x7 m c) (x8 m c) (i 1)) e).symm
  unfold_out out0_10
  frame_out
  obtain ⟨i, j, rfl⟩ : ∃ (i : Fin 512) (j : Fin 1024), y = ix2 i j := ⟨y 0, y 1, by idx_vars y⟩
  exact x1_at m c t i j

end

/-! ## The reference -/

section
open Cert.Reference12Ideal.Read
variable (o cv : S8192x512.Idx → EReal) (x : S8192x1024.Idx → EReal) (w : S1024x1024.Idx → EReal) (g1 g2 : S1x512.Idx → EReal)
  (gt g b : S1x1024.Idx → EReal)

theorem ref_sumO (i : (⟨2, ![8192, 1]⟩ : Shape).Idx) : val_main_v2 (F := Ideal) o i = ∑ k : Fin 512, o (ix2 (i 0) k) * o (ix2 (i 0) k) := by
  rw [val_main_v2_apply, val_main_v1_apply, val_main_cst_apply, Ideal.ofBits_def, Ideal.ofBits_zero_f32, zero_add]
  refine Finset.sum_congr rfl fun k _ => ?_
  rw [val_main_v0_apply, show idx_main_v1 (idx_main_v2 i) k = ix2 (i 0) k from funext fun k => match k with
    | ⟨0, _⟩ => rfl
    | ⟨1, _⟩ => rfl]
  rfl

theorem ref_rmsO (r : Fin 8192) (k : Fin 512) : val_main_v11 (F := Ideal) o g1 (ix2 r k) = rms o g1 r k := by
  rw [val_main_v11_apply, val_main_v9_apply, val_main_v8_apply, val_main_v7_apply, val_main_v6_apply, val_main_v4_apply, ref_sumO,
    val_main_v3_apply, val_main_v5_apply, val_main_cst_0_apply, val_main_cst_1_apply, val_main_v10_apply,
    show idx_main_v10 (ix2 r k) = ix2 0 k from funext fun k => match k with
    | ⟨0, _⟩ => rfl
    | ⟨1, _⟩ => rfl]
  rfl

theorem ref_sumC (i : (⟨2, ![8192, 1]⟩ : Shape).Idx) : val_main_v14 (F := Ideal) cv i = ∑ k : Fin 512, cv (ix2 (i 0) k) * cv (ix2 (i 0) k) := by
  rw [val_main_v14_apply, val_main_v13_apply, val_main_cst_2_apply, Ideal.ofBits_def, Ideal.ofBits_zero_f32, zero_add]
  refine Finset.sum_congr rfl fun k _ => ?_
  rw [val_main_v12_apply, show idx_main_v13 (idx_main_v14 i) k = ix2 (i 0) k from funext fun k => match k with
    | ⟨0, _⟩ => rfl
    | ⟨1, _⟩ => rfl]
  rfl

theorem ref_rmsC (r : Fin 8192) (k : Fin 512) : val_main_v23 (F := Ideal) cv g2 (ix2 r k) = rms cv g2 r k := by
  rw [val_main_v23_apply, val_main_v21_apply, val_main_v20_apply, val_main_v19_apply, val_main_v18_apply, val_main_v16_apply, ref_sumC,
    val_main_v15_apply, val_main_v17_apply, val_main_cst_3_apply, val_main_cst_4_apply, val_main_v22_apply,
    show idx_main_v22 (ix2 r k) = ix2 0 k from funext fun k => match k with
    | ⟨0, _⟩ => rfl
    | ⟨1, _⟩ => rfl]
  rfl

theorem ref_cat (i : S8192x1024.Idx) : val_main_v24 (F := Ideal) o cv g1 g2 i = cat o cv g1 g2 i := by
  have e : val_main_v24 (F := Ideal) o cv g1 g2 i = if h : (i 1).val < 512 then val_main_v11 (F := Ideal) o g1 (ix2 (i 0) ⟨(i 1).val, h⟩)
      else val_main_v23 (F := Ideal) cv g2 (ix2 (i 0) ⟨(i 1).val - 512, by have := (i 1).isLt; change (i 1).val < 1024 at this; omega⟩) := by
    unfold val_main_v24
    generalize val_main_v11 (F := Ideal) o g1 = p
    generalize val_main_v23 (F := Ideal) cv g2 = q
    idx_vars i
    pointwise
  rw [e]
  unfold cat
  split
  · exact ref_rmsO o g1 _ _
  · exact ref_rmsC cv g2 _ _

theorem ref_mixed (r : Fin 8192) (l : Fin 1024) : val_main_v25 (F := Ideal) o cv w g1 g2 (ix2 r l) = mixed o cv w g1 g2 r l := by
  rw [val_main_v25_apply]
  have e : ∀ k : Fin 1024, val_main_v24 (F := Ideal) o cv g1 g2 (lidx_main_v25 (ix2 r l) k) * w (ridx_main_v25 (ix2 r l) k)
      = cat o cv g1 g2 (ix2 r k) * w (ix2 k l) := fun k => congrArg₂ (· * ·)
    ((ref_cat o cv g1 g2 _).trans (congrArg (cat o cv g1 g2) (funext fun k => match k with
      | ⟨0, _⟩ => rfl
      | ⟨1, _⟩ => rfl)))
    (congrArg w (funext fun k => match k with
      | ⟨0, _⟩ => rfl
      | ⟨1, _⟩ => rfl))
  refine (Finset.sum_congr rfl fun k _ => e k).trans ?_
  refine (Fin.sum_univ_add (a := 512) (b := 512) fun k : Fin 1024 => cat o cv g1 g2 (ix2 r k) * w (ix2 k l)).trans (congrArg₂ (· + ·) ?_ ?_)
  · exact Finset.sum_congr rfl fun k _ => congrArg₂ (· * ·) (cat_low o cv g1 g2 _ k rfl) rfl
  · exact Finset.sum_congr rfl fun k _ => congrArg₂ (· * ·) (cat_high o cv g1 g2 _ k rfl) rfl

theorem ref_z1 (r : Fin 8192) (l : Fin 1024) : val_main_v32 (F := Ideal) o cv x w g1 g2 gt (ix2 r l) = z1 o cv x w g1 g2 gt r l := by
  rw [val_main_v32_apply, val_main_v27_apply, val_main_v26_apply, val_main_cst_5_apply, val_main_v31_apply, ref_mixed, val_main_v30_apply,
    val_main_v29_apply, val_main_v28_apply, val_main_cst_6_apply,
    show FloatOps.ofBits (F := Ideal) .f32 0x3F800000#32 = 1 from Ideal.ofBits_one_f32, show idx_main_v30 (ix2 r l) = ix2 0 l from funext fun k => match k with
    | ⟨0, _⟩ => rfl
    | ⟨1, _⟩ => rfl]
  rfl

theorem ref_mean (i : (⟨2, ![8192, 1]⟩ : Shape).Idx) : val_main_v37 (F := Ideal) o cv x w g1 g2 gt i = mean (z1 o cv x w g1 g2 gt (i 0)) := by
  rw [val_main_v37_apply, val_main_v35_apply, val_main_v34_apply, val_main_v36_apply, val_main_cst_7_apply, val_main_cst_8_apply]
  have e : ∀ k : Fin 1024, val_main_v32 (F := Ideal) o cv x w g1 g2 gt (idx_main_v34 (idx_main_v35 i) k) = z1 o cv x w g1 g2 gt (i 0) k := fun k =>
    (congrArg (val_main_v32 (F := Ideal) o cv x w g1 g2 gt) (show idx_main_v34 (idx_main_v35 i) k = ix2 (i 0) k from funext fun k => match k with
      | ⟨0, _⟩ => rfl
      | ⟨1, _⟩ => rfl)).trans (ref_z1 o cv x w g1 g2 gt (i 0) k)
  rw [Finset.sum_congr rfl fun k _ => e k, Ideal.ofBits_def, Ideal.ofBits_zero_f32, zero_add]
  rfl

theorem ref_cen (r : Fin 8192) (l : Fin 1024) : val_main_v39 (F := Ideal) o cv x w g1 g2 gt (ix2 r l) = cen (z1 o cv x w g1 g2 gt r) l := by
  rw [val_main_v39_apply, val_main_v38_apply, ref_mean, ref_z1]
  rfl

theorem ref_cen' (r : Fin 8192) (l : Fin 1024) : val_main_v46 (F := Ideal) o cv x w g1 g2 gt (ix2 r l) = cen (z1 o cv x w g1 g2 gt r) l := by
  rw [val_main_v46_apply, val_main_v45_apply, ref_mean, ref_z1]
  rfl

theorem ref_var (i : (⟨2, ![8192, 1]⟩ : Shape).Idx) : val_main_v42 (F := Ideal) o cv x w g1 g2 gt i
    = ∑ l : Fin 1024, cen (z1 o cv x w g1 g2 gt (i 0)) l * cen (z1 o cv x w g1 g2 gt (i 0)) l := by
  rw [val_main_v42_apply, val_main_v41_apply, val_main_cst_9_apply, Ideal.ofBits_def, Ideal.ofBits_zero_f32, zero_add]
  refine Finset.sum_congr rfl fun k _ => ?_
  rw [val_main_v40_apply, show idx_main_v41 (idx_main_v42 i) k = ix2 (i 0) k from funext fun k => match k with
    | ⟨0, _⟩ => rfl
    | ⟨1, _⟩ => rfl]
  exact congrArg₂ (· * ·) (ref_cen o cv x w g1 g2 gt (i 0) k) (ref_cen o cv x w g1 g2 gt (i 0) k)

theorem ref_x1 (r : Fin 8192) (l : Fin 1024) : val_main_v55 (F := Ideal) o cv x w g1 g2 gt g b (ix2 r l) = ln (z1 o cv x w g1 g2 gt r) g b l := by
  rw [val_main_v55_apply, val_main_v53_apply, val_main_v51_apply, ref_cen', val_main_v50_apply, val_main_v49_apply, val_main_v48_apply,
    val_main_v44_apply, ref_var, val_main_v43_apply, val_main_cst_10_apply, val_main_v47_apply, val_main_cst_11_apply,
    val_main_v52_apply, val_main_v54_apply, show idx_main_v52 (ix2 r l) = ix2 0 l from funext fun k => match k with
    | ⟨0, _⟩ => rfl
    | ⟨1, _⟩ => rfl, show idx_main_v54 (ix2 r l) = ix2 0 l from funext fun k => match k with
    | ⟨0, _⟩ => rfl
    | ⟨1, _⟩ => rfl]
  rfl

theorem out0 : val_main_v33 (F := Ideal) o cv g1 g2 = fun i => cat o cv g1 g2 i := by
  funext i
  rw [val_main_v33_apply, ref_cat]
  rfl

theorem out1 : val_main_v25 (F := Ideal) o cv w g1 g2 = fun i => mixed o cv w g1 g2 (i 0) (i 1) := by
  funext i
  obtain ⟨r, l, rfl⟩ : ∃ (r : Fin 8192) (l : Fin 1024), i = ix2 r l := ⟨i 0, i 1, by idx_vars i⟩
  exact ref_mixed o cv w g1 g2 r l

theorem out2 : val_main_v32 (F := Ideal) o cv x w g1 g2 gt = fun i => z1 o cv x w g1 g2 gt (i 0) (i 1) := by
  funext i
  obtain ⟨r, l, rfl⟩ : ∃ (r : Fin 8192) (l : Fin 1024), i = ix2 r l := ⟨i 0, i 1, by idx_vars i⟩
  exact ref_z1 o cv x w g1 g2 gt r l

theorem out3 : val_main_v55 (F := Ideal) o cv x w g1 g2 gt g b = fun i => ln (z1 o cv x w g1 g2 gt (i 0)) g b (i 1) := by
  funext i
  obtain ⟨r, l, rfl⟩ : ∃ (r : Fin 8192) (l : Fin 1024), i = ix2 r l := ⟨i 0, i 1, by idx_vars i⟩
  exact ref_x1 o cv x w g1 g2 gt g b r l

end

/-- The frame of the reference. -/
theorem frame_ref : Cert.quiescent_Reference12Ideal := fun m ρ _ =>
  θ_run_mono (Cert.Reference12Ideal.Value.run m ρ) fun r h => ⟨fun c => (h c).2.2.2.2, sem_eq_zero_of_no_sems (by decide) r.2⟩

/-- The four results are the reference's. -/
theorem value : Cert.algebraic_Kernel12Ideal_Reference12Ideal := by
  intro m g m' g' hpre hagree
  refine ⟨fun c => fun i => cat (x0 m c) (x1 m c) (x4 m c) (x5 m c) i,
    fun c => fun i => mixed (x0 m c) (x1 m c) (x3 m c) (x4 m c) (x5 m c) (i 0) (i 1),
    fun c => fun i => z1 (x0 m c) (x1 m c) (x2 m c) (x3 m c) (x4 m c) (x5 m c) (x6 m c) (i 0) (i 1),
    fun c => fun i => ln (z1 (x0 m c) (x1 m c) (x2 m c) (x3 m c) (x4 m c) (x5 m c) (x6 m c) (i 0)) (x7 m c) (x8 m c) (i 1),
    θ_run_mono (θ_run_and (Cert.Kernel12Ideal.Gen.unchanged m g) (Cert.Kernel12Ideal.Gen.run_main m g)) fun r h c =>
      ⟨((h.2 c).1 7).trans (final7 m c), ((h.2 c).1 8).trans (final8 m c), ((h.2 c).1 9).trans (final9 m c), ((h.2 c).1 10).trans (final10 m c), h.1 c⟩,
    θ_run_mono (Cert.Reference12Ideal.Value.run m' g') fun r h c => ?_⟩
  obtain ⟨a0, a1, a2, a3, a4, a5, a6, a7, a8⟩ := hagree c
  obtain ⟨h0, h1, h2, h3, hu⟩ := h c
  refine ⟨h0.trans ((Cert.Reference12Ideal.Read.val_main_v33_eq _ _ _ _).trans ?_), h1.trans ((Cert.Reference12Ideal.Read.val_main_v25_eq _ _ _ _ _).trans ?_),
    h2.trans ((Cert.Reference12Ideal.Read.val_main_v32_eq _ _ _ _ _ _ _).trans ?_), h3.trans ((Cert.Reference12Ideal.Read.val_main_v55_eq m' c).trans ?_), hu⟩
  · rw [a0, a1, a4, a5]
    exact out0 _ _ _ _
  · rw [a0, a1, a3, a4, a5]
    exact out1 _ _ _ _ _
  · rw [a0, a1, a2, a3, a4, a5, a6]
    exact out2 _ _ _ _ _ _ _
  · rw [a0, a1, a2, a3, a4, a5, a6, a7, a8]
    exact out3 _ _ _ _ _ _ _ _ _

end Cert.MixFwd

end
-- ==== Proof.InProjBack.lean ====
/- The input projection's backward pass: what the kernel's three result arrays hold, and that the reference's are the same. -/
module

public import proofs.«01_k».proof.Proof.Gen.Kernel11Ideal.Value
public import proofs.«01_k».proof.Proof.Gen.Reference11Ideal.Run
public import proofs.«01_k».proof.Proof.Gen.Reference11Ideal.Read
public import proofs.«01_k».proof.Proof.KernelSums
public import proofs.«01_k».proof.Defs
public import Idealize.ShloMosaic.Lib.Claim
public import Idealize.ShloMosaic.Lib.Pointwise.Index
public import Idealize.ShloMosaic.Lib.Pointwise.Sums
public import Idealize.ShloMosaic.Lib.Pipeline.ValueKit.Acc
public import Idealize.ShloMosaic.Lib.Pipeline.ValueKit.Tiles
public import Idealize.ShloMosaic.Lib.Pipeline.ValueKit.Point
public import Idealize.ShloMosaic.Lib.Pipeline.ValueKit.Geometry
public import Idealize.ShloMosaic.Lib.Pipeline.ReadBack

@[expose] public section

set_option maxRecDepth 16384

noncomputable section

namespace Cert.InProjBack

open Cert.Kernel11Ideal Cert.Kernel11Ideal.Gen
open Cert.KernelSums (canon_row canon_skip rd_row rd_skip ld_row)
open Idealize.ShloMosaic Idealize.ShloMosaic.TcCoe Idealize.SL.Sem
open Idealize.ShloMosaic.Pipeline (Dat)
open scoped BigOperators

/-! ## The values -/

/-- The columns of the projection that give queries, keys, values, gates and forget gates. -/
def colQ (j : Fin 512) : Fin 2568 := ⟨j.val, by omega⟩
def colK (j : Fin 512) : Fin 2568 := ⟨512 + j.val, by omega⟩
def colV (j : Fin 512) : Fin 2568 := ⟨1024 + j.val, by omega⟩
def colF (j : Fin 8) : Fin 2568 := ⟨1536 + j.val, by omega⟩
def colA (j : Fin 1024) : Fin 2568 := ⟨1544 + j.val, by omega⟩

/-- A sum over the columns, part by part. -/
theorem sum_parts (f : Fin 2568 → EReal) : ∑ j, f j
    = (((∑ j, f (colQ j) + ∑ j, f (colK j)) + ∑ j, f (colV j)) + ∑ j, f (colA j)) + ∑ j, f (colF j) := by
  have h : ∑ j : Fin (512 + 512 + 512 + 8 + 1024), f j
      = (((∑ j, f (colQ j) + ∑ j, f (colK j)) + ∑ j, f (colV j)) + ∑ j, f (colF j)) + ∑ j, f (colA j) := by
    rw [Fin.sum_univ_add, Fin.sum_univ_add, Fin.sum_univ_add, Fin.sum_univ_add]
    rfl
  exact h.trans (add_right_comm _ _ _)

/-- The gradient in the modulated input. -/
def du (dq : S8192x512.Idx → EReal) (dkt dvt : S512x8192.Idx → EReal) (dag : S8192x1024.Idx → EReal) (dft : S8x8192.Idx → EReal)
    (w : S1024x2568.Idx → EReal) (r : Fin 8192) (l : Fin 1024) : EReal :=
  (((∑ k : Fin 512, dq (ix2 r k) * w (ix2 l (colQ k)) + ∑ k : Fin 512, dkt (ix2 k r) * w (ix2 l (colK k)))
    + ∑ k : Fin 512, dvt (ix2 k r) * w (ix2 l (colV k))) + ∑ k : Fin 1024, dag (ix2 r k) * w (ix2 l (colA k)))
    + ∑ k : Fin 8, dft (ix2 k r) * w (ix2 l (colF k))

/-- What a row adds to the two column sums. -/
def part (x : S8192x1024.Idx → EReal) (d : Fin 8192 → Fin 1024 → EReal) (k : ℕ) (l : Fin 1024) (r : Fin 8192) : EReal :=
  match k with
  | 0 => d r l * x (ix2 r l)
  | 1 => d r l
  | _ => 0

theorem part_high (x : S8192x1024.Idx → EReal) (d : Fin 8192 → Fin 1024 → EReal) (k : ℕ) (h : 2 ≤ k) (l : Fin 1024) (r : Fin 8192) :
    part x d k l r = 0 := by
  match k, h with
  | n + 2, _ => rfl

/-- Row `r` of block `t` in the whole array. -/
def at_ (t : Fin 16) (r : Fin 512) : Fin 8192 := ⟨t.val * 512 + r.val, by omega⟩

/-- What a block adds to them. -/
def blockPart (x : S8192x1024.Idx → EReal) (d : Fin 8192 → Fin 1024 → EReal) (k : ℕ) (l : Fin 1024) (t : Fin 16) : EReal :=
  ∑ r : Fin 512, part x d k l (at_ t r)

/-- The column sums. -/
def st (x : S8192x1024.Idx → EReal) (d : Fin 8192 → Fin 1024 → EReal) (i : S8x1024.Idx) : EReal :=
  ∑ r : Fin 8192, part x d (i 0).val (i 1) r

/-- The gradient of the layer's input: what comes in by the residual branch and what comes back by the projection. -/
def dx (y : S8192x1024.Idx → EReal) (d : Fin 8192 → Fin 1024 → EReal) (sc : S1x1024.Idx → EReal) (i : S8192x1024.Idx) : EReal :=
  y (ix2 (i 0) (i 1)) + d (i 0) (i 1) * (1 + sc (ix2 0 (i 1)))

theorem blockPart_high (x : S8192x1024.Idx → EReal) (d : Fin 8192 → Fin 1024 → EReal) (k : ℕ) (h : 2 ≤ k) (l : Fin 1024) (t : Fin 16) :
    blockPart x d k l t = 0 :=
  Finset.sum_eq_zero fun r _ => part_high x d k h l _

/-- The gradients of keys and values, one above the other. -/
def kv (dkt dvt : S512x8192.Idx → EReal) (i : S1024x8192.Idx) : EReal :=
  if h : (i 0).val < 512 then dkt (ix2 ⟨(i 0).val, h⟩ (i 1)) else dvt (ix2 ⟨(i 0).val - 512, by have := (i 0).isLt; change (i 0).val < 1024 at this; omega⟩ (i 1))

theorem kv_low (dkt dvt : S512x8192.Idx → EReal) (i : S1024x8192.Idx) (k : Fin 512) (h : (i 0).val = k.val) : kv dkt dvt i = dkt (ix2 k (i 1)) := by
  unfold kv
  rw [dif_pos (by omega)]
  exact congrArg (fun k => dkt (ix2 k (i 1))) (Fin.ext h)

theorem kv_high (dkt dvt : S512x8192.Idx → EReal) (i : S1024x8192.Idx) (k : Fin 512) (h : (i 0).val = 512 + k.val) : kv dkt dvt i = dvt (ix2 k (i 1)) := by
  unfold kv
  rw [dif_neg (by omega)]
  exact congrArg (fun k => dvt (ix2 k (i 1))) (Fin.ext (by show (i 0).val - 512 = k.val; omega))

/-! ## A block's arithmetic -/

section
variable (a b : S512x1024.Idx → EReal)

theorem pay1 (r : Fin 512) (l : Fin 1024) : k0_pay1 (F := Ideal) a b (ix2 r l) = a (ix2 r l) + b (ix2 r l) := by
  pointwise [k0_pay1]

theorem pay2 (y : Vec Ideal S512x1024 .f32) (sc : Vec Ideal S1x1024 .f32) (r : Fin 512) (l : Fin 1024) :
    k0_pay2 (F := Ideal) a b y sc (ix2 r l) = y (ix2 r l) + (a (ix2 r l) + b (ix2 r l)) * (1 + sc (ix2 0 l)) := by
  pointwise [k0_pay2, k0_pay1]

theorem pay3 (i : S8x1024.Idx) : k0_pay3 (F := Ideal) i = 0 := by
  pointwise [k0_pay3]

theorem pay4 (x : Vec Ideal S512x1024 .f32) (s : Vec Ideal S1x1024 .f32) (l : Fin 1024) :
    k0_pay4 (F := Ideal) a b x s (ix2 0 l) = s (ix2 0 l) + ∑ r : Fin 512, (a (ix2 r l) + b (ix2 r l)) * x (ix2 r l) := by
  pointwise [k0_pay4, k0_pay1]

theorem pay5 (s : Vec Ideal S1x1024 .f32) (l : Fin 1024) :
    k0_pay5 (F := Ideal) a b s (ix2 0 l) = s (ix2 0 l) + ∑ r : Fin 512, (a (ix2 r l) + b (ix2 r l)) := by
  pointwise [k0_pay5, k0_pay1]

theorem pay6 (x : Vec Ideal S512x512 .f32) (i : S512x512.Idx) : k0_pay6 x i = x i := by
  pointwise [k0_pay6]

theorem pay7 (x : Vec Ideal S512x512 .f32) (i : S512x512.Idx) : k0_pay7 x i = x i := by
  pointwise [k0_pay7]

theorem pay8 (v0 v2 : Vec Ideal S512x512 .f32) (v6 : Vec Ideal S512x512 .bf16) (v7 : Vec Ideal S1024x512 .bf16) (v10 v14 v18 : Vec Ideal S512x1024 .bf16)
    (v19 : Vec Ideal S1024x1024 .bf16) (r : Fin 512) (l : Fin 1024) : k0_pay8 v0 v2 v6 v7 v10 v14 v18 v19 (ix2 r l)
      = ((∑ k : Fin 512, v6 (ix2 r k) * v7 (ix2 l k) + ∑ k : Fin 512, v0 (ix2 k r) * v10 (ix2 k l))
        + ∑ k : Fin 512, v2 (ix2 k r) * v14 (ix2 k l)) + ∑ k : Fin 1024, v18 (ix2 r k) * v19 (ix2 l k) := by
  pointwise [k0_pay8, k0_pay6, k0_pay7]

theorem pay9 (v23 : Vec Ideal S8x512 .f32) (v25 : Vec Ideal S8x1024 .bf16) (r : Fin 512) (l : Fin 1024) :
    k0_pay9 v23 v25 (ix2 r l) = ∑ k : Fin 8, v23 (ix2 k r) * v25 (ix2 k l) := by
  pointwise [k0_pay9]

end

/-- An eight-row array written whole and then row by row reads, at a row, what was last written there. -/
theorem canon_rows (k : Fin 8) (l : Fin 1024) (X : Fin 8 → EReal) (L : List (View.Piece (Elt Ideal) S8x1024 .f32))
    {i1 : _} (w1 : (Rect.unit (s := S8x1024) ![1, 0] ![1, 1024] i1).shape.Idx → Elt Ideal .f32) {i0 : _} (w0 : (Rect.unit (s := S8x1024) ![0, 0] ![1, 1024] i0).shape.Idx → Elt Ideal .f32)
    (h1 : (w1 (ix2 0 l) : EReal) = X 1) (h0 : (w0 (ix2 0 l) : EReal) = X 0)
    (hb : ∀ k : Fin 8, 2 ≤ k.val → (View.canon L (ix2 k l) : EReal) = X k) :
    (View.canon ((⟨Rect.unit (s := S8x1024) ![1, 0] ![1, 1024] i1, w1⟩ : View.Piece (Elt Ideal) S8x1024 .f32) :: (⟨Rect.unit (s := S8x1024) ![0, 0] ![1, 1024] i0, w0⟩ : View.Piece (Elt Ideal) S8x1024 .f32) :: L) (ix2 k l) : EReal) = X k := by
  by_cases e1 : k = 1
  · subst e1
    exact (canon_row 1 _ 1 rfl l _ _).trans h1
  have n1 : k.val ≠ 1 := fun h => e1 (Fin.ext h)
  refine (canon_skip 1 _ k n1 l _ _).trans ?_
  by_cases e0 : k = 0
  · subst e0
    exact (canon_row 0 _ 0 rfl l _ _).trans h0
  have n0 : k.val ≠ 0 := fun h => e0 (Fin.ext h)
  refine (canon_skip 0 _ k n0 l _ _).trans ?_
  exact hb k (by omega)

theorem rd_rows {sig : RefSig} {κ : Kind} {sp : Space} (v : View sig κ sp S8x1024 .f32) (f : v.ty.Contents (Elt Ideal))
    (k : Fin 8) (l : Fin 1024) (X : Fin 8 → EReal)
    {i1 : _} (w1 : (Rect.unit (s := S8x1024) ![1, 0] ![1, 1024] i1).shape.Idx → Elt Ideal .f32) {i0 : _} (w0 : (Rect.unit (s := S8x1024) ![0, 0] ![1, 1024] i0).shape.Idx → Elt Ideal .f32)
    (h1 : (w1 (ix2 0 l) : EReal) = X 1) (h0 : (w0 (ix2 0 l) : EReal) = X 0)
    (hb : ∀ k : Fin 8, 2 ≤ k.val → (v.read (Elt Ideal) f (ix2 k l) : EReal) = X k) :
    (v.read (Elt Ideal) (v.writes (Elt Ideal) f [(⟨Rect.unit (s := S8x1024) ![1, 0] ![1, 1024] i1, w1⟩ : View.Piece (Elt Ideal) S8x1024 .f32),
      (⟨Rect.unit (s := S8x1024) ![0, 0] ![1, 1024] i0, w0⟩ : View.Piece (Elt Ideal) S8x1024 .f32)])
      (ix2 k l) : EReal) = X k := by
  by_cases e1 : k = 1
  · subst e1
    exact (rd_row v f 1 _ 1 rfl l _ _).trans h1
  have n1 : k.val ≠ 1 := fun h => e1 (Fin.ext h)
  refine (rd_skip v f 1 _ k n1 l _ _).trans ?_
  by_cases e0 : k = 0
  · subst e0
    exact (rd_row v f 0 _ 0 rfl l _ _).trans h0
  have n0 : k.val ≠ 0 := fun h => e0 (Fin.ext h)
  refine (rd_skip v f 0 _ k n0 l _ _).trans ?_
  exact hb k (by omega)

/-! ## The blocks -/

theorem idx_val : ∀ t : Fin cfg0.N, win0_0.index t = ![t.val, 0]
    ∧ win0_1.index t = ![0, t.val]
    ∧ win0_2.index t = ![0, t.val]
    ∧ win0_3.index t = ![t.val, 0]
    ∧ win0_4.index t = ![0, t.val]
    ∧ win0_5.index t = ![0, 0]
    ∧ win0_6.index t = ![0, 0]
    ∧ win0_7.index t = ![0, 0]
    ∧ win0_8.index t = ![0, 0]
    ∧ win0_9.index t = ![t.val, 0]
    ∧ win0_10.index t = ![t.val, 0]
    ∧ win0_11.index t = ![0, 0]
    ∧ win0_12.index t = ![0, t.val]
    ∧ win0_13.index t = ![t.val, 0]
    ∧ win0_14.index t = ![0, 0] :=
  (by decide +kernel : ∀ t : Fin grid0.N, _)

section
variable (m : (ℓ : Loc nD τ sig) → Buf (Elt Ideal) ℓ) (c : Dev nD)

/-- The arguments. -/
abbrev x0 : S8192x1024.Idx → EReal := m ((c : Thread nD τ).loc main_arg0)
abbrev x1 : S1x1024.Idx → EReal := m ((c : Thread nD τ).loc main_arg1)
abbrev x2 : S1x1024.Idx → EReal := m ((c : Thread nD τ).loc main_arg2)
abbrev x3 : S1024x2568.Idx → EReal := m ((c : Thread nD τ).loc main_arg3)
abbrev x4 : S8192x512.Idx → EReal := m ((c : Thread nD τ).loc main_arg4)
abbrev x5 : S512x8192.Idx → EReal := m ((c : Thread nD τ).loc main_arg5)
abbrev x6 : S512x8192.Idx → EReal := m ((c : Thread nD τ).loc main_arg6)
abbrev x7 : S8192x1024.Idx → EReal := m ((c : Thread nD τ).loc main_arg7)
abbrev x8 : S8x8192.Idx → EReal := m ((c : Thread nD τ).loc main_arg8)
abbrev x9 : S8192x1024.Idx → EReal := m ((c : Thread nD τ).loc main_arg9)

/-- The gradient in the modulated input, of the arguments. -/
abbrev D (r : Fin 8192) (l : Fin 1024) : EReal := du (x4 m c) (x5 m c) (x6 m c) (x7 m c) (x8 m c) (x3 m c) r l

theorem V1_1 (l : Fin 1024) : (V m c main_v1 : S8x1024.Idx → EReal) (ix2 1 l) = x2 m c (ix2 0 l) := by
  trans concatenate S8x1024 0 [⟨S1x1024, x1 m c⟩, ⟨S1x1024, x2 m c⟩,
        ⟨S6x1024, broadcastInDim S6x1024 ![] bcast_S_S6x1024 (constant (F := Ideal) S_ .f32 0x00000000#32)⟩]
        concatenates_S1x1024_S1x1024_S6x1024_S8x1024_d0 (ix2 1 l)
  · rfl
  pointwise

theorem V3 (l : Fin 1024) (j : Fin 1536) : (V m c main_v3 : S1024x1536.Idx → EReal) (ix2 l j) = x3 m c (ix2 l ⟨j.val, by omega⟩) := by
  trans extractStridedSlice S1024x1536 ![0, 0] (x3 m c) slices_S1024x2568_S1024x1536_0_0 (ix2 l j)
  · rfl
  pointwise

theorem V5 (j : Fin 1024) (l : Fin 1024) : (V m c main_v5 : S1024x1024.Idx → EReal) (ix2 j l) = x3 m c (ix2 l ⟨512 + j.val, by omega⟩) := by
  trans transpose S1024x1024 [1, 0] (extractStridedSlice S1024x1024 ![0, 512] (x3 m c) slices_S1024x2568_S1024x1024_0_512)
    transposes_S1024x1024_S1024x1024_1_0 (ix2 j l)
  · rfl
  pointwise

theorem V6 (l : Fin 1024) (j : Fin 1024) : (V m c main_v6 : S1024x1024.Idx → EReal) (ix2 l j) = x3 m c (ix2 l (colA j)) := by
  trans extractStridedSlice S1024x1024 ![0, 1544] (x3 m c) slices_S1024x2568_S1024x1024_0_1544 (ix2 l j)
  · rfl
  pointwise
  rfl

theorem V8 (j : Fin 8) (l : Fin 1024) : (V m c main_v8 : S8x1024.Idx → EReal) (ix2 j l) = x3 m c (ix2 l (colF j)) := by
  trans transpose S8x1024 [1, 0] (extractStridedSlice S1024x8 ![0, 1536] (x3 m c) slices_S1024x2568_S1024x8_0_1536) transposes_S1024x8_S8x1024_1_0 (ix2 j l)
  · rfl
  pointwise
  rfl

variable (t : Fin cfg0.N)

theorem blk0 (r k : Fin 512) : (iblk m c 0 t : S512x512.Idx → EReal) (ix2 r k) = x4 m c (ix2 (at_ t r) k) := by
  blk_point [iblk, idx_val t]
  rfl

theorem blk1 (k r : Fin 512) : (iblk m c 1 t : S512x512.Idx → EReal) (ix2 k r) = x5 m c (ix2 k (at_ t r)) := by
  blk_point [iblk, idx_val t]
  rfl

theorem blk2 (k r : Fin 512) : (iblk m c 2 t : S512x512.Idx → EReal) (ix2 k r) = x6 m c (ix2 k (at_ t r)) := by
  blk_point [iblk, idx_val t]
  rfl

theorem blk3 (r : Fin 512) (k : Fin 1024) : (iblk m c 3 t : S512x1024.Idx → EReal) (ix2 r k) = x7 m c (ix2 (at_ t r) k) := by
  blk_point [iblk, idx_val t]
  rfl

theorem blk4 (k : Fin 8) (r : Fin 512) : (iblk m c 4 t : S8x512.Idx → EReal) (ix2 k r) = x8 m c (ix2 k (at_ t r)) := by
  blk_point [iblk, idx_val t]
  rfl

theorem blk5 (inb) (l : Fin 1024) (k : Fin 512) : View.ld (iblk m c 5 t) (Rect.unit (s := S1024x1536) ![0, 0] ![1024, 512] inb) (ix2 l k)
    = x3 m c (ix2 l (colQ k)) := by
  refine Eq.trans ?_ (V3 m c l ⟨k.val, by omega⟩)
  pointwise
  blk_point [iblk, idx_val t]

theorem blk6_0 (inb) (k : Fin 512) (l : Fin 1024) : View.ld (iblk m c 6 t) (Rect.unit (s := S1024x1024) ![0, 0] ![512, 1024] inb) (ix2 k l)
    = x3 m c (ix2 l (colK k)) := by
  refine Eq.trans ?_ (V5 m c ⟨k.val, by omega⟩ l)
  pointwise
  blk_point [iblk, idx_val t]

theorem blk6_1 (inb) (k : Fin 512) (l : Fin 1024) : View.ld (iblk m c 6 t) (Rect.unit (s := S1024x1024) ![512, 0] ![512, 1024] inb) (ix2 k l)
    = x3 m c (ix2 l (colV k)) := by
  refine Eq.trans ?_ ((V5 m c ⟨512 + k.val, by omega⟩ l).trans ?_)
  · pointwise
    blk_point [iblk, idx_val t]
  · exact congrArg (fun j => x3 m c (ix2 l j)) (Fin.ext (by show 512 + (512 + k.val) = 1024 + k.val; omega))

theorem blk7 (l : Fin 1024) (k : Fin 1024) : (iblk m c 7 t : S1024x1024.Idx → EReal) (ix2 l k) = x3 m c (ix2 l (colA k)) := by
  refine Eq.trans ?_ (V6 m c l k)
  blk_point [iblk, idx_val t]

theorem blk8 (k : Fin 8) (l : Fin 1024) : (iblk m c 8 t : S8x1024.Idx → EReal) (ix2 k l) = x3 m c (ix2 l (colF k)) := by
  refine Eq.trans ?_ (V8 m c k l)
  blk_point [iblk, idx_val t]

theorem blk9 (r : Fin 512) (l : Fin 1024) : (iblk m c 9 t : S512x1024.Idx → EReal) (ix2 r l) = x0 m c (ix2 (at_ t r) l) := by
  blk_point [iblk, idx_val t]
  rfl

theorem blk10 (r : Fin 512) (l : Fin 1024) : (iblk m c 10 t : S512x1024.Idx → EReal) (ix2 r l) = x9 m c (ix2 (at_ t r) l) := by
  blk_point [iblk, idx_val t]
  rfl

theorem blk11 (inb) (l : Fin 1024) : View.ld (iblk m c 11 t) (Rect.unit (s := S8x1024) ![1, 0] ![1, 1024] inb) (ix2 0 l) = x2 m c (ix2 0 l) := by
  refine Eq.trans ?_ (V1_1 m c l)
  pointwise
  blk_point [iblk, idx_val t]

/-- The block's gradient in the modulated input, in the kernel's two summands. -/
theorem du_at (i5 i6 i7) (r : Fin 512) (l : Fin 1024) :
    k0_pay8 (iblk m c 1 t) (iblk m c 2 t) (iblk m c 0 t) (View.ld (iblk m c 5 t) (Rect.unit (s := S1024x1536) ![0, 0] ![1024, 512] i5))
        (View.ld (iblk m c 6 t) (Rect.unit (s := S1024x1024) ![0, 0] ![512, 1024] i6))
        (View.ld (iblk m c 6 t) (Rect.unit (s := S1024x1024) ![512, 0] ![512, 1024] i7)) (iblk m c 3 t) (iblk m c 7 t) (ix2 r l)
      + k0_pay9 (iblk m c 4 t) (iblk m c 8 t) (ix2 r l) = D m c (at_ t r) l := by
  rw [pay8, pay9]
  simp only [blk0, blk1, blk2, blk3, blk4, blk5, blk6_0, blk6_1, blk7, blk8]
  rfl

/-! ## What a point leaves -/

/-- The gradients of keys and values a point leaves. -/
theorem point_12_A (h0 : t.val % 16 = 0) (y) :
    (out0_A_12 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (ms0_11 t) (hs0_11 t) (ms0_12 t) (hs0_12 t) (ms0_13 t) (hs0_13 t) (ms0_14 t)
      (hs0_14 t) ((hcond0_0 t).mpr h0) (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t)) y
      = kv (x5 m c) (x6 m c) (ix2 (y 0) (at_ t (y 1))) := by
  frame_out
  canon_tiles x h
  · obtain ⟨k, r, rfl⟩ : ∃ (k r : Fin 512), x = ix2 k r := ⟨x 0, x 1, by idx_vars x⟩
    refine (pay7 _ _).trans ((blk2 m c t k r).trans ((kv_high _ _ _ k h0).trans ?_).symm)
    exact congrArg (fun r => x6 m c (ix2 k (at_ t r))) (Fin.ext h1)
  · obtain ⟨k, r, rfl⟩ : ∃ (k r : Fin 512), x = ix2 k r := ⟨x 0, x 1, by idx_vars x⟩
    refine (pay6 _ _).trans ((blk1 m c t k r).trans ((kv_low _ _ _ k h0).trans ?_).symm)
    exact congrArg (fun r => x5 m c (ix2 k (at_ t r))) (Fin.ext h1)

/-- The gradients of keys and values a point leaves. -/
theorem point_12_B (h0 : ¬t.val % 16 = 0) (y) :
    (out0_B_12 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (ms0_11 t) (hs0_11 t) (ms0_12 t) (hs0_12 t) (ms0_13 t) (hs0_13 t) (ms0_14 t)
      (hs0_14 t) (fun h => h0 ((hcond0_0 t).mp h)) (iblk m c 0 t) (iblk m c 1 t) (iblk m c 2 t) (iblk m c 3 t) (iblk m
      c 4 t) (iblk m c 5 t) (iblk m c 6 t) (iblk m c 7 t) (iblk m c 8 t) (iblk m c 9 t) (iblk m c 10 t) (iblk m c 11
      t) (outsAt0 m c (t.val - 1) (Nat.lt_of_le_of_lt (Nat.sub_le _ _) t.isLt)).2.2) y
      = kv (x5 m c) (x6 m c) (ix2 (y 0) (at_ t (y 1))) := by
  frame_out
  canon_tiles x h
  · obtain ⟨k, r, rfl⟩ : ∃ (k r : Fin 512), x = ix2 k r := ⟨x 0, x 1, by idx_vars x⟩
    refine (pay7 _ _).trans ((blk2 m c t k r).trans ((kv_high _ _ _ k h0).trans ?_).symm)
    exact congrArg (fun r => x6 m c (ix2 k (at_ t r))) (Fin.ext h1)
  · obtain ⟨k, r, rfl⟩ : ∃ (k r : Fin 512), x = ix2 k r := ⟨x 0, x 1, by idx_vars x⟩
    refine (pay6 _ _).trans ((blk1 m c t k r).trans ((kv_low _ _ _ k h0).trans ?_).symm)
    exact congrArg (fun r => x5 m c (ix2 k (at_ t r))) (Fin.ext h1)

/-- The gradient of the layer's input a point leaves. -/
theorem point_13_A (h0 : t.val % 16 = 0) (y) :
    (out0_A_13 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (ms0_11 t) (hs0_11 t) (ms0_12 t) (hs0_12 t) (ms0_13 t) (hs0_13 t) (ms0_14 t)
      (hs0_14 t) ((hcond0_0 t).mpr h0) (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t)) y
      = x9 m c (ix2 (at_ t (y 0)) (y 1)) + D m c (at_ t (y 0)) (y 1) * (1 + x2 m c (ix2 0 (y 1))) := by
  frame_out
  obtain ⟨r, l, rfl⟩ : ∃ (r : Fin 512) (l : Fin 1024), y = ix2 r l := ⟨y 0, y 1, by idx_vars y⟩
  refine (pay2 _ _ _ _ r l).trans ?_
  rw [du_at, blk10, blk11]
  rfl

/-- The gradient of the layer's input a point leaves. -/
theorem point_13_B (h0 : ¬t.val % 16 = 0) (y) :
    (out0_B_13 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (ms0_11 t) (hs0_11 t) (ms0_12 t) (hs0_12 t) (ms0_13 t) (hs0_13 t) (ms0_14 t)
      (hs0_14 t) (fun h => h0 ((hcond0_0 t).mp h)) (iblk m c 0 t) (iblk m c 1 t) (iblk m c 2 t) (iblk m c 3 t) (iblk m
      c 4 t) (iblk m c 5 t) (iblk m c 6 t) (iblk m c 7 t) (iblk m c 8 t) (iblk m c 9 t) (iblk m c 10 t) (iblk m c 11
      t) (outsAt0 m c (t.val - 1) (Nat.lt_of_le_of_lt (Nat.sub_le _ _) t.isLt)).2.2) y
      = x9 m c (ix2 (at_ t (y 0)) (y 1)) + D m c (at_ t (y 0)) (y 1) * (1 + x2 m c (ix2 0 (y 1))) := by
  frame_out
  obtain ⟨r, l, rfl⟩ : ∃ (r : Fin 512) (l : Fin 1024), y = ix2 r l := ⟨y 0, y 1, by idx_vars y⟩
  refine (pay2 _ _ _ _ r l).trans ?_
  rw [du_at, blk10, blk11]
  rfl

/-- The column sums after the first point. -/
theorem point_14_A (h0 : t.val % 16 = 0) (y) :
    (out0_A_14 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (ms0_11 t) (hs0_11 t) (ms0_12 t) (hs0_12 t) (ms0_13 t) (hs0_13 t) (ms0_14 t)
      (hs0_14 t) ((hcond0_0 t).mpr h0) (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t)) y
      = (0 : EReal) + blockPart (x0 m c) (D m c) (y 0).val (y 1) t := by
  frame_out
  simp (disch := decide) only [View.readCov_skip, View.readCov_fill]
  obtain ⟨k, l, rfl⟩ : ∃ (k : Fin 8) (l : Fin 1024), y = ix2 k l := ⟨y 0, y 1, by idx_vars y⟩
  refine canon_rows k l (fun k => (0 : EReal) + blockPart (x0 m c) (D m c) k.val l t) _ _ _ ?_ ?_ fun k hk => ?_
  · refine (pay5 _ _ _ l).trans (congrArg₂ (· + ·) ((ld_row _ 1 _ 1 rfl l).trans (pay3 _)) ?_)
    exact Finset.sum_congr rfl fun r _ => du_at m c t _ _ _ r l
  · refine (pay4 _ _ _ _ l).trans (congrArg₂ (· + ·) ((ld_row _ 0 _ 0 rfl l).trans (pay3 _)) ?_)
    exact Finset.sum_congr rfl fun r _ => congrArg₂ (· * ·) (du_at m c t _ _ _ r l) (blk9 m c t r l)
  · refine (congrFun (View.canon_cons_unit_lit _ _ _ (by decide)) _).trans ((pay3 _).trans ?_)
    exact (add_zero (0 : EReal)).symm.trans (congrArg ((0 : EReal) + ·) (blockPart_high _ _ _ hk _ _).symm)

/-- The column sums after a later point. -/
theorem point_14_B (h0 : ¬t.val % 16 = 0) (y) :
    (out0_B_14 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (ms0_11 t) (hs0_11 t) (ms0_12 t) (hs0_12 t) (ms0_13 t) (hs0_13 t) (ms0_14 t)
      (hs0_14 t) (fun h => h0 ((hcond0_0 t).mp h)) (iblk m c 0 t) (iblk m c 1 t) (iblk m c 2 t) (iblk m c 3 t) (iblk m
      c 4 t) (iblk m c 5 t) (iblk m c 6 t) (iblk m c 7 t) (iblk m c 8 t) (iblk m c 9 t) (iblk m c 10 t) (iblk m c 11
      t) (outsAt0 m c (t.val - 1) (Nat.lt_of_le_of_lt (Nat.sub_le _ _) t.isLt)).2.2) y
      = ((outsAt0 m c (t.val - 1) (Nat.lt_of_le_of_lt (Nat.sub_le _ _) t.isLt)).2.2 : S8x1024.Idx → EReal) y
        + blockPart (x0 m c) (D m c) (y 0).val (y 1) t := by
  frame_out
  obtain ⟨k, l, rfl⟩ : ∃ (k : Fin 8) (l : Fin 1024), y = ix2 k l := ⟨y 0, y 1, by idx_vars y⟩
  refine rd_rows _ _ k l (fun k => ((outsAt0 m c (t.val - 1) (Nat.lt_of_le_of_lt (Nat.sub_le _ _) t.isLt)).2.2 : S8x1024.Idx → EReal) (ix2 k l)
    + blockPart (x0 m c) (D m c) k.val l t) _ _ ?_ ?_ fun k hk => ?_
  · refine (pay5 _ _ _ l).trans (congrArg₂ (· + ·) (ld_row _ 1 _ 1 rfl l) ?_)
    exact Finset.sum_congr rfl fun r _ => du_at m c t _ _ _ r l
  · refine (pay4 _ _ _ _ l).trans (congrArg₂ (· + ·) (ld_row _ 0 _ 0 rfl l) ?_)
    exact Finset.sum_congr rfl fun r _ => congrArg₂ (· * ·) (du_at m c t _ _ _ r l) (blk9 m c t r l)
  · refine (congrFun (Memref.IsWhole.read_unread _ _) _).trans ?_
    exact (add_zero (_ : EReal)).symm.trans (congrArg ((_ : EReal) + ·) (blockPart_high _ _ _ hk _ _).symm)

end

/-! ## The result arrays -/

section
variable (m : (ℓ : Loc nD τ sig) → Buf (Elt Ideal) ℓ) (c : Dev nD)

/-- The gradients of keys and values. -/
theorem final12 : (dats m 0 c).arrAt 12 cfg0.N = kv (x5 m c) (x6 m c) := by
  refine (dats m 0 c).arrAt_eq_of_covers 12 _ (by decide +kernel) fun t hf y => ?_
  blk_simp
  rw [after0_12]
  have e : ((View.whole main_v9_0).slice (win0_12.rect t)).emb y = ix2 (y 0) (at_ t (y 1)) := by
    blk_ext [idx_val t]
    rfl
  refine Eq.trans ?_ (congrArg (kv (x5 m c) (x6 m c)) e).symm
  by_cases h : t.val % 16 = 0
  · rw [outsAt0_A m c t h]
    dsimp only
    exact point_12_A m c t h _
  · rw [outsAt0_B m c t h]
    dsimp only
    exact point_12_B m c t h _

/-- The gradient of the layer's input. -/
theorem final13 : (dats m 0 c).arrAt 13 cfg0.N = dx (x9 m c) (D m c) (x2 m c) := by
  refine (dats m 0 c).arrAt_eq_of_covers 13 _ (by decide +kernel) fun t hf y => ?_
  blk_simp
  rw [after0_13]
  have e : ((View.whole main_v9_1).slice (win0_13.rect t)).emb y = ix2 (at_ t (y 0)) (y 1) := by
    blk_ext [idx_val t]
    rfl
  refine Eq.trans ?_ (congrArg (dx (x9 m c) (D m c) (x2 m c)) e).symm
  by_cases h : t.val % 16 = 0
  · rw [outsAt0_A m c t h]
    dsimp only
    exact point_13_A m c t h _
  · rw [outsAt0_B m c t h]
    dsimp only
    exact point_13_B m c t h _

/-- The column sums after a number of points. -/
theorem sums (n : ℕ) (hn : n < cfg0.N) (y : S8x1024.Idx) : ((outsAt0 m c n hn).2.2 : S8x1024.Idx → EReal) y
    = ∑ s ∈ Finset.range (n + 1), (if h : s < 16 then blockPart (x0 m c) (D m c) (y 0).val (y 1) ⟨s, h⟩ else 0) := by
  have hN : cfg0.N = 16 := N_0
  induction n with
  | zero =>
    have h := outsAt0_A m c ⟨0, hn⟩ rfl
    dsimp only at h
    rw [h]
    dsimp only
    refine (point_14_A m c ⟨0, hn⟩ rfl y).trans ?_
    rw [Finset.sum_range_one, dif_pos (by omega), zero_add]
    rfl
  | succ n ih =>
    have hk : ¬(n + 1) % 16 = 0 := by omega
    have h := outsAt0_B m c ⟨n + 1, hn⟩ hk
    dsimp only at h
    rw [h]
    dsimp only
    refine (point_14_B m c ⟨n + 1, hn⟩ hk y).trans ?_
    rw [Finset.sum_range_succ, dif_pos (by omega)]
    exact congrArg (· + _) (ih (by omega))

/-- The column sums. -/
theorem final14 : (dats m 0 c).arrAt 14 cfg0.N = st (x0 m c) (D m c) := by
  refine (dats m 0 c).arrAt_eq_of_covers 14 _ (by decide +kernel) fun t hf y => ?_
  blk_simp
  rw [after0_14]
  have e : ((View.whole main_v9_2).slice (win0_14.rect t)).emb y = ix2 (y 0) (y 1) := by
    blk_ext [idx_val t]
  refine Eq.trans ?_ (congrArg (st (x0 m c) (D m c)) e).symm
  refine (sums m c t.val t.isLt _).trans ?_
  have ht : t.val + 1 = 16 := by
    have := (flush0_14 t).mp hf
    have := t.isLt
    have hN : cfg0.N = 16 := N_0
    omega
  rw [ht, Finset.sum_range]
  simp only [Fin.is_lt, dite_true]
  exact (Fin.sum_univ_tiles 16 512 rfl fun r : Fin 8192 => part (x0 m c) (D m c) (y 0).val (y 1) r).symm

end

/-! ## The reference -/

section
open Cert.Reference11Ideal.Read
variable (x0 : S8192x1024.Idx → EReal) (x2 : S1x1024.Idx → EReal) (x3 : S1024x2568.Idx → EReal) (x4 : S8192x512.Idx → EReal)
  (x5 x6 : S512x8192.Idx → EReal) (x7 : S8192x1024.Idx → EReal) (x8 : S8x8192.Idx → EReal) (x9 : S8192x1024.Idx → EReal)

/-- The five parts the gradient is put together from. -/
def pieces : List ((s : Shape) × (s.Idx → EReal)) :=
  [⟨⟨2, ![8192, 512]⟩, val_main_v0 (F := Ideal) x4⟩, ⟨⟨2, ![8192, 512]⟩, val_main_v1 (F := Ideal) x5⟩,
    ⟨⟨2, ![8192, 512]⟩, val_main_v2 (F := Ideal) x6⟩, ⟨⟨2, ![8192, 8]⟩, val_main_v3 (F := Ideal) x8⟩, ⟨⟨2, ![8192, 1024]⟩, val_main_v4 (F := Ideal) x7⟩]

theorem cat_Q (r : Fin 8192) (k : Fin 512) : val_main_v5 (F := Ideal) x4 x5 x6 x7 x8 (ix2 r (colQ k)) = x4 (ix2 r k) := by
  unfold val_main_v5
  refine (concatenate_apply_piece (t := ⟨2, ![8192, 2568]⟩) 1 (pieces x4 x5 x6 x7 x8) _ _ 0 (by simp [pieces])
    ⟨2, ![8192, 512]⟩ (val_main_v0 (F := Ideal) x4) rfl rfl 0 rfl (ix2 r k) ?_ ?_).trans ?_
  · intro b hb
    match b, hb with
    | ⟨0, _⟩, _ => rfl
    | ⟨1, _⟩, hb => exact absurd rfl hb
  · show 0 + k.val = k.val
    omega
  · rfl

theorem cat_K (r : Fin 8192) (k : Fin 512) : val_main_v5 (F := Ideal) x4 x5 x6 x7 x8 (ix2 r (colK k)) = x5 (ix2 k r) := by
  unfold val_main_v5
  refine (concatenate_apply_piece (t := ⟨2, ![8192, 2568]⟩) 1 (pieces x4 x5 x6 x7 x8) _ _ 1 (by simp [pieces])
    ⟨2, ![8192, 512]⟩ (val_main_v1 (F := Ideal) x5) rfl rfl 512 rfl (ix2 r k) ?_ rfl).trans ?_
  · intro b hb
    match b, hb with
    | ⟨0, _⟩, _ => rfl
    | ⟨1, _⟩, hb => exact absurd rfl hb
  · rw [val_main_v1_apply]
    exact congrArg x5 (funext fun a => match a with | ⟨0, _⟩ => rfl | ⟨1, _⟩ => rfl)

theorem cat_V (r : Fin 8192) (k : Fin 512) : val_main_v5 (F := Ideal) x4 x5 x6 x7 x8 (ix2 r (colV k)) = x6 (ix2 k r) := by
  unfold val_main_v5
  refine (concatenate_apply_piece (t := ⟨2, ![8192, 2568]⟩) 1 (pieces x4 x5 x6 x7 x8) _ _ 2 (by simp [pieces])
    ⟨2, ![8192, 512]⟩ (val_main_v2 (F := Ideal) x6) rfl rfl 1024 rfl (ix2 r k) ?_ rfl).trans ?_
  · intro b hb
    match b, hb with
    | ⟨0, _⟩, _ => rfl
    | ⟨1, _⟩, hb => exact absurd rfl hb
  · rw [val_main_v2_apply]
    exact congrArg x6 (funext fun a => match a with | ⟨0, _⟩ => rfl | ⟨1, _⟩ => rfl)

theorem cat_F (r : Fin 8192) (k : Fin 8) : val_main_v5 (F := Ideal) x4 x5 x6 x7 x8 (ix2 r (colF k)) = x8 (ix2 k r) := by
  unfold val_main_v5
  refine (concatenate_apply_piece (t := ⟨2, ![8192, 2568]⟩) 1 (pieces x4 x5 x6 x7 x8) _ _ 3 (by simp [pieces])
    ⟨2, ![8192, 8]⟩ (val_main_v3 (F := Ideal) x8) rfl rfl 1536 rfl (ix2 r k) ?_ rfl).trans ?_
  · intro b hb
    match b, hb with
    | ⟨0, _⟩, _ => rfl
    | ⟨1, _⟩, hb => exact absurd rfl hb
  · rw [val_main_v3_apply]
    exact congrArg x8 (funext fun a => match a with | ⟨0, _⟩ => rfl | ⟨1, _⟩ => rfl)

theorem cat_A (r : Fin 8192) (k : Fin 1024) : val_main_v5 (F := Ideal) x4 x5 x6 x7 x8 (ix2 r (colA k)) = x7 (ix2 r k) := by
  unfold val_main_v5
  refine (concatenate_apply_piece (t := ⟨2, ![8192, 2568]⟩) 1 (pieces x4 x5 x6 x7 x8) _ _ 4 (by simp [pieces])
    ⟨2, ![8192, 1024]⟩ (val_main_v4 (F := Ideal) x7) rfl rfl 1544 rfl (ix2 r k) ?_ rfl).trans ?_
  · intro b hb
    match b, hb with
    | ⟨0, _⟩, _ => rfl
    | ⟨1, _⟩, hb => exact absurd rfl hb
  · rfl

/-- The gradient in the modulated input. -/
theorem ref_du (i : S8192x1024.Idx) : val_main_v13 (F := Ideal) x3 x4 x5 x6 x7 x8 i = du x4 x5 x6 x7 x8 x3 (i 0) (i 1) := by
  obtain ⟨r, l, rfl⟩ : ∃ (r : Fin 8192) (l : Fin 1024), i = ix2 r l := ⟨i 0, i 1, by idx_vars i⟩
  rw [val_main_v13_apply]
  have el (k : Fin 2568) : lidx_main_v13 (ix2 r l) k = ix2 r k := funext fun a => match a with | ⟨0, _⟩ => rfl | ⟨1, _⟩ => rfl
  have er (k : Fin 2568) : ridx_main_v13 (ix2 r l) k = ix2 l k := funext fun a => match a with | ⟨0, _⟩ => rfl | ⟨1, _⟩ => rfl
  refine (Finset.sum_congr rfl fun k _ => by rw [el, er]).trans ((sum_parts fun k => val_main_v5 (F := Ideal) x4 x5 x6 x7 x8 (ix2 r k) * x3 (ix2 l k)).trans ?_)
  simp only [cat_Q, cat_K, cat_V, cat_F, cat_A]
  rfl

theorem out0 : val_main_v23 (F := Ideal) x5 x6 = kv x5 x6 := by
  funext i
  rw [val_main_v23_apply]
  unfold val_main_v22 kv
  idx_vars i
  pointwise

theorem out1 : val_main_v21 (F := Ideal) x2 x3 x4 x5 x6 x7 x8 x9
    = fun i => x9 (ix2 (i 0) (i 1)) + du x4 x5 x6 x7 x8 x3 (i 0) (i 1) * (1 + x2 (ix2 0 (i 1))) := by
  funext i
  rw [val_main_v21_apply, val_main_v20_apply, val_main_v19_apply, val_main_v7_apply, val_main_v6_apply, val_main_cst_apply, ref_du]
  have e : idx_main_v19 i = ix2 0 (i 1) := funext fun k => match k with
    | ⟨0, _⟩ => rfl
    | ⟨1, _⟩ => rfl
  rw [e, Ideal.ofBits_def, Ideal.ofBits_one_f32]
  idx_vars i
  rfl

theorem sum0 (i : S1x1024.Idx) : val_main_v18 (F := Ideal) x0 x3 x4 x5 x6 x7 x8 i
    = ∑ r : Fin 8192, part x0 (du x4 x5 x6 x7 x8 x3) 0 (i 1) r := by
  obtain ⟨p, l, rfl⟩ : ∃ (p : Fin 1) (l : Fin 1024), i = ix2 p l := ⟨i 0, i 1, by idx_vars i⟩
  rw [val_main_v18_apply, val_main_v17_apply, val_main_cst_1_apply, Ideal.ofBits_def, Ideal.ofBits_zero_f32]
  refine (zero_add _).trans (Finset.sum_congr rfl fun r _ => ?_)
  have e : idx_main_v17 (idx_main_v18 (ix2 p l)) r = ix2 r l := funext fun a => match a with
    | ⟨0, _⟩ => rfl
    | ⟨1, _⟩ => Fin.ext (by have h0 : p.val < 1 := p.isLt; show p.val * 1024 + l.val = l.val; omega)
  rw [e, val_main_v16_apply, ref_du]
  exact mul_comm _ _

theorem sum1 (i : S1x1024.Idx) : val_main_v15 (F := Ideal) x3 x4 x5 x6 x7 x8 i
    = ∑ r : Fin 8192, part x0 (du x4 x5 x6 x7 x8 x3) 1 (i 1) r := by
  obtain ⟨p, l, rfl⟩ : ∃ (p : Fin 1) (l : Fin 1024), i = ix2 p l := ⟨i 0, i 1, by idx_vars i⟩
  rw [val_main_v15_apply, val_main_v14_apply, val_main_cst_0_apply, Ideal.ofBits_def, Ideal.ofBits_zero_f32]
  refine (zero_add _).trans (Finset.sum_congr rfl fun r _ => ?_)
  have e : idx_main_v14 (idx_main_v15 (ix2 p l)) r = ix2 r l := funext fun a => match a with
    | ⟨0, _⟩ => rfl
    | ⟨1, _⟩ => Fin.ext (by have h0 : p.val < 1 := p.isLt; show p.val * 1024 + l.val = l.val; omega)
  rw [e, ref_du]
  rfl

/-- The two column sums over six rows of zeros. -/
theorem out2 : val_main_v25 (F := Ideal) x0 x3 x4 x5 x6 x7 x8
    = fun i => ∑ r : Fin 8192, part x0 (du x4 x5 x6 x7 x8 x3) (i 0).val (i 1) r := by
  funext i
  unfold val_main_v25 val_main_v24
  idx_vars i
  pointwise
  simp only [sum0, sum1 x0]
  have hz : ∀ i, val_main_call0_v0 (F := Ideal) i = 0 := by
    intro i
    show (((0#32).toInt : ℝ) : EReal) = 0
    simp
  fin_vals i0 with h0
  · obtain rfl : i0 = 0 := Fin.ext h0
    rfl
  · obtain rfl : i0 = 1 := Fin.ext h0
    rfl
  all_goals
    rw [dif_neg (by omega), hz]
    exact (Finset.sum_eq_zero fun r _ => part_high x0 _ _ (by show 2 ≤ i0.val; omega) _ r).symm

end

/-- The frame of the reference. -/
theorem frame_ref : Cert.quiescent_Reference11Ideal := fun m ρ _ =>
  θ_run_mono (Cert.Reference11Ideal.Value.run m ρ) fun r h => ⟨fun c => (h c).2.2.2, sem_eq_zero_of_no_sems (by decide) r.2⟩

/-- The three results are the reference's. -/
theorem value : Cert.algebraic_Kernel11Ideal_Reference11Ideal := by
  intro m g m' g' hpre hagree
  refine ⟨fun c => kv (x5 m c) (x6 m c),
    fun c => dx (x9 m c) (D m c) (x2 m c),
    fun c => st (x0 m c) (D m c),
    θ_run_mono (θ_run_and (Cert.Kernel11Ideal.Gen.unchanged m g) (Cert.Kernel11Ideal.Gen.run_main m g)) fun r h c =>
      ⟨((h.2 c).1 12).trans (final12 m c), ((h.2 c).1 13).trans (final13 m c), ((h.2 c).1 14).trans (final14 m c), h.1 c⟩,
    θ_run_mono (Cert.Reference11Ideal.Value.run m' g') fun r h c => ?_⟩
  obtain ⟨a0, a1, a2, a3, a4, a5, a6, a7, a8, a9⟩ := hagree c
  obtain ⟨h0, h1, h2, hu⟩ := h c
  refine ⟨h0.trans ((Cert.Reference11Ideal.Read.val_main_v23_eq _ _).trans ?_),
    h1.trans ((Cert.Reference11Ideal.Read.val_main_v21_eq _ _ _ _ _ _ _ _).trans ?_),
    h2.trans ((Cert.Reference11Ideal.Read.val_main_v25_eq _ _ _ _ _ _ _).trans ?_), hu⟩
  · rw [a5, a6]
    exact out0 _ _
  · rw [a2, a3, a4, a5, a6, a7, a8, a9]
    exact out1 _ _ _ _ _ _ _ _
  · rw [a0, a3, a4, a5, a6, a7, a8]
    exact out2 _ _ _ _ _ _ _

end Cert.InProjBack

end
-- ==== Proof.InProj.lean ====
/- The input projection: what the kernel's four result arrays hold, and that the reference's are the same. -/
module

public import proofs.«01_k».proof.Proof.Gen.Kernel10Ideal.Value
public import proofs.«01_k».proof.Proof.Gen.Reference10Ideal.Run
public import proofs.«01_k».proof.Proof.Gen.Reference10Ideal.Read
public import proofs.«01_k».proof.Defs
public import Idealize.ShloMosaic.Lib.Claim
public import Idealize.ShloMosaic.Lib.Pointwise.Index
public import Idealize.ShloMosaic.Lib.Pipeline.ValueKit.Acc
public import Idealize.ShloMosaic.Lib.Pipeline.ValueKit.Tiles
public import Idealize.ShloMosaic.Lib.Pipeline.ValueKit.Point
public import Idealize.ShloMosaic.Lib.Pipeline.ValueKit.Geometry
public import Idealize.ShloMosaic.Lib.Pipeline.ReadBack

@[expose] public section

set_option maxRecDepth 16384

noncomputable section

namespace Cert.InProj

open Cert.Kernel10Ideal Cert.Kernel10Ideal.Gen
open Idealize.ShloMosaic Idealize.ShloMosaic.TcCoe Idealize.SL.Sem
open Idealize.ShloMosaic.Pipeline (Dat)
open scoped BigOperators

/-- The modulated input. -/
def mod (x : S8192x1024.Idx → EReal) (sh sc : S1x1024.Idx → EReal) (r : Fin 8192) (k : Fin 1024) : EReal :=
  x (ix2 r k) * (1 + sc (ix2 0 k)) + sh (ix2 0 k)

/-- A column of the projection. -/
def proj (x : S8192x1024.Idx → EReal) (sh sc : S1x1024.Idx → EReal) (w : S1024x2568.Idx → EReal) (r : Fin 8192) (j : Fin 2568) : EReal :=
  ∑ k : Fin 1024, mod x sh sc r k * w (ix2 k j)

/-- The columns of the three results. -/
def colQ (j : Fin 1536) : Fin 2568 := ⟨j.val, by omega⟩
def colF (j : Fin 8) : Fin 2568 := ⟨1536 + j.val, by omega⟩
def colA (j : Fin 1024) : Fin 2568 := ⟨1544 + j.val, by omega⟩

/-- Row `r` of block `t` in the whole array. -/
def at_ (t : Fin 16) (r : Fin 512) : Fin 8192 := ⟨t.val * 512 + r.val, by omega⟩

/-! ## A block's arithmetic -/

section
variable (a : Vec Ideal S512x1024 .f32) (sc sh : Vec Ideal S1x1024 .f32)

theorem pay1 (r : Fin 512) (k : Fin 1024) : k0_pay1 a sc sh (ix2 r k) = a (ix2 r k) * (1 + sc (ix2 0 k)) + sh (ix2 0 k) := by
  pointwise [k0_pay1]

theorem pay2 (w : Vec Ideal S1024x1536 .bf16) (r : Fin 512) (j : Fin 1536) :
    k0_pay2 a sc sh w (ix2 r j) = ∑ k : Fin 1024, k0_pay1 a sc sh (ix2 r k) * w (ix2 k j) := by
  pointwise [k0_pay2]

theorem pay3 (w : Vec Ideal S1024x1024 .bf16) (r : Fin 512) (j : Fin 1024) :
    k0_pay3 a sc sh w (ix2 r j) = ∑ k : Fin 1024, k0_pay1 a sc sh (ix2 r k) * w (ix2 k j) := by
  pointwise [k0_pay3]

theorem pay4 (w : Vec Ideal S8x1024 .bf16) (j : Fin 8) (r : Fin 512) :
    k0_pay4 a sc sh w (ix2 j r) = ∑ k : Fin 1024, k0_pay1 a sc sh (ix2 r k) * w (ix2 j k) := by
  have h : k0_pay4 a sc sh w (ix2 j r) = ∑ k : Fin 1024, w (ix2 j k) * k0_pay1 a sc sh (ix2 r k) := by pointwise [k0_pay4]
  exact h.trans (Finset.sum_congr rfl fun k _ => mul_comm _ _)

end

/-! ## The blocks -/

theorem idx_val : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![t.val, 0]
    ∧ win0_6.index t = ![t.val, 0]
    ∧ win0_7.index t = ![0, t.val]
    ∧ win0_8.index t = ![t.val, 0] :=
  (by decide +kernel : ∀ t : Fin grid0.N, _)

section
variable (m : (ℓ : Loc nD τ sig) → Buf (Elt Ideal) ℓ) (c : Dev nD)

/-- The arguments. -/
abbrev x0 : S8192x1024.Idx → EReal := m ((c : Thread nD τ).loc main_arg0)
abbrev x1 : S1x1024.Idx → EReal := m ((c : Thread nD τ).loc main_arg1)
abbrev x2 : S1x1024.Idx → EReal := m ((c : Thread nD τ).loc main_arg2)
abbrev x3 : S1024x2568.Idx → EReal := m ((c : Thread nD τ).loc main_arg3)

theorem V1 (i : S8x1024.Idx) : (V m c main_v1 : S8x1024.Idx → EReal) i
    = concatenate S8x1024 0 [⟨S1x1024, x1 m c⟩, ⟨S1x1024, x2 m c⟩,
        ⟨S6x1024, broadcastInDim S6x1024 ![] bcast_S_S6x1024 (constant (F := Ideal) S_ .f32 0x00000000#32)⟩]
        concatenates_S1x1024_S1x1024_S6x1024_S8x1024_d0 i := by
  rfl

theorem V1_0 (l : Fin 1024) : (V m c main_v1 : S8x1024.Idx → EReal) (ix2 0 l) = x1 m c (ix2 0 l) := by
  rw [V1]
  pointwise

theorem V1_1 (l : Fin 1024) : (V m c main_v1 : S8x1024.Idx → EReal) (ix2 1 l) = x2 m c (ix2 0 l) := by
  rw [V1]
  pointwise

theorem V3 (k : Fin 1024) (j : Fin 1536) : (V m c main_v3 : S1024x1536.Idx → EReal) (ix2 k j) = x3 m c (ix2 k (colQ j)) := by
  trans extractStridedSlice S1024x1536 ![0, 0] (x3 m c) slices_S1024x2568_S1024x1536_0_0 (ix2 k j)
  · rfl
  pointwise
  rfl

theorem V4 (k : Fin 1024) (j : Fin 1024) : (V m c main_v4 : S1024x1024.Idx → EReal) (ix2 k j) = x3 m c (ix2 k (colA j)) := by
  trans extractStridedSlice S1024x1024 ![0, 1544] (x3 m c) slices_S1024x2568_S1024x1024_0_1544 (ix2 k j)
  · rfl
  pointwise
  rfl

theorem V6 (j : Fin 8) (k : Fin 1024) : (V m c main_v6 : S8x1024.Idx → EReal) (ix2 j k) = x3 m c (ix2 k (colF j)) := by
  trans transpose S8x1024 [1, 0] (extractStridedSlice S1024x8 ![0, 1536] (x3 m c) slices_S1024x2568_S1024x8_0_1536) transposes_S1024x8_S8x1024_1_0 (ix2 j k)
  · rfl
  pointwise
  rfl

variable (t : Fin cfg0.N)

theorem blk0 (r : Fin 512) (k : Fin 1024) : (iblk m c 0 t : S512x1024.Idx → EReal) (ix2 r k) = x0 m c (ix2 (at_ t r) k) := by
  blk_point [iblk, idx_val t]
  rfl

theorem blk1_0 (l : Fin 1024) : View.ld (iblk m c 1 t) r0_2 (ix2 0 l) = x1 m c (ix2 0 l) := by
  refine Eq.trans ?_ (V1_0 m c l)
  pointwise
  blk_point [iblk, idx_val t]

theorem blk1_1 (l : Fin 1024) : View.ld (iblk m c 1 t) r0_1 (ix2 0 l) = x2 m c (ix2 0 l) := by
  refine Eq.trans ?_ (V1_1 m c l)
  pointwise
  blk_point [iblk, idx_val t]

theorem blk2 (k : Fin 1024) (j : Fin 1536) : (iblk m c 2 t : S1024x1536.Idx → EReal) (ix2 k j) = x3 m c (ix2 k (colQ j)) := by
  refine Eq.trans ?_ (V3 m c k j)
  blk_point [iblk, idx_val t]

theorem blk3 (k : Fin 1024) (j : Fin 1024) : (iblk m c 3 t : S1024x1024.Idx → EReal) (ix2 k j) = x3 m c (ix2 k (colA j)) := by
  refine Eq.trans ?_ (V4 m c k j)
  blk_point [iblk, idx_val t]

theorem blk4 (j : Fin 8) (k : Fin 1024) : (iblk m c 4 t : S8x1024.Idx → EReal) (ix2 j k) = x3 m c (ix2 k (colF j)) := by
  refine Eq.trans ?_ (V6 m c j k)
  blk_point [iblk, idx_val t]

/-- The modulated block. -/
theorem mod_at (r : Fin 512) (k : Fin 1024) : k0_pay1 (iblk m c 0 t) (View.ld (iblk m c 1 t) r0_1) (View.ld (iblk m c 1 t) r0_2) (ix2 r k)
    = mod (x0 m c) (x1 m c) (x2 m c) (at_ t r) k := by
  rw [pay1, blk0, blk1_0, blk1_1]
  rfl

/-! ## The result arrays -/

/-- The queries, keys and values. -/
theorem final5 : (dats m 0 c).arrAt 5 cfg0.N = fun i => proj (x0 m c) (x1 m c) (x2 m c) (x3 m c) (i 0) (colQ (i 1)) := by
  refine (dats m 0 c).arrAt_eq_of_covers 5 _ (by decide +kernel) fun t hf y => ?_
  blk_simp
  rw [after0_5]
  have e : ((View.whole main_v7_0).slice (win0_5.rect t)).emb y = ix2 (at_ t (y 0)) (y 1) := by
    blk_ext [idx_val t]
    rfl
  refine Eq.trans ?_ (congrArg (fun i : S8192x1536.Idx => proj (x0 m c) (x1 m c) (x2 m c) (x3 m c) (i 0) (colQ (i 1))) e).symm
  frame_out
  obtain ⟨i, j, rfl⟩ : ∃ (i : Fin 512) (j : Fin 1536), y = ix2 i j := ⟨y 0, y 1, by idx_vars y⟩
  exact (pay2 _ _ _ _ i j).trans (Finset.sum_congr rfl fun k _ => congrArg₂ (· * ·) (mod_at m c t i k) (blk2 m c t k j))

/-- The gates. -/
theorem final6 : (dats m 0 c).arrAt 6 cfg0.N = fun i => proj (x0 m c) (x1 m c) (x2 m c) (x3 m c) (i 0) (colA (i 1)) := by
  refine (dats m 0 c).arrAt_eq_of_covers 6 _ (by decide +kernel) fun t hf y => ?_
  blk_simp
  rw [after0_6]
  have e : ((View.whole main_v7_1).slice (win0_6.rect t)).emb y = ix2 (at_ t (y 0)) (y 1) := by
    blk_ext [idx_val t]
    rfl
  refine Eq.trans ?_ (congrArg (fun i : S8192x1024.Idx => proj (x0 m c) (x1 m c) (x2 m c) (x3 m c) (i 0) (colA (i 1))) e).symm
  frame_out
  obtain ⟨i, j, rfl⟩ : ∃ (i : Fin 512) (j : Fin 1024), y = ix2 i j := ⟨y 0, y 1, by idx_vars y⟩
  exact (pay3 _ _ _ _ i j).trans (Finset.sum_congr rfl fun k _ => congrArg₂ (· * ·) (mod_at m c t i k) (blk3 m c t k j))

/-- The forget gates, transposed. -/
theorem final7 : (dats m 0 c).arrAt 7 cfg0.N = fun i => proj (x0 m c) (x1 m c) (x2 m c) (x3 m c) (i 1) (colF (i 0)) := by
  refine (dats m 0 c).arrAt_eq_of_covers 7 _ (by decide +kernel) fun t hf y => ?_
  blk_simp
  rw [after0_7]
  have e : ((View.whole main_v7_2).slice (win0_7.rect t)).emb y = ix2 (y 0) (at_ t (y 1)) := by
    blk_ext [idx_val t]
    rfl
  refine Eq.trans ?_ (congrArg (fun i : S8x8192.Idx => proj (x0 m c) (x1 m c) (x2 m c) (x3 m c) (i 1) (colF (i 0))) e).symm
  frame_out
  obtain ⟨i, j, rfl⟩ : ∃ (i : Fin 8) (j : Fin 512), y = ix2 i j := ⟨y 0, y 1, by idx_vars y⟩
  exact (pay4 _ _ _ _ i j).trans (Finset.sum_congr rfl fun k _ => congrArg₂ (· * ·) (mod_at m c t j k) (blk4 m c t i k))

/-- The modulated input. -/
theorem final8 : (dats m 0 c).arrAt 8 cfg0.N = fun i => mod (x0 m c) (x1 m c) (x2 m c) (i 0) (i 1) := by
  refine (dats m 0 c).arrAt_eq_of_covers 8 _ (by decide +kernel) fun t hf y => ?_
  blk_simp
  rw [after0_8]
  have e : ((View.whole main_v7_3).slice (win0_8.rect t)).emb y = ix2 (at_ t (y 0)) (y 1) := by
    blk_ext [idx_val t]
    rfl
  refine Eq.trans ?_ (congrArg (fun i : S8192x1024.Idx => mod (x0 m c) (x1 m c) (x2 m c) (i 0) (i 1)) e).symm
  frame_out
  obtain ⟨i, j, rfl⟩ : ∃ (i : Fin 512) (j : Fin 1024), y = ix2 i j := ⟨y 0, y 1, by idx_vars y⟩
  exact mod_at m c t i j

end

/-! ## The reference -/

section
open Cert.Reference10Ideal.Read
variable (a : S8192x1024.Idx → EReal) (sh sc : S1x1024.Idx → EReal) (w : S1024x2568.Idx → EReal)

theorem ref_mod (i : S8192x1024.Idx) : val_main_v5 (F := Ideal) a sh sc i = mod a sh sc (i 0) (i 1) := by
  rw [val_main_v5_apply, val_main_v3_apply, val_main_v4_apply, val_main_v2_apply, val_main_v1_apply, val_main_v0_apply, val_main_cst_apply]
  have e : idx_main_v2 i = ix2 0 (i 1) := funext fun k => match k with
    | ⟨0, _⟩ => rfl
    | ⟨1, _⟩ => rfl
  have e' : idx_main_v4 i = ix2 0 (i 1) := e
  rw [e, e', Ideal.ofBits_def, Ideal.ofBits_one_f32]
  idx_vars i
  rfl

theorem ref_proj (i : (⟨2, ![8192, 2568]⟩ : Shape).Idx) : val_main_v6 (F := Ideal) a sh sc w i = proj a sh sc w (i 0) (i 1) := by
  rw [val_main_v6_apply]
  refine Finset.sum_congr rfl fun k _ => congrArg₂ (· * ·) (ref_mod a sh sc _) (congrArg w ?_)
  exact funext fun k => match k with
    | ⟨0, _⟩ => rfl
    | ⟨1, _⟩ => rfl

theorem out0 : val_main_v8 (F := Ideal) a sh sc w = fun i => proj a sh sc w (i 0) (colQ (i 1)) := by
  funext i
  rw [val_main_v8_apply, val_main_v7_apply, ref_proj]
  rfl

theorem out1 : val_main_v9 (F := Ideal) a sh sc w = fun i => proj a sh sc w (i 0) (colA (i 1)) := by
  funext i
  rw [val_main_v9_apply, ref_proj]
  rfl

theorem out2 : val_main_v11 (F := Ideal) a sh sc w = fun i => proj a sh sc w (i 1) (colF (i 0)) := by
  funext i
  rw [val_main_v11_apply, val_main_v10_apply, ref_proj]
  rfl

theorem out3 : val_main_v12 (F := Ideal) a sh sc = fun i => mod a sh sc (i 0) (i 1) := by
  funext i
  rw [val_main_v12_apply, ref_mod]
  rfl

end

/-- The frame of the reference. -/
theorem frame_ref : Cert.quiescent_Reference10Ideal := fun m ρ _ =>
  θ_run_mono (Cert.Reference10Ideal.Value.run m ρ) fun r h => ⟨fun c => (h c).2.2.2.2, sem_eq_zero_of_no_sems (by decide) r.2⟩

/-- The four results are the reference's. -/
theorem value : Cert.algebraic_Kernel10Ideal_Reference10Ideal := by
  intro m g m' g' hpre hagree
  refine ⟨fun c => fun i => proj (x0 m c) (x1 m c) (x2 m c) (x3 m c) (i 0) (colQ (i 1)), fun c => fun i => proj (x0 m c) (x1 m c) (x2 m c) (x3 m c) (i 0) (colA (i 1)), fun c => fun i => proj (x0 m c) (x1 m c) (x2 m c) (x3 m c) (i 1) (colF (i 0)), fun c => fun i => mod (x0 m c) (x1 m c) (x2 m c) (i 0) (i 1),
    θ_run_mono (θ_run_and (Cert.Kernel10Ideal.Gen.unchanged m g) (Cert.Kernel10Ideal.Gen.run_main m g)) fun r h c =>
      ⟨((h.2 c).1 5).trans (final5 m c), ((h.2 c).1 6).trans (final6 m c), ((h.2 c).1 7).trans (final7 m c), ((h.2 c).1 8).trans (final8 m c), h.1 c⟩,
    θ_run_mono (Cert.Reference10Ideal.Value.run m' g') fun r h c => ?_⟩
  obtain ⟨a0, a1, a2, a3⟩ := hagree c
  obtain ⟨h0, h1, h2, h3, hu⟩ := h c
  refine ⟨h0.trans ((Cert.Reference10Ideal.Read.val_main_v8_eq _ _ _ _).trans ?_), h1.trans ((Cert.Reference10Ideal.Read.val_main_v9_eq _ _ _ _).trans ?_),
    h2.trans ((Cert.Reference10Ideal.Read.val_main_v11_eq _ _ _ _).trans ?_), h3.trans ((Cert.Reference10Ideal.Read.val_main_v12_eq _ _ _).trans ?_), hu⟩
  · rw [a0, a1, a2, a3]
    exact out0 _ _ _ _
  · rw [a0, a1, a2, a3]
    exact out1 _ _ _ _
  · rw [a0, a1, a2, a3]
    exact out2 _ _ _ _
  · rw [a0, a1, a2]
    exact out3 _ _ _

end Cert.InProj

end
-- ==== Proof.WeightSum.lean ====
/- The gradient of a product in its weight, as a sum over the rows, and that sum cut in two halves. -/
module

public import Idealize.ShloMosaic.Lib.Pointwise.Sums
public import Idealize.ShloMosaic.Lib.Pointwise.Index
public import Idealize.ShloMosaic.Lib.Pipeline.Value
public import Idealize.ShloMosaic.PureOps.Ideal.Laws

@[expose] public section

noncomputable section

namespace Cert.WeightSum

open Idealize.ShloMosaic
open scoped BigOperators

/-- Row `r` of half `k` among all rows. -/
def row2 (k : Fin 2) (r : Fin 4096) : Fin 8192 := ⟨k.val * 4096 + r.val, by omega⟩

/-- Place `i` of tile `q`. -/
def tile {T N : ℕ} (q : ℕ) (hq : q * T + T ≤ N) (i : Fin T) : Fin N := ⟨q * T + i.val, lt_of_lt_of_le (Nat.add_lt_add_left i.isLt _) hq⟩

/-- Column `j` of shard `d`. -/
def col (d : Fin 8) (j : Fin 512) : Fin 4096 := ⟨d.val * 512 + j.val, by omega⟩

/-- The gradient in the weight at row `i` and column `j`: the sum over the rows of input times incoming gradient. -/
def grad {p q : ℕ} (a : (⟨2, ![8192, p]⟩ : Shape).Idx → EReal) (b : (⟨2, ![8192, q]⟩ : Shape).Idx → EReal) (i : Fin p) (j : Fin q) : EReal :=
  ∑ r : Fin 8192, a (ix2 r i) * b (ix2 r j)

/-- One half's part of it. -/
def half {p q : ℕ} (a : (⟨2, ![8192, p]⟩ : Shape).Idx → EReal) (b : (⟨2, ![8192, q]⟩ : Shape).Idx → EReal) (k : Fin 2) (i : Fin p) (j : Fin q) : EReal :=
  ∑ r : Fin 4096, a (ix2 (row2 k r) i) * b (ix2 (row2 k r) j)

/-- The two halves add up to the whole. -/
theorem halves {p q : ℕ} (a : (⟨2, ![8192, p]⟩ : Shape).Idx → EReal) (b : (⟨2, ![8192, q]⟩ : Shape).Idx → EReal) (i : Fin p) (j : Fin q) :
    half a b 0 i j + half a b 1 i j = grad a b i j := by
  have h := Fin.sum_univ_tiles 2 4096 rfl fun r : Fin 8192 => a (ix2 r i) * b (ix2 r j)
  rw [Fin.sum_univ_two] at h
  exact h.symm

end Cert.WeightSum

end
-- ==== Proof.WeightForget.lean ====
/- The gradient, transposed, of the weight of the forget gates: what the kernel's accumulator and its result hold. -/
module

public import proofs.«01_k».proof.Proof.WeightSum
public import proofs.«01_k».proof.Proof.Gen.Kernel8Ideal.Value
public import proofs.«01_k».proof.Proof.Gen.Reference8Ideal.Read
public import proofs.«01_k».proof.Defs
public import Idealize.ShloMosaic.Lib.Claim
public import Idealize.ShloMosaic.Lib.Pipeline.ValueKit.Acc
public import Idealize.ShloMosaic.Lib.Pipeline.ValueKit.Tiles
public import Idealize.ShloMosaic.Lib.Pipeline.ValueKit.Point
public import Idealize.ShloMosaic.Lib.Pipeline.ValueKit.Geometry
public import Idealize.ShloMosaic.Lib.Pipeline.ReadBack

@[expose] public section

set_option maxRecDepth 16384

noncomputable section

namespace Cert.WeightForget

open Cert.Kernel8Ideal Cert.Kernel8Ideal.Gen Cert.WeightSum
open Idealize.ShloMosaic Idealize.ShloMosaic.TcCoe Idealize.SL.Sem
open Idealize.ShloMosaic.Pipeline (Dat)
open scoped BigOperators

/-- One step of the accumulator: what it held plus a half's product. -/
theorem step (v : Vec Ideal S8x1024 .f32) (a : Vec Ideal S8x4096 .f32) (b : Vec Ideal S4096x1024 .bf16) (i : Fin 8) (j : Fin 1024) :
    k0_pay2 v a b (ix2 i j) = v (ix2 i j) + ∑ r : Fin 4096, a (ix2 i r) * b (ix2 r j) := by
  pointwise [k0_pay2]

theorem idx_val : ∀ t : Fin cfg0.N, win0_0.index t = ![0, t.val % 2]
    ∧ win0_1.index t = ![t.val % 2, 0]
    ∧ win0_2.index t = ![0, 0] :=
  (by decide +kernel : ∀ t : Fin grid0.N, _)

variable (m : (ℓ : Loc nD τ sig) → Buf (Elt Ideal) ℓ) (c : Dev nD) (t : Fin cfg0.N)

/-- The arguments, the first with its rows and columns exchanged. -/
abbrev x0 : S8x8192.Idx → EReal := m ((c : Thread nD τ).loc main_arg0)
abbrev x1 : S8192x1024.Idx → EReal := m ((c : Thread nD τ).loc main_arg1)
abbrev xt : (⟨2, ![8192, 8]⟩ : Shape).Idx → EReal := fun i => x0 m c (ix2 (i 1) (i 0))

theorem blk0 (k : Fin 2) (hk : t.val % 2 = k.val) (r : Fin 4096) (i : Fin 8) : (iblk m c 0 t : S8x4096.Idx → EReal) (ix2 i r)
    = xt m c (ix2 (row2 k r) i) := by
  show _ = x0 m c (ix2 i (row2 k r))
  blk_point [iblk, idx_val t]
  exact congrArg (· * 4096 + r.val) hk

theorem blk1 (k : Fin 2) (hk : t.val % 2 = k.val) (r : Fin 4096) (j : Fin 1024) : (iblk m c 1 t : S4096x1024.Idx → EReal) (ix2 r j)
    = x1 m c (ix2 (row2 k r) j) := by
  blk_point [iblk, idx_val t]
  exact congrArg (· * 4096 + r.val) hk

/-- A half's product at a grid point. -/
theorem prod (k : Fin 2) (hk : t.val % 2 = k.val) (v : Vec Ideal S8x1024 .f32) (i : Fin 8) (j : Fin 1024) :
    k0_pay2 v (iblk m c 0 t) (iblk m c 1 t) (ix2 i j) = v (ix2 i j) + half (xt m c) (x1 m c) k i j :=
  (step v _ _ i j).trans (congrArg (v (ix2 i j) + ·) (Finset.sum_congr rfl fun r _ =>
    congrArg₂ (· * ·) (blk0 m c t k hk r i) (blk1 m c t k hk r j)))

/-- The accumulator after a first half. -/
theorem first (h0 : t.val % 2 = 0) (h1 : ¬t.val % 2 = 1) (i : Fin 8) (j : Fin 1024) :
    ((outsAt0 m c t.val t.isLt).2 : S8x1024.Idx → EReal) (ix2 i j) = half (xt m c) (x1 m c) 0 i j := by
  rw [outsAt0_A m c t h0 h1]
  dsimp only
  frame_out
  refine (prod m c t 0 h0 _ i j).trans ?_
  rw [show (k0_pay1 (F := Ideal)) (ix2 i j) = 0 from Ideal.ofBits_zero .f32]
  exact zero_add _

/-- The result block after a second half. -/
theorem second (h0 : ¬t.val % 2 = 0) (h1 : t.val % 2 = 1) (i : Fin 8) (j : Fin 1024) :
    ((outsAt0 m c t.val t.isLt).1 : S8x1024.Idx → EReal) (ix2 i j) = grad (xt m c) (x1 m c) i j := by
  have hlt : t.val - 1 < cfg0.N := lt_of_le_of_lt (Nat.sub_le _ _) t.isLt
  have hf := first m c ⟨t.val - 1, hlt⟩ (show (t.val - 1) % 2 = 0 by omega) (show ¬(t.val - 1) % 2 = 1 by omega) i j
  rw [outsAt0_B m c t h0 h1]
  dsimp only
  frame_out
  refine (prod m c t 1 h1 _ i j).trans ?_
  rw [read_unread_whole]
  exact (congrArg (· + _) hf).trans (halves _ _ _ _)

/-- The result array. -/
theorem final : (dats m 0 c).arrAt 2 cfg0.N = fun i => grad (xt m c) (x1 m c) (i 0) (i 1) := by
  refine (dats m 0 c).arrAt_eq_of_covers 2 _ (by decide +kernel) fun t hf y => ?_
  have h1 : t.val % 2 = 1 := (flush0_2 t).mp hf
  blk_simp
  rw [after0_2]
  have e : ((View.whole main_v0).slice (win0_2.rect t)).emb y = ix2 (y 0) (y 1) := by
    blk_ext [idx_val t]
  refine Eq.trans ?_ (congrArg (fun i : S8x1024.Idx => grad (xt m c) (x1 m c) (i 0) (i 1)) e).symm
  obtain ⟨i, j, rfl⟩ : ∃ (i : Fin 8) (j : Fin 1024), y = ix2 i j := ⟨y 0, y 1, by idx_vars y⟩
  exact second m c t (by omega) h1 i j

open Cert.Reference8Ideal.Read in
/-- The reference's result. -/
theorem ref (a : S8x8192.Idx → EReal) (b : S8192x1024.Idx → EReal) :
    val_main_v7 (F := Ideal) a b = fun i => grad (fun i : (⟨2, ![8192, 8]⟩ : Shape).Idx => a (ix2 (i 1) (i 0))) b (i 0) (i 1) := by
  funext i
  rw [val_main_v7_apply]
  show val_main_v5 (F := Ideal) a b _ = _
  rw [val_main_v5_apply, val_main_v4_apply]
  refine Finset.sum_congr rfl fun r _ => ?_
  refine congrArg₂ (fun k l => k * b l) ?_ ?_
  · show val_main_v0 (F := Ideal) a _ = _
    rw [val_main_v0_apply]
    refine congrArg a ?_
    exact funext fun k => match k with
      | ⟨0, _⟩ => rfl
      | ⟨1, _⟩ => rfl
  · exact funext fun k => match k with
      | ⟨0, _⟩ => rfl
      | ⟨1, _⟩ => rfl

/-- The frame of the reference. -/
theorem frame_ref : Cert.quiescent_Reference8Ideal := fun m ρ _ =>
  θ_run_mono (Cert.Reference8Ideal.Value.run m ρ) fun r h => ⟨fun c => (h c).2, sem_eq_zero_of_no_sems (by decide) r.2⟩

/-- The kernel's result is the reference's. -/
theorem value : Cert.algebraic_Kernel8Ideal_Reference8Ideal := by
  intro m g m' g' hpre hagree
  refine ⟨fun c => fun i => grad (xt m c) (x1 m c) (i 0) (i 1),
    θ_run_mono (Cert.Kernel8Ideal.Value.run_blocks m g) fun r h c => ⟨(h c).1.trans (final m c), (h c).2⟩,
    θ_run_mono (Cert.Reference8Ideal.Value.run m' g') fun r h c => ?_⟩
  obtain ⟨h0, h1⟩ := hagree c
  refine ⟨(h c).1.trans ((Cert.Reference8Ideal.Read.val_main_v7_eq _ _).trans ?_), (h c).2⟩
  rw [h0, h1]
  exact ref _ _

end Cert.WeightForget

end
-- ==== Proof.WeightKV.lean ====
/- The gradient, transposed, of the weight of the attention's keys and values: what the kernel's accumulator and its result hold. -/
module

public import proofs.«01_k».proof.Proof.WeightSum
public import proofs.«01_k».proof.Proof.Gen.Kernel7Ideal.Value
public import proofs.«01_k».proof.Proof.Gen.Reference7Ideal.Read
public import proofs.«01_k».proof.Defs
public import Idealize.ShloMosaic.Lib.Claim
public import Idealize.ShloMosaic.Lib.Pipeline.ValueKit.Acc
public import Idealize.ShloMosaic.Lib.Pipeline.ValueKit.Tiles
public import Idealize.ShloMosaic.Lib.Pipeline.ValueKit.Point
public import Idealize.ShloMosaic.Lib.Pipeline.ValueKit.Geometry
public import Idealize.ShloMosaic.Lib.Pipeline.ReadBack

@[expose] public section

set_option maxRecDepth 16384

noncomputable section

namespace Cert.WeightKV

open Cert.Kernel7Ideal Cert.Kernel7Ideal.Gen Cert.WeightSum
open Idealize.ShloMosaic Idealize.ShloMosaic.TcCoe Idealize.SL.Sem
open Idealize.ShloMosaic.Pipeline (Dat)
open scoped BigOperators

/-- One step of the accumulator: what it held plus a half's product. -/
theorem step (v : Vec Ideal S512x1024 .f32) (a : Vec Ideal S512x4096 .bf16) (b : Vec Ideal S4096x1024 .bf16) (i : Fin 512) (j : Fin 1024) :
    k0_pay2 v a b (ix2 i j) = v (ix2 i j) + ∑ r : Fin 4096, a (ix2 i r) * b (ix2 r j) := by
  pointwise [k0_pay2]

theorem idx_val : ∀ t : Fin cfg0.N, win0_0.index t = ![t.val / 2, t.val % 2]
    ∧ win0_1.index t = ![t.val % 2, 0]
    ∧ win0_2.index t = ![t.val / 2, 0] :=
  (by decide +kernel : ∀ t : Fin grid0.N, _)

variable (m : (ℓ : Loc nD τ sig) → Buf (Elt Ideal) ℓ) (c : Dev nD) (t : Fin cfg0.N)

theorem lt_p : t.val / 2 * 512 + 512 ≤ 1024 := by
  have := t.isLt
  have hN : cfg0.N = 4 := N_0
  omega

/-- The arguments, the first with its rows and columns exchanged. -/
abbrev x0 : S1024x8192.Idx → EReal := m ((c : Thread nD τ).loc main_arg0)
abbrev x1 : S8192x1024.Idx → EReal := m ((c : Thread nD τ).loc main_arg1)
abbrev xt : (⟨2, ![8192, 1024]⟩ : Shape).Idx → EReal := fun i => x0 m c (ix2 (i 1) (i 0))

theorem blk0 (k : Fin 2) (hk : t.val % 2 = k.val) (r : Fin 4096) (i : Fin 512) : (iblk m c 0 t : S512x4096.Idx → EReal) (ix2 i r)
    = xt m c (ix2 (row2 k r) (tile (t.val / 2) (lt_p t) i)) := by
  show _ = x0 m c (ix2 (tile (t.val / 2) (lt_p t) i) (row2 k r))
  blk_point [iblk, idx_val t]
  · rfl
  · exact congrArg (· * 4096 + r.val) hk

theorem blk1 (k : Fin 2) (hk : t.val % 2 = k.val) (r : Fin 4096) (j : Fin 1024) : (iblk m c 1 t : S4096x1024.Idx → EReal) (ix2 r j)
    = x1 m c (ix2 (row2 k r) j) := by
  blk_point [iblk, idx_val t]
  exact congrArg (· * 4096 + r.val) hk

/-- A half's product at a grid point. -/
theorem prod (k : Fin 2) (hk : t.val % 2 = k.val) (v : Vec Ideal S512x1024 .f32) (i : Fin 512) (j : Fin 1024) :
    k0_pay2 v (iblk m c 0 t) (iblk m c 1 t) (ix2 i j) = v (ix2 i j) + half (xt m c) (x1 m c) k (tile (t.val / 2) (lt_p t) i) j :=
  (step v _ _ i j).trans (congrArg (v (ix2 i j) + ·) (Finset.sum_congr rfl fun r _ =>
    congrArg₂ (· * ·) (blk0 m c t k hk r i) (blk1 m c t k hk r j)))

/-- The accumulator after a first half. -/
theorem first (h0 : t.val % 2 = 0) (h1 : ¬t.val % 2 = 1) (i : Fin 512) (j : Fin 1024) :
    ((outsAt0 m c t.val t.isLt).2 : S512x1024.Idx → EReal) (ix2 i j) = half (xt m c) (x1 m c) 0 (tile (t.val / 2) (lt_p t) i) j := by
  rw [outsAt0_A m c t h0 h1]
  dsimp only
  frame_out
  refine (prod m c t 0 h0 _ i j).trans ?_
  rw [show (k0_pay1 (F := Ideal)) (ix2 i j) = 0 from Ideal.ofBits_zero .f32]
  exact zero_add _

/-- The result block after a second half. -/
theorem second (h0 : ¬t.val % 2 = 0) (h1 : t.val % 2 = 1) (i : Fin 512) (j : Fin 1024) :
    ((outsAt0 m c t.val t.isLt).1 : S512x1024.Idx → EReal) (ix2 i j) = grad (xt m c) (x1 m c) (tile (t.val / 2) (lt_p t) i) j := by
  have hlt : t.val - 1 < cfg0.N := lt_of_le_of_lt (Nat.sub_le _ _) t.isLt
  have hf := first m c ⟨t.val - 1, hlt⟩ (show (t.val - 1) % 2 = 0 by omega) (show ¬(t.val - 1) % 2 = 1 by omega) i j
  rw [outsAt0_B m c t h0 h1]
  dsimp only
  frame_out
  refine (prod m c t 1 h1 _ i j).trans ?_
  rw [read_unread_whole]
  refine Eq.trans (congrArg (· + _) hf) (Eq.trans ?_ (halves _ _ _ _))
  refine congrArg (fun q => half (xt m c) (x1 m c) 0 q j + _) (Fin.ext ?_)
  show (t.val - 1) / 2 * 512 + i.val = t.val / 2 * 512 + i.val
  omega

/-- The result array. -/
theorem final : (dats m 0 c).arrAt 2 cfg0.N = fun i => grad (xt m c) (x1 m c) (i 0) (i 1) := by
  refine (dats m 0 c).arrAt_eq_of_covers 2 _ (by decide +kernel) fun t hf y => ?_
  have h1 : t.val % 2 = 1 := (flush0_2 t).mp hf
  blk_simp
  rw [after0_2]
  have e : ((View.whole main_v0).slice (win0_2.rect t)).emb y = ix2 (tile (t.val / 2) (lt_p t) (y 0)) (y 1) := by
    blk_ext [idx_val t]
    rfl
  refine Eq.trans ?_ (congrArg (fun i : S1024x1024.Idx => grad (xt m c) (x1 m c) (i 0) (i 1)) e).symm
  obtain ⟨i, j, rfl⟩ : ∃ (i : Fin 512) (j : Fin 1024), y = ix2 i j := ⟨y 0, y 1, by idx_vars y⟩
  exact second m c t (by omega) h1 i j

open Cert.Reference7Ideal.Read in
/-- The reference's result. -/
theorem ref (a : S1024x8192.Idx → EReal) (b : S8192x1024.Idx → EReal) :
    val_main_v8 (F := Ideal) a b = fun i => grad (fun i : (⟨2, ![8192, 1024]⟩ : Shape).Idx => a (ix2 (i 1) (i 0))) b (i 0) (i 1) := by
  funext i
  rw [val_main_v8_apply]
  show val_main_v6 (F := Ideal) a b _ = _
  rw [val_main_v6_apply, val_main_v5_apply]
  refine Finset.sum_congr rfl fun r _ => ?_
  refine congrArg₂ (fun k l => k * b l) ?_ ?_
  · show val_main_v0 (F := Ideal) a _ = _
    rw [val_main_v0_apply]
    refine congrArg a ?_
    exact funext fun k => match k with
      | ⟨0, _⟩ => rfl
      | ⟨1, _⟩ => rfl
  · exact funext fun k => match k with
      | ⟨0, _⟩ => rfl
      | ⟨1, _⟩ => rfl

/-- The frame of the reference. -/
theorem frame_ref : Cert.quiescent_Reference7Ideal := fun m ρ _ =>
  θ_run_mono (Cert.Reference7Ideal.Value.run m ρ) fun r h => ⟨fun c => (h c).2, sem_eq_zero_of_no_sems (by decide) r.2⟩

/-- The kernel's result is the reference's. -/
theorem value : Cert.algebraic_Kernel7Ideal_Reference7Ideal := by
  intro m g m' g' hpre hagree
  refine ⟨fun c => fun i => grad (xt m c) (x1 m c) (i 0) (i 1),
    θ_run_mono (Cert.Kernel7Ideal.Value.run_blocks m g) fun r h c => ⟨(h c).1.trans (final m c), (h c).2⟩,
    θ_run_mono (Cert.Reference7Ideal.Value.run m' g') fun r h c => ?_⟩
  obtain ⟨h0, h1⟩ := hagree c
  refine ⟨(h c).1.trans ((Cert.Reference7Ideal.Read.val_main_v8_eq _ _).trans ?_), (h c).2⟩
  rw [h0, h1]
  exact ref _ _

end Cert.WeightKV

end
-- ==== Proof.WeightConv.lean ====
/- The gradient of the weight of the convolution's values and gates: what the kernel's accumulator and its result hold. -/
module

public import proofs.«01_k».proof.Proof.WeightSum
public import proofs.«01_k».proof.Proof.Gen.Kernel6Ideal.Value
public import proofs.«01_k».proof.Proof.Gen.Reference6Ideal.Read
public import proofs.«01_k».proof.Defs
public import Idealize.ShloMosaic.Lib.Claim
public import Idealize.ShloMosaic.Lib.Pipeline.ValueKit.Acc
public import Idealize.ShloMosaic.Lib.Pipeline.ValueKit.Tiles
public import Idealize.ShloMosaic.Lib.Pipeline.ValueKit.Point
public import Idealize.ShloMosaic.Lib.Pipeline.ValueKit.Geometry
public import Idealize.ShloMosaic.Lib.Pipeline.ReadBack

@[expose] public section

set_option maxRecDepth 16384

noncomputable section

namespace Cert.WeightConv

open Cert.Kernel6Ideal Cert.Kernel6Ideal.Gen Cert.WeightSum
open Idealize.ShloMosaic Idealize.ShloMosaic.TcCoe Idealize.SL.Sem
open Idealize.ShloMosaic.Pipeline (Dat)
open scoped BigOperators

/-- One step of the accumulator: what it held plus a half's product. -/
theorem step (v : Vec Ideal S1024x512 .f32) (a : Vec Ideal S4096x1024 .bf16) (b : Vec Ideal S4096x512 .bf16) (i : Fin 1024) (j : Fin 512) :
    k0_pay2 v a b (ix2 i j) = v (ix2 i j) + ∑ r : Fin 4096, a (ix2 r i) * b (ix2 r j) := by
  pointwise [k0_pay2]

theorem idx_val : ∀ t : Fin cfg0.N, win0_0.index t = ![t.val % 2, 0]
    ∧ win0_1.index t = ![t.val % 2, t.val / 2]
    ∧ win0_2.index t = ![0, t.val / 2] :=
  (by decide +kernel : ∀ t : Fin grid0.N, _)

variable (m : (ℓ : Loc nD τ sig) → Buf (Elt Ideal) ℓ) (c : Dev nD) (t : Fin cfg0.N)

theorem lt_p : t.val / 2 * 512 + 512 ≤ 1024 := by
  have := t.isLt
  have hN : cfg0.N = 4 := N_0
  omega

/-- The arguments. -/
abbrev x0 : S8192x1024.Idx → EReal := m ((c : Thread nD τ).loc main_arg0)
abbrev x1 : S8192x1024.Idx → EReal := m ((c : Thread nD τ).loc main_arg1)

theorem blk0 (k : Fin 2) (hk : t.val % 2 = k.val) (r : Fin 4096) (i : Fin 1024) : (iblk m c 0 t : S4096x1024.Idx → EReal) (ix2 r i)
    = x0 m c (ix2 (row2 k r) i) := by
  blk_point [iblk, idx_val t]
  exact congrArg (· * 4096 + r.val) hk

theorem blk1 (k : Fin 2) (hk : t.val % 2 = k.val) (r : Fin 4096) (j : Fin 512) : (iblk m c 1 t : S4096x512.Idx → EReal) (ix2 r j)
    = x1 m c (ix2 (row2 k r) (tile (t.val / 2) (lt_p t) j)) := by
  blk_point [iblk, idx_val t]
  · exact congrArg (· * 4096 + r.val) hk
  · rfl

/-- A half's product at a grid point. -/
theorem prod (k : Fin 2) (hk : t.val % 2 = k.val) (v : Vec Ideal S1024x512 .f32) (i : Fin 1024) (j : Fin 512) :
    k0_pay2 v (iblk m c 0 t) (iblk m c 1 t) (ix2 i j) = v (ix2 i j) + half (x0 m c) (x1 m c) k i (tile (t.val / 2) (lt_p t) j) :=
  (step v _ _ i j).trans (congrArg (v (ix2 i j) + ·) (Finset.sum_congr rfl fun r _ =>
    congrArg₂ (· * ·) (blk0 m c t k hk r i) (blk1 m c t k hk r j)))

/-- The accumulator after a first half. -/
theorem first (h0 : t.val % 2 = 0) (h1 : ¬t.val % 2 = 1) (i : Fin 1024) (j : Fin 512) :
    ((outsAt0 m c t.val t.isLt).2 : S1024x512.Idx → EReal) (ix2 i j) = half (x0 m c) (x1 m c) 0 i (tile (t.val / 2) (lt_p t) j) := by
  rw [outsAt0_A m c t h0 h1]
  dsimp only
  frame_out
  refine (prod m c t 0 h0 _ i j).trans ?_
  rw [show (k0_pay1 (F := Ideal)) (ix2 i j) = 0 from Ideal.ofBits_zero .f32]
  exact zero_add _

/-- The result block after a second half. -/
theorem second (h0 : ¬t.val % 2 = 0) (h1 : t.val % 2 = 1) (i : Fin 1024) (j : Fin 512) :
    ((outsAt0 m c t.val t.isLt).1 : S1024x512.Idx → EReal) (ix2 i j) = grad (x0 m c) (x1 m c) i (tile (t.val / 2) (lt_p t) j) := by
  have hlt : t.val - 1 < cfg0.N := lt_of_le_of_lt (Nat.sub_le _ _) t.isLt
  have hf := first m c ⟨t.val - 1, hlt⟩ (show (t.val - 1) % 2 = 0 by omega) (show ¬(t.val - 1) % 2 = 1 by omega) i j
  rw [outsAt0_B m c t h0 h1]
  dsimp only
  frame_out
  refine (prod m c t 1 h1 _ i j).trans ?_
  rw [read_unread_whole]
  refine Eq.trans (congrArg (· + _) hf) (Eq.trans ?_ (halves _ _ _ _))
  refine congrArg (fun q => half (x0 m c) (x1 m c) 0 i q + _) (Fin.ext ?_)
  show (t.val - 1) / 2 * 512 + j.val = t.val / 2 * 512 + j.val
  omega

/-- The result array. -/
theorem final : (dats m 0 c).arrAt 2 cfg0.N = fun i => grad (x0 m c) (x1 m c) (i 0) (i 1) := by
  refine (dats m 0 c).arrAt_eq_of_covers 2 _ (by decide +kernel) fun t hf y => ?_
  have h1 : t.val % 2 = 1 := (flush0_2 t).mp hf
  blk_simp
  rw [after0_2]
  have e : ((View.whole main_v0).slice (win0_2.rect t)).emb y = ix2 (y 0) (tile (t.val / 2) (lt_p t) (y 1)) := by
    blk_ext [idx_val t]
    rfl
  refine Eq.trans ?_ (congrArg (fun i : S1024x1024.Idx => grad (x0 m c) (x1 m c) (i 0) (i 1)) e).symm
  obtain ⟨i, j, rfl⟩ : ∃ (i : Fin 1024) (j : Fin 512), y = ix2 i j := ⟨y 0, y 1, by idx_vars y⟩
  exact second m c t (by omega) h1 i j

open Cert.Reference6Ideal.Read in
/-- The reference's result. -/
theorem ref (a : S8192x1024.Idx → EReal) (b : S8192x1024.Idx → EReal) :
    val_main_v6 (F := Ideal) a b = fun i => grad a b (i 0) (i 1) := by
  funext i
  show val_main_v5 (F := Ideal) a b i = _
  rw [val_main_v5_apply, val_main_v4_apply]
  refine Finset.sum_congr rfl fun r _ => ?_
  refine (mul_comm _ _).trans (congrArg₂ (fun k l => a k * b l) ?_ ?_)
  · exact funext fun k => match k with
      | ⟨0, _⟩ => rfl
      | ⟨1, _⟩ => rfl
  · exact funext fun k => match k with
      | ⟨0, _⟩ => rfl
      | ⟨1, _⟩ => rfl

/-- The frame of the reference. -/
theorem frame_ref : Cert.quiescent_Reference6Ideal := fun m ρ _ =>
  θ_run_mono (Cert.Reference6Ideal.Value.run m ρ) fun r h => ⟨fun c => (h c).2, sem_eq_zero_of_no_sems (by decide) r.2⟩

/-- The kernel's result is the reference's. -/
theorem value : Cert.algebraic_Kernel6Ideal_Reference6Ideal := by
  intro m g m' g' hpre hagree
  refine ⟨fun c => fun i => grad (x0 m c) (x1 m c) (i 0) (i 1),
    θ_run_mono (Cert.Kernel6Ideal.Value.run_blocks m g) fun r h c => ⟨(h c).1.trans (final m c), (h c).2⟩,
    θ_run_mono (Cert.Reference6Ideal.Value.run m' g') fun r h c => ?_⟩
  obtain ⟨h0, h1⟩ := hagree c
  refine ⟨(h c).1.trans ((Cert.Reference6Ideal.Read.val_main_v6_eq _ _).trans ?_), (h c).2⟩
  rw [h0, h1]
  exact ref _ _

end Cert.WeightConv

end
-- ==== Proof.WeightQ.lean ====
/- The gradient of the weight of the attention's queries: what the kernel's accumulator and its result hold. -/
module

public import proofs.«01_k».proof.Proof.WeightSum
public import proofs.«01_k».proof.Proof.Gen.Kernel5Ideal.Value
public import proofs.«01_k».proof.Proof.Gen.Reference5Ideal.Read
public import proofs.«01_k».proof.Defs
public import Idealize.ShloMosaic.Lib.Claim
public import Idealize.ShloMosaic.Lib.Pipeline.ValueKit.Acc
public import Idealize.ShloMosaic.Lib.Pipeline.ValueKit.Tiles
public import Idealize.ShloMosaic.Lib.Pipeline.ValueKit.Point
public import Idealize.ShloMosaic.Lib.Pipeline.ValueKit.Geometry
public import Idealize.ShloMosaic.Lib.Pipeline.ReadBack

@[expose] public section

set_option maxRecDepth 16384

noncomputable section

namespace Cert.WeightQ

open Cert.Kernel5Ideal Cert.Kernel5Ideal.Gen Cert.WeightSum
open Idealize.ShloMosaic Idealize.ShloMosaic.TcCoe Idealize.SL.Sem
open Idealize.ShloMosaic.Pipeline (Dat)
open scoped BigOperators

/-- One step of the accumulator: what it held plus a half's product. -/
theorem step (v : Vec Ideal S1024x512 .f32) (a : Vec Ideal S4096x1024 .bf16) (b : Vec Ideal S4096x512 .bf16) (i : Fin 1024) (j : Fin 512) :
    k0_pay2 v a b (ix2 i j) = v (ix2 i j) + ∑ r : Fin 4096, a (ix2 r i) * b (ix2 r j) := by
  pointwise [k0_pay2]

theorem idx_val : ∀ t : Fin cfg0.N, win0_0.index t = ![t.val % 2, 0]
    ∧ win0_1.index t = ![t.val % 2, 0]
    ∧ win0_2.index t = ![0, 0] :=
  (by decide +kernel : ∀ t : Fin grid0.N, _)

variable (m : (ℓ : Loc nD τ sig) → Buf (Elt Ideal) ℓ) (c : Dev nD) (t : Fin cfg0.N)

/-- The arguments. -/
abbrev x0 : S8192x1024.Idx → EReal := m ((c : Thread nD τ).loc main_arg0)
abbrev x1 : S8192x512.Idx → EReal := m ((c : Thread nD τ).loc main_arg1)

theorem blk0 (k : Fin 2) (hk : t.val % 2 = k.val) (r : Fin 4096) (i : Fin 1024) : (iblk m c 0 t : S4096x1024.Idx → EReal) (ix2 r i)
    = x0 m c (ix2 (row2 k r) i) := by
  blk_point [iblk, idx_val t]
  exact congrArg (· * 4096 + r.val) hk

theorem blk1 (k : Fin 2) (hk : t.val % 2 = k.val) (r : Fin 4096) (j : Fin 512) : (iblk m c 1 t : S4096x512.Idx → EReal) (ix2 r j)
    = x1 m c (ix2 (row2 k r) j) := by
  blk_point [iblk, idx_val t]
  exact congrArg (· * 4096 + r.val) hk

/-- A half's product at a grid point. -/
theorem prod (k : Fin 2) (hk : t.val % 2 = k.val) (v : Vec Ideal S1024x512 .f32) (i : Fin 1024) (j : Fin 512) :
    k0_pay2 v (iblk m c 0 t) (iblk m c 1 t) (ix2 i j) = v (ix2 i j) + half (x0 m c) (x1 m c) k i j :=
  (step v _ _ i j).trans (congrArg (v (ix2 i j) + ·) (Finset.sum_congr rfl fun r _ =>
    congrArg₂ (· * ·) (blk0 m c t k hk r i) (blk1 m c t k hk r j)))

/-- The accumulator after a first half. -/
theorem first (h0 : t.val % 2 = 0) (h1 : ¬t.val % 2 = 1) (i : Fin 1024) (j : Fin 512) :
    ((outsAt0 m c t.val t.isLt).2 : S1024x512.Idx → EReal) (ix2 i j) = half (x0 m c) (x1 m c) 0 i j := by
  rw [outsAt0_A m c t h0 h1]
  dsimp only
  frame_out
  refine (prod m c t 0 h0 _ i j).trans ?_
  rw [show (k0_pay1 (F := Ideal)) (ix2 i j) = 0 from Ideal.ofBits_zero .f32]
  exact zero_add _

/-- The result block after a second half. -/
theorem second (h0 : ¬t.val % 2 = 0) (h1 : t.val % 2 = 1) (i : Fin 1024) (j : Fin 512) :
    ((outsAt0 m c t.val t.isLt).1 : S1024x512.Idx → EReal) (ix2 i j) = grad (x0 m c) (x1 m c) i j := by
  have hlt : t.val - 1 < cfg0.N := lt_of_le_of_lt (Nat.sub_le _ _) t.isLt
  have hf := first m c ⟨t.val - 1, hlt⟩ (show (t.val - 1) % 2 = 0 by omega) (show ¬(t.val - 1) % 2 = 1 by omega) i j
  rw [outsAt0_B m c t h0 h1]
  dsimp only
  frame_out
  refine (prod m c t 1 h1 _ i j).trans ?_
  rw [read_unread_whole]
  exact (congrArg (· + _) hf).trans (halves _ _ _ _)

/-- The result array. -/
theorem final : (dats m 0 c).arrAt 2 cfg0.N = fun i => grad (x0 m c) (x1 m c) (i 0) (i 1) := by
  refine (dats m 0 c).arrAt_eq_of_covers 2 _ (by decide +kernel) fun t hf y => ?_
  have h1 : t.val % 2 = 1 := (flush0_2 t).mp hf
  blk_simp
  rw [after0_2]
  have e : ((View.whole main_v0).slice (win0_2.rect t)).emb y = ix2 (y 0) (y 1) := by
    blk_ext [idx_val t]
  refine Eq.trans ?_ (congrArg (fun i : S1024x512.Idx => grad (x0 m c) (x1 m c) (i 0) (i 1)) e).symm
  obtain ⟨i, j, rfl⟩ : ∃ (i : Fin 1024) (j : Fin 512), y = ix2 i j := ⟨y 0, y 1, by idx_vars y⟩
  exact second m c t (by omega) h1 i j

open Cert.Reference5Ideal.Read in
/-- The reference's result. -/
theorem ref (a : S8192x1024.Idx → EReal) (b : S8192x512.Idx → EReal) :
    val_main_v6 (F := Ideal) a b = fun i => grad a b (i 0) (i 1) := by
  funext i
  show val_main_v5 (F := Ideal) a b i = _
  rw [val_main_v5_apply, val_main_v4_apply]
  refine Finset.sum_congr rfl fun r _ => ?_
  refine (mul_comm _ _).trans (congrArg₂ (fun k l => a k * b l) ?_ ?_)
  · exact funext fun k => match k with
      | ⟨0, _⟩ => rfl
      | ⟨1, _⟩ => rfl
  · exact funext fun k => match k with
      | ⟨0, _⟩ => rfl
      | ⟨1, _⟩ => rfl

/-- The frame of the reference. -/
theorem frame_ref : Cert.quiescent_Reference5Ideal := fun m ρ _ =>
  θ_run_mono (Cert.Reference5Ideal.Value.run m ρ) fun r h => ⟨fun c => (h c).2, sem_eq_zero_of_no_sems (by decide) r.2⟩

/-- The kernel's result is the reference's. -/
theorem value : Cert.algebraic_Kernel5Ideal_Reference5Ideal := by
  intro m g m' g' hpre hagree
  refine ⟨fun c => fun i => grad (x0 m c) (x1 m c) (i 0) (i 1),
    θ_run_mono (Cert.Kernel5Ideal.Value.run_blocks m g) fun r h c => ⟨(h c).1.trans (final m c), (h c).2⟩,
    θ_run_mono (Cert.Reference5Ideal.Value.run m' g') fun r h c => ?_⟩
  obtain ⟨h0, h1⟩ := hagree c
  refine ⟨(h c).1.trans ((Cert.Reference5Ideal.Read.val_main_v6_eq _ _).trans ?_), (h c).2⟩
  rw [h0, h1]
  exact ref _ _

end Cert.WeightQ

end
-- ==== Proof.WeightOut.lean ====
/- The gradient of the mixer's output weight: what the kernel's accumulator and its result hold. -/
module

public import proofs.«01_k».proof.Proof.WeightSum
public import proofs.«01_k».proof.Proof.Gen.Kernel4Ideal.Value
public import proofs.«01_k».proof.Proof.Gen.Reference4Ideal.Read
public import proofs.«01_k».proof.Defs
public import Idealize.ShloMosaic.Lib.Claim
public import Idealize.ShloMosaic.Lib.Pipeline.ValueKit.Acc
public import Idealize.ShloMosaic.Lib.Pipeline.ValueKit.Tiles
public import Idealize.ShloMosaic.Lib.Pipeline.ValueKit.Point
public import Idealize.ShloMosaic.Lib.Pipeline.ValueKit.Geometry
public import Idealize.ShloMosaic.Lib.Pipeline.ReadBack

@[expose] public section

set_option maxRecDepth 16384

noncomputable section

namespace Cert.WeightOut

open Cert.Kernel4Ideal Cert.Kernel4Ideal.Gen Cert.WeightSum
open Idealize.ShloMosaic Idealize.ShloMosaic.TcCoe Idealize.SL.Sem
open Idealize.ShloMosaic.Pipeline (Dat)
open scoped BigOperators

/-- One step of the accumulator: what it held plus a half's product. -/
theorem step (v : Vec Ideal S512x1024 .f32) (a : Vec Ideal S4096x512 .bf16) (b : Vec Ideal S4096x1024 .bf16) (i : Fin 512) (j : Fin 1024) :
    k0_pay2 v a b (ix2 i j) = v (ix2 i j) + ∑ r : Fin 4096, a (ix2 r i) * b (ix2 r j) := by
  pointwise [k0_pay2]

theorem idx_val : ∀ t : Fin cfg0.N, win0_0.index t = ![t.val % 2, t.val / 2]
    ∧ win0_1.index t = ![t.val % 2, 0]
    ∧ win0_2.index t = ![t.val / 2, 0] :=
  (by decide +kernel : ∀ t : Fin grid0.N, _)

variable (m : (ℓ : Loc nD τ sig) → Buf (Elt Ideal) ℓ) (c : Dev nD) (t : Fin cfg0.N)

theorem lt_p : t.val / 2 * 512 + 512 ≤ 1024 := by
  have := t.isLt
  have hN : cfg0.N = 4 := N_0
  omega

/-- The arguments. -/
abbrev x0 : S8192x1024.Idx → EReal := m ((c : Thread nD τ).loc main_arg0)
abbrev x1 : S8192x1024.Idx → EReal := m ((c : Thread nD τ).loc main_arg1)

theorem blk0 (k : Fin 2) (hk : t.val % 2 = k.val) (r : Fin 4096) (i : Fin 512) : (iblk m c 0 t : S4096x512.Idx → EReal) (ix2 r i)
    = x0 m c (ix2 (row2 k r) (tile (t.val / 2) (lt_p t) i)) := by
  blk_point [iblk, idx_val t]
  · exact congrArg (· * 4096 + r.val) hk
  · rfl

theorem blk1 (k : Fin 2) (hk : t.val % 2 = k.val) (r : Fin 4096) (j : Fin 1024) : (iblk m c 1 t : S4096x1024.Idx → EReal) (ix2 r j)
    = x1 m c (ix2 (row2 k r) j) := by
  blk_point [iblk, idx_val t]
  exact congrArg (· * 4096 + r.val) hk

/-- A half's product at a grid point. -/
theorem prod (k : Fin 2) (hk : t.val % 2 = k.val) (v : Vec Ideal S512x1024 .f32) (i : Fin 512) (j : Fin 1024) :
    k0_pay2 v (iblk m c 0 t) (iblk m c 1 t) (ix2 i j) = v (ix2 i j) + half (x0 m c) (x1 m c) k (tile (t.val / 2) (lt_p t) i) j :=
  (step v _ _ i j).trans (congrArg (v (ix2 i j) + ·) (Finset.sum_congr rfl fun r _ =>
    congrArg₂ (· * ·) (blk0 m c t k hk r i) (blk1 m c t k hk r j)))

/-- The accumulator after a first half. -/
theorem first (h0 : t.val % 2 = 0) (h1 : ¬t.val % 2 = 1) (i : Fin 512) (j : Fin 1024) :
    ((outsAt0 m c t.val t.isLt).2 : S512x1024.Idx → EReal) (ix2 i j) = half (x0 m c) (x1 m c) 0 (tile (t.val / 2) (lt_p t) i) j := by
  rw [outsAt0_A m c t h0 h1]
  dsimp only
  frame_out
  refine (prod m c t 0 h0 _ i j).trans ?_
  rw [show (k0_pay1 (F := Ideal)) (ix2 i j) = 0 from Ideal.ofBits_zero .f32]
  exact zero_add _

/-- The result block after a second half. -/
theorem second (h0 : ¬t.val % 2 = 0) (h1 : t.val % 2 = 1) (i : Fin 512) (j : Fin 1024) :
    ((outsAt0 m c t.val t.isLt).1 : S512x1024.Idx → EReal) (ix2 i j) = grad (x0 m c) (x1 m c) (tile (t.val / 2) (lt_p t) i) j := by
  have hlt : t.val - 1 < cfg0.N := lt_of_le_of_lt (Nat.sub_le _ _) t.isLt
  have hf := first m c ⟨t.val - 1, hlt⟩ (show (t.val - 1) % 2 = 0 by omega) (show ¬(t.val - 1) % 2 = 1 by omega) i j
  rw [outsAt0_B m c t h0 h1]
  dsimp only
  frame_out
  refine (prod m c t 1 h1 _ i j).trans ?_
  rw [read_unread_whole]
  refine Eq.trans (congrArg (· + _) hf) (Eq.trans ?_ (halves _ _ _ _))
  refine congrArg (fun q => half (x0 m c) (x1 m c) 0 q j + _) (Fin.ext ?_)
  show (t.val - 1) / 2 * 512 + i.val = t.val / 2 * 512 + i.val
  omega

/-- The result array. -/
theorem final : (dats m 0 c).arrAt 2 cfg0.N = fun i => grad (x0 m c) (x1 m c) (i 0) (i 1) := by
  refine (dats m 0 c).arrAt_eq_of_covers 2 _ (by decide +kernel) fun t hf y => ?_
  have h1 : t.val % 2 = 1 := (flush0_2 t).mp hf
  blk_simp
  rw [after0_2]
  have e : ((View.whole main_v0).slice (win0_2.rect t)).emb y = ix2 (tile (t.val / 2) (lt_p t) (y 0)) (y 1) := by
    blk_ext [idx_val t]
    rfl
  refine Eq.trans ?_ (congrArg (fun i : S1024x1024.Idx => grad (x0 m c) (x1 m c) (i 0) (i 1)) e).symm
  obtain ⟨i, j, rfl⟩ : ∃ (i : Fin 512) (j : Fin 1024), y = ix2 i j := ⟨y 0, y 1, by idx_vars y⟩
  exact second m c t (by omega) h1 i j

open Cert.Reference4Ideal.Read in
/-- The reference's result. -/
theorem ref (a : S8192x1024.Idx → EReal) (b : S8192x1024.Idx → EReal) :
    val_main_v6 (F := Ideal) a b = fun i => grad a b (i 0) (i 1) := by
  funext i
  show val_main_v5 (F := Ideal) a b i = _
  rw [val_main_v5_apply, val_main_v4_apply]
  refine Finset.sum_congr rfl fun r _ => ?_
  refine (mul_comm _ _).trans (congrArg₂ (fun k l => a k * b l) ?_ ?_)
  · exact funext fun k => match k with
      | ⟨0, _⟩ => rfl
      | ⟨1, _⟩ => rfl
  · exact funext fun k => match k with
      | ⟨0, _⟩ => rfl
      | ⟨1, _⟩ => rfl

/-- The frame of the reference. -/
theorem frame_ref : Cert.quiescent_Reference4Ideal := fun m ρ _ =>
  θ_run_mono (Cert.Reference4Ideal.Value.run m ρ) fun r h => ⟨fun c => (h c).2, sem_eq_zero_of_no_sems (by decide) r.2⟩

/-- The kernel's result is the reference's. -/
theorem value : Cert.algebraic_Kernel4Ideal_Reference4Ideal := by
  intro m g m' g' hpre hagree
  refine ⟨fun c => fun i => grad (x0 m c) (x1 m c) (i 0) (i 1),
    θ_run_mono (Cert.Kernel4Ideal.Value.run_blocks m g) fun r h c => ⟨(h c).1.trans (final m c), (h c).2⟩,
    θ_run_mono (Cert.Reference4Ideal.Value.run m' g') fun r h c => ?_⟩
  obtain ⟨h0, h1⟩ := hagree c
  refine ⟨(h c).1.trans ((Cert.Reference4Ideal.Read.val_main_v6_eq _ _).trans ?_), (h c).2⟩
  rw [h0, h1]
  exact ref _ _

end Cert.WeightOut

end
-- ==== Proof.WeightUp.lean ====
/- The gradient of the first feed-forward weight, in eight shards of columns: what the kernel's accumulator and its result hold. -/
module

public import proofs.«01_k».proof.Proof.WeightSum
public import proofs.«01_k».proof.Proof.Gen.Kernel3Ideal.Value
public import proofs.«01_k».proof.Proof.Gen.Reference3Ideal.Read
public import proofs.«01_k».proof.Defs
public import Idealize.ShloMosaic.Lib.Claim
public import Idealize.ShloMosaic.Lib.Pipeline.ValueKit.Acc
public import Idealize.ShloMosaic.Lib.Pipeline.ValueKit.Tiles
public import Idealize.ShloMosaic.Lib.Pipeline.ValueKit.Point
public import Idealize.ShloMosaic.Lib.Pipeline.ValueKit.Geometry
public import Idealize.ShloMosaic.Lib.Pipeline.ReadBack

@[expose] public section

set_option maxRecDepth 16384

noncomputable section

namespace Cert.WeightUp

open Cert.Kernel3Ideal Cert.Kernel3Ideal.Gen Cert.WeightSum
open Idealize.ShloMosaic Idealize.ShloMosaic.TcCoe Idealize.SL.Sem
open Idealize.ShloMosaic.Pipeline (Dat)
open scoped BigOperators

/-- One step of the accumulator: what it held plus a half's product. -/
theorem step (v : Vec Ideal S1024x512 .f32) (a : Vec Ideal S4096x1024 .bf16) (b : Vec Ideal S4096x512 .bf16) (i : Fin 1024) (j : Fin 512) :
    k0_pay2 v a b (ix2 i j) = v (ix2 i j) + ∑ r : Fin 4096, a (ix2 r i) * b (ix2 r j) := by
  pointwise [k0_pay2]

/-- The result block as the accumulator's. -/
theorem cast_out (v : Vec Ideal S1024x512 .f32) (i : Fin 1024) (j : Fin 512) : k0_pay3 v (ix3 0 i j) = v (ix2 i j) := by
  pointwise [k0_pay3]

theorem idx_val : ∀ t : Fin cfg0.N, win0_0.index t = ![t.val % 2, 0]
    ∧ win0_1.index t = ![t.val % 2, t.val / 2]
    ∧ win0_2.index t = ![t.val / 2, 0, 0] :=
  (by decide +kernel : ∀ t : Fin grid0.N, _)

variable (m : (ℓ : Loc nD τ sig) → Buf (Elt Ideal) ℓ) (c : Dev nD) (t : Fin cfg0.N)

theorem lt_p : t.val / 2 * 512 + 512 ≤ 4096 := by
  have := t.isLt
  have hN : cfg0.N = 16 := N_0
  omega

/-- The arguments. -/
abbrev x0 : S8192x1024.Idx → EReal := m ((c : Thread nD τ).loc main_arg0)
abbrev x1 : S8192x4096.Idx → EReal := m ((c : Thread nD τ).loc main_arg1)

theorem blk0 (k : Fin 2) (hk : t.val % 2 = k.val) (r : Fin 4096) (i : Fin 1024) : (iblk m c 0 t : S4096x1024.Idx → EReal) (ix2 r i)
    = x0 m c (ix2 (row2 k r) i) := by
  blk_point [iblk, idx_val t]
  exact congrArg (· * 4096 + r.val) hk

theorem blk1 (k : Fin 2) (hk : t.val % 2 = k.val) (r : Fin 4096) (j : Fin 512) : (iblk m c 1 t : S4096x512.Idx → EReal) (ix2 r j)
    = x1 m c (ix2 (row2 k r) (tile (t.val / 2) (lt_p t) j)) := by
  blk_point [iblk, idx_val t]
  · exact congrArg (· * 4096 + r.val) hk
  · rfl

/-- A half's product at a grid point. -/
theorem prod (k : Fin 2) (hk : t.val % 2 = k.val) (v : Vec Ideal S1024x512 .f32) (i : Fin 1024) (j : Fin 512) :
    k0_pay2 v (iblk m c 0 t) (iblk m c 1 t) (ix2 i j) = v (ix2 i j) + half (x0 m c) (x1 m c) k i (tile (t.val / 2) (lt_p t) j) :=
  (step v _ _ i j).trans (congrArg (v (ix2 i j) + ·) (Finset.sum_congr rfl fun r _ =>
    congrArg₂ (· * ·) (blk0 m c t k hk r i) (blk1 m c t k hk r j)))

/-- The accumulator after a first half. -/
theorem first (h0 : t.val % 2 = 0) (h1 : ¬t.val % 2 = 1) (i : Fin 1024) (j : Fin 512) :
    ((outsAt0 m c t.val t.isLt).2 : S1024x512.Idx → EReal) (ix2 i j) = half (x0 m c) (x1 m c) 0 i (tile (t.val / 2) (lt_p t) j) := by
  rw [outsAt0_A m c t h0 h1]
  dsimp only
  frame_out
  refine (prod m c t 0 h0 _ i j).trans ?_
  rw [show (k0_pay1 (F := Ideal)) (ix2 i j) = 0 from Ideal.ofBits_zero .f32]
  exact zero_add _

/-- The result block after a second half. -/
theorem second (h0 : ¬t.val % 2 = 0) (h1 : t.val % 2 = 1) (i : Fin 1024) (j : Fin 512) :
    ((outsAt0 m c t.val t.isLt).1 : S1x1024x512.Idx → EReal) (ix3 0 i j) = grad (x0 m c) (x1 m c) i (tile (t.val / 2) (lt_p t) j) := by
  have hlt : t.val - 1 < cfg0.N := lt_of_le_of_lt (Nat.sub_le _ _) t.isLt
  have hf := first m c ⟨t.val - 1, hlt⟩ (show (t.val - 1) % 2 = 0 by omega) (show ¬(t.val - 1) % 2 = 1 by omega) i j
  rw [outsAt0_B m c t h0 h1]
  dsimp only
  frame_out
  refine (cast_out _ i j).trans ?_
  refine (prod m c t 1 h1 _ i j).trans ?_
  rw [read_unread_whole]
  refine Eq.trans (congrArg (· + _) hf) (Eq.trans ?_ (halves _ _ _ _))
  refine congrArg (fun q => half (x0 m c) (x1 m c) 0 i q + _) (Fin.ext ?_)
  show (t.val - 1) / 2 * 512 + j.val = t.val / 2 * 512 + j.val
  omega

/-- The result array. -/
theorem final : (dats m 0 c).arrAt 2 cfg0.N = fun i => grad (x0 m c) (x1 m c) (i 1) (col (i 0) (i 2)) := by
  refine (dats m 0 c).arrAt_eq_of_covers 2 _ (by decide +kernel) fun t hf y => ?_
  have h1 : t.val % 2 = 1 := (flush0_2 t).mp hf
  blk_simp
  rw [after0_2]
  have ht : t.val / 2 < 8 := by
    have := lt_p t
    omega
  have e : ((View.whole main_v0).slice (win0_2.rect t)).emb y = ix3 (n0 := 8) ⟨t.val / 2, ht⟩ (y 1) (y 2) := by
    blk_ext [idx_val t]
  refine Eq.trans ?_ (congrArg (fun i : S8x1024x512.Idx => grad (x0 m c) (x1 m c) (i 1) (col (i 0) (i 2))) e).symm
  obtain ⟨z, i, j, rfl⟩ : ∃ (z : Fin 1) (i : Fin 1024) (j : Fin 512), y = ix3 z i j := ⟨y 0, y 1, y 2, by idx_vars y⟩
  obtain rfl : z = 0 := Subsingleton.elim _ _
  exact second m c t (by omega) h1 i j

open Cert.Reference3Ideal.Read in
/-- The reference's result. -/
theorem ref (a : S8192x1024.Idx → EReal) (b : S8192x4096.Idx → EReal) :
    val_main_v8 (F := Ideal) a b = fun i => grad a b (i 1) (col (i 0) (i 2)) := by
  funext i
  rw [val_main_v8_apply, val_main_v7_apply]
  show val_main_v5 (F := Ideal) a b _ = _
  rw [val_main_v5_apply, val_main_v4_apply]
  have h0 : (i 0).val < 8 := (i 0).isLt
  have h1 : (i 1).val < 1024 := (i 1).isLt
  have h2 : (i 2).val < 512 := (i 2).isLt
  refine Finset.sum_congr rfl fun r _ => ?_
  refine (mul_comm _ _).trans (congrArg₂ (fun k l => a k * b l) ?_ ?_)
  · exact funext fun k => match k with
      | ⟨0, _⟩ => rfl
      | ⟨1, _⟩ => Fin.ext (show (((i 1).val * 8 + (i 0).val) * 512 + (i 2).val) / 4096 = (i 1).val by omega)
  · exact funext fun k => match k with
      | ⟨0, _⟩ => rfl
      | ⟨1, _⟩ => Fin.ext (show (((i 1).val * 8 + (i 0).val) * 512 + (i 2).val) % 4096 = (i 0).val * 512 + (i 2).val by omega)

/-- The frame of the reference. -/
theorem frame_ref : Cert.quiescent_Reference3Ideal := fun m ρ _ =>
  θ_run_mono (Cert.Reference3Ideal.Value.run m ρ) fun r h => ⟨fun c => (h c).2, sem_eq_zero_of_no_sems (by decide) r.2⟩

/-- The kernel's result is the reference's. -/
theorem value : Cert.algebraic_Kernel3Ideal_Reference3Ideal := by
  intro m g m' g' hpre hagree
  refine ⟨fun c => fun i => grad (x0 m c) (x1 m c) (i 1) (col (i 0) (i 2)),
    θ_run_mono (Cert.Kernel3Ideal.Value.run_blocks m g) fun r h c => ⟨(h c).1.trans (final m c), (h c).2⟩,
    θ_run_mono (Cert.Reference3Ideal.Value.run m' g') fun r h c => ?_⟩
  obtain ⟨h0, h1⟩ := hagree c
  refine ⟨(h c).1.trans ((Cert.Reference3Ideal.Read.val_main_v8_eq _ _).trans ?_), (h c).2⟩
  rw [h0, h1]
  exact ref _ _

end Cert.WeightUp

end
-- ==== Proof.WeightDown.lean ====
/- The gradient of the second feed-forward weight: what the kernel's accumulator and its result hold. -/
module

public import proofs.«01_k».proof.Proof.WeightSum
public import proofs.«01_k».proof.Proof.Gen.Kernel2Ideal.Value
public import proofs.«01_k».proof.Proof.Gen.Reference2Ideal.Read
public import proofs.«01_k».proof.Defs
public import Idealize.ShloMosaic.Lib.Claim
public import Idealize.ShloMosaic.Lib.Pipeline.ValueKit.Acc
public import Idealize.ShloMosaic.Lib.Pipeline.ValueKit.Tiles
public import Idealize.ShloMosaic.Lib.Pipeline.ValueKit.Point
public import Idealize.ShloMosaic.Lib.Pipeline.ValueKit.Geometry
public import Idealize.ShloMosaic.Lib.Pipeline.ReadBack

@[expose] public section

set_option maxRecDepth 16384

noncomputable section

namespace Cert.WeightDown

open Cert.Kernel2Ideal Cert.Kernel2Ideal.Gen Cert.WeightSum
open Idealize.ShloMosaic Idealize.ShloMosaic.TcCoe Idealize.SL.Sem
open Idealize.ShloMosaic.Pipeline (Dat)
open scoped BigOperators

/-- One step of the accumulator: what it held plus a half's product. -/
theorem step (v : Vec Ideal S512x1024 .f32) (a : Vec Ideal S4096x512 .bf16) (b : Vec Ideal S4096x1024 .bf16) (i : Fin 512) (j : Fin 1024) :
    k0_pay2 v a b (ix2 i j) = v (ix2 i j) + ∑ r : Fin 4096, a (ix2 r i) * b (ix2 r j) := by
  pointwise [k0_pay2]

theorem idx_val : ∀ t : Fin cfg0.N, win0_0.index t = ![t.val % 2, t.val / 2]
    ∧ win0_1.index t = ![t.val % 2, 0]
    ∧ win0_2.index t = ![t.val / 2, 0] :=
  (by decide +kernel : ∀ t : Fin grid0.N, _)

variable (m : (ℓ : Loc nD τ sig) → Buf (Elt Ideal) ℓ) (c : Dev nD) (t : Fin cfg0.N)

theorem lt_p : t.val / 2 * 512 + 512 ≤ 4096 := by
  have := t.isLt
  have hN : cfg0.N = 16 := N_0
  omega

/-- The arguments. -/
abbrev x0 : S8192x4096.Idx → EReal := m ((c : Thread nD τ).loc main_arg0)
abbrev x1 : S8192x1024.Idx → EReal := m ((c : Thread nD τ).loc main_arg1)

theorem blk0 (k : Fin 2) (hk : t.val % 2 = k.val) (r : Fin 4096) (i : Fin 512) : (iblk m c 0 t : S4096x512.Idx → EReal) (ix2 r i)
    = x0 m c (ix2 (row2 k r) (tile (t.val / 2) (lt_p t) i)) := by
  blk_point [iblk, idx_val t]
  · exact congrArg (· * 4096 + r.val) hk
  · rfl

theorem blk1 (k : Fin 2) (hk : t.val % 2 = k.val) (r : Fin 4096) (j : Fin 1024) : (iblk m c 1 t : S4096x1024.Idx → EReal) (ix2 r j)
    = x1 m c (ix2 (row2 k r) j) := by
  blk_point [iblk, idx_val t]
  exact congrArg (· * 4096 + r.val) hk

/-- A half's product at a grid point. -/
theorem prod (k : Fin 2) (hk : t.val % 2 = k.val) (v : Vec Ideal S512x1024 .f32) (i : Fin 512) (j : Fin 1024) :
    k0_pay2 v (iblk m c 0 t) (iblk m c 1 t) (ix2 i j) = v (ix2 i j) + half (x0 m c) (x1 m c) k (tile (t.val / 2) (lt_p t) i) j :=
  (step v _ _ i j).trans (congrArg (v (ix2 i j) + ·) (Finset.sum_congr rfl fun r _ =>
    congrArg₂ (· * ·) (blk0 m c t k hk r i) (blk1 m c t k hk r j)))

/-- The accumulator after a first half. -/
theorem first (h0 : t.val % 2 = 0) (h1 : ¬t.val % 2 = 1) (i : Fin 512) (j : Fin 1024) :
    ((outsAt0 m c t.val t.isLt).2 : S512x1024.Idx → EReal) (ix2 i j) = half (x0 m c) (x1 m c) 0 (tile (t.val / 2) (lt_p t) i) j := by
  rw [outsAt0_A m c t h0 h1]
  dsimp only
  frame_out
  refine (prod m c t 0 h0 _ i j).trans ?_
  rw [show (k0_pay1 (F := Ideal)) (ix2 i j) = 0 from Ideal.ofBits_zero .f32]
  exact zero_add _

/-- The result block after a second half. -/
theorem second (h0 : ¬t.val % 2 = 0) (h1 : t.val % 2 = 1) (i : Fin 512) (j : Fin 1024) :
    ((outsAt0 m c t.val t.isLt).1 : S512x1024.Idx → EReal) (ix2 i j) = grad (x0 m c) (x1 m c) (tile (t.val / 2) (lt_p t) i) j := by
  have hlt : t.val - 1 < cfg0.N := lt_of_le_of_lt (Nat.sub_le _ _) t.isLt
  have hf := first m c ⟨t.val - 1, hlt⟩ (show (t.val - 1) % 2 = 0 by omega) (show ¬(t.val - 1) % 2 = 1 by omega) i j
  rw [outsAt0_B m c t h0 h1]
  dsimp only
  frame_out
  refine (prod m c t 1 h1 _ i j).trans ?_
  rw [read_unread_whole]
  refine Eq.trans (congrArg (· + _) hf) (Eq.trans ?_ (halves _ _ _ _))
  refine congrArg (fun q => half (x0 m c) (x1 m c) 0 q j + _) (Fin.ext ?_)
  show (t.val - 1) / 2 * 512 + i.val = t.val / 2 * 512 + i.val
  omega

/-- The result array. -/
theorem final : (dats m 0 c).arrAt 2 cfg0.N = fun i => grad (x0 m c) (x1 m c) (i 0) (i 1) := by
  refine (dats m 0 c).arrAt_eq_of_covers 2 _ (by decide +kernel) fun t hf y => ?_
  have h1 : t.val % 2 = 1 := (flush0_2 t).mp hf
  blk_simp
  rw [after0_2]
  have e : ((View.whole main_v0).slice (win0_2.rect t)).emb y = ix2 (tile (t.val / 2) (lt_p t) (y 0)) (y 1) := by
    blk_ext [idx_val t]
    rfl
  refine Eq.trans ?_ (congrArg (fun i : S4096x1024.Idx => grad (x0 m c) (x1 m c) (i 0) (i 1)) e).symm
  obtain ⟨i, j, rfl⟩ : ∃ (i : Fin 512) (j : Fin 1024), y = ix2 i j := ⟨y 0, y 1, by idx_vars y⟩
  exact second m c t (by omega) h1 i j

open Cert.Reference2Ideal.Read in
/-- The reference's result. -/
theorem ref (a : S8192x4096.Idx → EReal) (b : S8192x1024.Idx → EReal) :
    val_main_v6 (F := Ideal) a b = fun i => grad a b (i 0) (i 1) := by
  funext i
  show val_main_v5 (F := Ideal) a b i = _
  rw [val_main_v5_apply, val_main_v4_apply]
  refine Finset.sum_congr rfl fun r _ => ?_
  refine (mul_comm _ _).trans (congrArg₂ (fun k l => a k * b l) ?_ ?_)
  · exact funext fun k => match k with
      | ⟨0, _⟩ => rfl
      | ⟨1, _⟩ => rfl
  · exact funext fun k => match k with
      | ⟨0, _⟩ => rfl
      | ⟨1, _⟩ => rfl

/-- The frame of the reference. -/
theorem frame_ref : Cert.quiescent_Reference2Ideal := fun m ρ _ =>
  θ_run_mono (Cert.Reference2Ideal.Value.run m ρ) fun r h => ⟨fun c => (h c).2, sem_eq_zero_of_no_sems (by decide) r.2⟩

/-- The kernel's result is the reference's. -/
theorem value : Cert.algebraic_Kernel2Ideal_Reference2Ideal := by
  intro m g m' g' hpre hagree
  refine ⟨fun c => fun i => grad (x0 m c) (x1 m c) (i 0) (i 1),
    θ_run_mono (Cert.Kernel2Ideal.Value.run_blocks m g) fun r h c => ⟨(h c).1.trans (final m c), (h c).2⟩,
    θ_run_mono (Cert.Reference2Ideal.Value.run m' g') fun r h c => ?_⟩
  obtain ⟨h0, h1⟩ := hagree c
  refine ⟨(h c).1.trans ((Cert.Reference2Ideal.Read.val_main_v6_eq _ _).trans ?_), (h c).2⟩
  rw [h0, h1]
  exact ref _ _

end Cert.WeightDown

end
-- ==== Proof.lean ====
/- The backward pass of the feed-forward block and of the layer normalisation before it: the run, the agreement of the
   printed program with its exact reading, and the equality of the kernel's four results with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import Idealize.ShloMosaic.Adequacy
public import Idealize.ShloMosaic.Init
public import Idealize.ShloMosaic.Lib.Claim
public import proofs.«01_k».proof.Proof.KernelFinal
public import proofs.«01_k».proof.Proof.FfFinal
public import proofs.«01_k».proof.Proof.MixFwd
public import proofs.«01_k».proof.Proof.InProjBack
public import proofs.«01_k».proof.Proof.InProj
public import proofs.«01_k».proof.Proof.WeightForget
public import proofs.«01_k».proof.Proof.WeightKV
public import proofs.«01_k».proof.Proof.WeightConv
public import proofs.«01_k».proof.Proof.WeightQ
public import proofs.«01_k».proof.Proof.WeightOut
public import proofs.«01_k».proof.Proof.WeightUp
public import proofs.«01_k».proof.Proof.WeightDown

@[expose] public section

noncomputable section

namespace Cert.Proof

open Idealize.ShloMosaic Idealize.SL.Sem Cert.Model Cert.Grad Cert.KernelFinal

/-- The frame of the reference. -/
theorem frame_ref : Cert.quiescent_ReferenceIdeal := fun m ρ _ =>
  θ_run_mono (Cert.ReferenceIdeal.Value.run m ρ) fun r h => ⟨fun c => (h c).2.2.2.2, sem_eq_zero_of_no_sems (by decide) r.2⟩

/-- The frame of the reference at finite arguments. -/
theorem frame_ref_finite : Cert.quiescent_ReferenceIdeal_pre_finite := fun m ρ _ =>
  θ_run_mono (Cert.ReferenceIdeal.Value.run m ρ) fun r h => ⟨fun c => (h c).2.2.2.2, sem_eq_zero_of_no_sems (by decide) r.2⟩

/-- The kernel's four results are the reference's, at finite arguments. -/
theorem value : Cert.algebraic_KernelIdeal_ReferenceIdeal_pre_finite := by
  intro m g m' g' hpre hagree
  refine ⟨fun c => lift (data m c).dh, fun c => lift fun r l => alpha * (data m c).dz r l,
    fun c => lift fun r l => (1 + (data m c).gt l) * (data m c).dz r l, fun c => lift (a := 8) fun j l => (data m c).st j.val l,
    θ_run_mono (θ_run_and (Cert.KernelIdeal.Gen.unchanged m g) (Cert.KernelIdeal.Gen.run_main m g)) fun r h c =>
      ⟨((h.2 c).1 10).trans (final10 (feeds c hpre)), ((h.2 c).1 11).trans (final11 (feeds c hpre)), ((h.2 c).1 12).trans (final12 (feeds c hpre)),
        ((h.2 c).1 13).trans (final13 (feeds c hpre)), h.1 c⟩,
    θ_run_mono (Cert.ReferenceIdeal.Value.run m' g') fun r h c => ?_⟩
  obtain ⟨a0, a1, a2, a3, a4, a5, a6, a7, a8, a9, a10⟩ := hagree c
  have H := feeds c hpre
  have e0 : m' ((c.tc : Thread Cert.ReferenceIdeal.nD Cert.ReferenceIdeal.τ).loc Cert.ReferenceIdeal.main_arg0) = lift (data m c).x := a0.trans H.h0
  have e1 : m' ((c.tc : Thread Cert.ReferenceIdeal.nD Cert.ReferenceIdeal.τ).loc Cert.ReferenceIdeal.main_arg1) = lift (data m c).mixed := a1.trans H.h1
  have e2 : m' ((c.tc : Thread Cert.ReferenceIdeal.nD Cert.ReferenceIdeal.τ).loc Cert.ReferenceIdeal.main_arg2) = row (data m c).gt := a2.trans H.h2
  have e3 : m' ((c.tc : Thread Cert.ReferenceIdeal.nD Cert.ReferenceIdeal.τ).loc Cert.ReferenceIdeal.main_arg3) = row (data m c).g := a3.trans H.h3
  have e4 : m' ((c.tc : Thread Cert.ReferenceIdeal.nD Cert.ReferenceIdeal.τ).loc Cert.ReferenceIdeal.main_arg4) = row (data m c).b := a4.trans H.h4
  have e5 : m' ((c.tc : Thread Cert.ReferenceIdeal.nD Cert.ReferenceIdeal.τ).loc Cert.ReferenceIdeal.main_arg5) = row (data m c).sc := a5.trans H.h5
  have e6 : m' ((c.tc : Thread Cert.ReferenceIdeal.nD Cert.ReferenceIdeal.τ).loc Cert.ReferenceIdeal.main_arg6) = row (data m c).sh := a6.trans H.h6
  have e7 : m' ((c.tc : Thread Cert.ReferenceIdeal.nD Cert.ReferenceIdeal.τ).loc Cert.ReferenceIdeal.main_arg7) = lift (data m c).w1 := a7.trans H.h7
  have e8 : m' ((c.tc : Thread Cert.ReferenceIdeal.nD Cert.ReferenceIdeal.τ).loc Cert.ReferenceIdeal.main_arg8) = lift (data m c).w2 := a8.trans H.h8
  have e9 : m' ((c.tc : Thread Cert.ReferenceIdeal.nD Cert.ReferenceIdeal.τ).loc Cert.ReferenceIdeal.main_arg9) = lift (data m c).dx1 := a9.trans H.h9
  have e10 : m' ((c.tc : Thread Cert.ReferenceIdeal.nD Cert.ReferenceIdeal.τ).loc Cert.ReferenceIdeal.main_arg10) = lift (data m c).dff := a10.trans H.h10
  have t0 : Cert.ReferenceIdeal.Read.val_main_v103 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg10)) = lift (data m c).dh := by
    rw [e0, e1, e2, e3, e4, e5, e6, e7, e8, e10]
    exact Cert.RefValue.out0 _
  have t1 : Cert.ReferenceIdeal.Read.val_main_v102 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) = lift fun r l => alpha * (data m c).dz r l := by
    rw [e0, e1, e2, e3, e4, e5, e6, e7, e8, e9, e10]
    exact Cert.RefValue.out1 _
  have t2 : Cert.ReferenceIdeal.Read.val_main_v104 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) = lift fun r l => (1 + (data m c).gt l) * (data m c).dz r l := by
    rw [e0, e1, e2, e3, e4, e5, e6, e7, e8, e9, e10]
    exact Cert.RefValue.out2 _
  have t3 : Cert.ReferenceIdeal.Read.val_main_v106 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) = lift (a := 8) fun j l => (data m c).st j.val l := by
    rw [e0, e1, e2, e3, e4, e5, e6, e7, e8, e9, e10]
    exact Cert.RefValue.out3 _
  obtain ⟨h0, h1, h2, h3, hu⟩ := h c
  exact ⟨h0.trans ((Cert.ReferenceIdeal.Read.val_main_v103_eq _).trans t0), h1.trans ((Cert.ReferenceIdeal.Read.val_main_v102_eq _).trans t1),
    h2.trans ((Cert.ReferenceIdeal.Read.val_main_v104_eq _).trans t2), h3.trans ((Cert.ReferenceIdeal.Read.val_main_v106_eq _).trans t3), hu⟩

/-- Every claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Pre_finite.Gen.facts, Cert.FfFinal.facts,
  fun m ρ _ => Cert.Kernel.Gen.frame m ρ, fun m ρ _ => Cert.KernelIdeal.Gen.frame m ρ, fun m ρ _ => Cert.KernelIdeal.Gen.frame m ρ,
  frame_ref, frame_ref_finite,
  fun m ρ _ => Cert.Kernel2.Gen.frame m ρ, fun m ρ _ => Cert.Kernel2Ideal.Gen.frame m ρ, Cert.WeightDown.frame_ref,
  fun m ρ _ => Cert.Kernel3.Gen.frame m ρ, fun m ρ _ => Cert.Kernel3Ideal.Gen.frame m ρ, Cert.WeightUp.frame_ref,
  fun m ρ _ => Cert.Kernel4.Gen.frame m ρ, fun m ρ _ => Cert.Kernel4Ideal.Gen.frame m ρ, Cert.WeightOut.frame_ref,
  fun m ρ _ => Cert.Kernel5.Gen.frame m ρ, fun m ρ _ => Cert.Kernel5Ideal.Gen.frame m ρ, Cert.WeightQ.frame_ref,
  fun m ρ _ => Cert.Kernel6.Gen.frame m ρ, fun m ρ _ => Cert.Kernel6Ideal.Gen.frame m ρ, Cert.WeightConv.frame_ref,
  fun m ρ _ => Cert.Kernel7.Gen.frame m ρ, fun m ρ _ => Cert.Kernel7Ideal.Gen.frame m ρ, Cert.WeightKV.frame_ref,
  fun m ρ _ => Cert.Kernel8.Gen.frame m ρ, fun m ρ _ => Cert.Kernel8Ideal.Gen.frame m ρ, Cert.WeightForget.frame_ref,
  fun m ρ _ => Cert.Kernel9.Gen.frame m ρ, fun m ρ _ => Cert.Kernel9Ideal.Gen.frame m ρ, fun m ρ _ => Cert.Kernel9Ideal.Gen.frame m ρ,
  Cert.FfFinal.frame_ref, Cert.FfFinal.frame_ref_finite,
  fun m ρ _ => Cert.Kernel10.Gen.frame m ρ, fun m ρ _ => Cert.Kernel10Ideal.Gen.frame m ρ, Cert.InProj.frame_ref,
  fun m ρ _ => Cert.Kernel11.Gen.frame m ρ, fun m ρ _ => Cert.Kernel11Ideal.Gen.frame m ρ, Cert.InProjBack.frame_ref,
  fun m ρ _ => Cert.Kernel12.Gen.frame m ρ, fun m ρ _ => Cert.Kernel12Ideal.Gen.frame m ρ, Cert.MixFwd.frame_ref,
  trivial, value,
  trivial, Cert.WeightDown.value,
  trivial, Cert.WeightUp.value,
  trivial, Cert.WeightOut.value,
  trivial, Cert.WeightQ.value,
  trivial, Cert.WeightConv.value,
  trivial, Cert.WeightKV.value,
  trivial, Cert.WeightForget.value,
  trivial, Cert.FfFinal.value,
  trivial, Cert.InProj.value,
  trivial, Cert.InProjBack.value,
  trivial, Cert.MixFwd.value⟩

end Cert.Proof

end
